-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x16384 : Shape := ⟨3, ![2, 2048, 16384]⟩
abbrev S2x2048x512 : Shape := ⟨3, ![2, 2048, 512]⟩
abbrev S2x2048x1024 : Shape := ⟨3, ![2, 2048, 1024]⟩
abbrev S2x2048x32 : Shape := ⟨3, ![2, 2048, 32]⟩
abbrev S16384x1024 : Shape := ⟨2, ![16384, 1024]⟩
abbrev S1024 : Shape := ⟨1, ![1024]⟩
abbrev S16384x16 : Shape := ⟨2, ![16384, 16]⟩
abbrev S16x1024 : Shape := ⟨2, ![16, 1024]⟩
abbrev S_ : Shape := ⟨0, ![]⟩

class Facts : Prop where
  natLt_8_32 : 8 < 32
  bcast_S_S2x2048x16384 : S_.BroadcastsInDim S2x2048x16384 (![] : Fin 0 → Fin S2x2048x16384.rank)
  bcast_S_S2x2048x512 : S_.BroadcastsInDim S2x2048x512 (![] : Fin 0 → Fin S2x2048x512.rank)
  bcast_S_S2x2048x1024 : S_.BroadcastsInDim S2x2048x1024 (![] : Fin 0 → Fin S2x2048x1024.rank)
  bcast_S_S2x2048x32 : S_.BroadcastsInDim S2x2048x32 (![] : Fin 0 → Fin S2x2048x32.rank)
  bcast_S_S16384x16 : S_.BroadcastsInDim S16384x16 (![] : Fin 0 → Fin S16384x16.rank)
  bcast_S_S16x1024 : S_.BroadcastsInDim S16x1024 (![] : Fin 0 → Fin S16x1024.rank)

variable [Facts]

def fn_part1 {F : FTy → Type} [FloatOps F] (main_arg7 : FVec F S16x1024 .bf16) (main_v4 : IVec S2x2048x16384 1) (main_v7 : IVec S2x2048x512 1) (main_v12 : IVec S2x2048x1024 1) (main_v15 : IVec S2x2048x32 1) (main_v16 : FVec F S16384x16 .bf16) (main_cst_4 : FVec F S_ .bf16) : IVec S2x2048x16384 1 × IVec S2x2048x512 1 × IVec S2x2048x1024 1 × IVec S2x2048x32 1 × IVec S16384x16 1 × IVec S16x1024 1 :=
  let main_v17 : FVec F S16384x16 .bf16 := broadcastInDim S16384x16 ![] bcast_S_S16384x16 main_cst_4
  let main_v18 : IVec S16384x16 1 := cmpf .olt main_v16 main_v17
  let main_v19 : FVec F S16x1024 .bf16 := Host.absf main_arg7
  let main_cst_5 : FVec F S_ .bf16 := constant S_ .bf16 0x7F80#16
  let main_v20 : FVec F S16x1024 .bf16 := broadcastInDim S16x1024 ![] bcast_S_S16x1024 main_cst_5
  let main_v21 : IVec S16x1024 1 := cmpf .olt main_v19 main_v20
  (main_v4, main_v7, main_v12, main_v15, main_v18, main_v21)

def fn {F : FTy → Type} [FloatOps F] (main_arg0 : IVec S2x2048x16384 8) (main_arg1 : FVec F S2x2048x512 .f32) (main_arg2 : IVec S2x2048x1024 8) (main_arg3 : FVec F S2x2048x32 .f32) (main_arg4 : FVec F S16384x1024 .fp8e4m3) (main_arg5 : FVec F S1024 .f32) (main_arg6 : FVec F S16384x16 .bf16) (main_arg7 : FVec F S16x1024 .bf16) : IVec S2x2048x16384 1 × IVec S2x2048x512 1 × IVec S2x2048x1024 1 × IVec S2x2048x32 1 × IVec S16384x16 1 × IVec S16x1024 1 :=
  let main_v0 : IVec S2x2048x16384 32 := (extsi 32 · natLt_8_32) main_arg0
  let main_c : IVec S_ 32 := constantI S_ 32 127#32
  let main_v1 : IVec S2x2048x16384 32 := broadcastInDim S2x2048x16384 ![] bcast_S_S2x2048x16384 main_c
  let main_v2 : IVec S2x2048x16384 32 := andi main_v0 main_v1
  let main_c_0 : IVec S_ 32 := constantI S_ 32 127#32
  let main_v3 : IVec S2x2048x16384 32 := broadcastInDim S2x2048x16384 ![] bcast_S_S2x2048x16384 main_c_0
  let main_v4 : IVec S2x2048x16384 1 := cmpi .slt main_v2 main_v3
  let main_v5 : FVec F S2x2048x512 .f32 := Host.absf main_arg1
  let main_cst : FVec F S_ .f32 := constant S_ .f32 0x7F800000#32
  let main_v6 : FVec F S2x2048x512 .f32 := broadcastInDim S2x2048x512 ![] bcast_S_S2x2048x512 main_cst
  let main_v7 : IVec S2x2048x512 1 := cmpf .olt main_v5 main_v6
  let main_v8 : IVec S2x2048x1024 32 := (extsi 32 · natLt_8_32) main_arg2
  let main_c_1 : IVec S_ 32 := constantI S_ 32 127#32
  let main_v9 : IVec S2x2048x1024 32 := broadcastInDim S2x2048x1024 ![] bcast_S_S2x2048x1024 main_c_1
  let main_v10 : IVec S2x2048x1024 32 := andi main_v8 main_v9
  let main_c_2 : IVec S_ 32 := constantI S_ 32 124#32
  let main_v11 : IVec S2x2048x1024 32 := broadcastInDim S2x2048x1024 ![] bcast_S_S2x2048x1024 main_c_2
  let main_v12 : IVec S2x2048x1024 1 := cmpi .slt main_v10 main_v11
  let main_v13 : FVec F S2x2048x32 .f32 := Host.absf main_arg3
  let main_cst_3 : FVec F S_ .f32 := constant S_ .f32 0x7F800000#32
  let main_v14 : FVec F S2x2048x32 .f32 := broadcastInDim S2x2048x32 ![] bcast_S_S2x2048x32 main_cst_3
  let main_v15 : IVec S2x2048x32 1 := cmpf .olt main_v13 main_v14
  let main_v16 : FVec F S16384x16 .bf16 := Host.absf main_arg6
  let main_cst_4 : FVec F S_ .bf16 := constant S_ .bf16 0x7F80#16
  fn_part1 (F := F) main_arg7 main_v4 main_v7 main_v12 main_v15 main_v16 main_cst_4
-- ==== Kernel.lean ====
abbrev S2x2048x16384 : Shape := ⟨3, ![2, 2048, 16384]⟩
abbrev S2x2048x512 : Shape := ⟨3, ![2, 2048, 512]⟩
abbrev S2x2048x1024 : Shape := ⟨3, ![2, 2048, 1024]⟩
abbrev S2x2048x32 : Shape := ⟨3, ![2, 2048, 32]⟩
abbrev S16384x1024 : Shape := ⟨2, ![16384, 1024]⟩
abbrev S1024 : Shape := ⟨1, ![1024]⟩
abbrev S16384x16 : Shape := ⟨2, ![16384, 16]⟩
abbrev S16x1024 : Shape := ⟨2, ![16, 1024]⟩
abbrev S4096x16384 : Shape := ⟨2, ![4096, 16384]⟩
abbrev S4096x512 : Shape := ⟨2, ![4096, 512]⟩
abbrev S4096x1024 : Shape := ⟨2, ![4096, 1024]⟩
abbrev S4096x32 : Shape := ⟨2, ![4096, 32]⟩
abbrev S1x1024 : Shape := ⟨2, ![1, 1024]⟩
abbrev S16x16384 : Shape := ⟨2, ![16, 16384]⟩
abbrev S16x4096 : Shape := ⟨2, ![16, 4096]⟩
abbrev S4096x128 : Shape := ⟨2, ![4096, 128]⟩
abbrev S512x1024 : Shape := ⟨2, ![512, 1024]⟩
abbrev S16x512 : Shape := ⟨2, ![16, 512]⟩
abbrev S4096x1152 : Shape := ⟨2, ![4096, 1152]⟩
abbrev S48x4096 : Shape := ⟨2, ![48, 4096]⟩
abbrev S512x128 : Shape := ⟨2, ![512, 128]⟩
abbrev S512x32 : Shape := ⟨2, ![512, 32]⟩
abbrev S512x128x1 : Shape := ⟨3, ![512, 128, 1]⟩
abbrev S512x16 : Shape := ⟨2, ![512, 16]⟩
abbrev S48x512 : Shape := ⟨2, ![48, 512]⟩
abbrev S512x48 : Shape := ⟨2, ![512, 48]⟩
abbrev S80x512 : Shape := ⟨2, ![80, 512]⟩
abbrev S128x512 : Shape := ⟨2, ![128, 512]⟩
abbrev S512x512 : Shape := ⟨2, ![512, 512]⟩
abbrev S48x1024 : Shape := ⟨2, ![48, 1024]⟩
abbrev S4096x16 : Shape := ⟨2, ![4096, 16]⟩
abbrev S2x2048x16 : Shape := ⟨3, ![2, 2048, 16]⟩

abbrev nBuf : Space → Nat
  | .hbm => 27
  | .vmem => 22
  | .smem => 0
  | _ => 0

abbrev bufTy : (tb : Table) → Fin (tcTables nBuf tb) → BufTy
  | .hbm, ⟨0, _⟩ => ⟨S2x2048x16384, .i8⟩
  | .hbm, ⟨1, _⟩ => ⟨S2x2048x512, .f32⟩
  | .hbm, ⟨2, _⟩ => ⟨S2x2048x1024, .i8⟩
  | .hbm, ⟨3, _⟩ => ⟨S2x2048x32, .f32⟩
  | .hbm, ⟨4, _⟩ => ⟨S16384x1024, .fp8e4m3⟩
  | .hbm, ⟨5, _⟩ => ⟨S1024, .f32⟩
  | .hbm, ⟨6, _⟩ => ⟨S16384x16, .bf16⟩
  | .hbm, ⟨7, _⟩ => ⟨S16x1024, .bf16⟩
  | .hbm, ⟨8, _⟩ => ⟨S2x2048x16384, .fp8e4m3⟩
  | .hbm, ⟨9, _⟩ => ⟨S2x2048x1024, .fp8e5m2⟩
  | .hbm, ⟨10, _⟩ => ⟨S4096x16384, .fp8e4m3⟩
  | .hbm, ⟨11, _⟩ => ⟨S4096x512, .f32⟩
  | .hbm, ⟨12, _⟩ => ⟨S4096x1024, .fp8e5m2⟩
  | .hbm, ⟨13, _⟩ => ⟨S4096x32, .f32⟩
  | .hbm, ⟨14, _⟩ => ⟨S1x1024, .f32⟩
  | .hbm, ⟨15, _⟩ => ⟨S16x16384, .bf16⟩
  | .hbm, ⟨16, _⟩ => ⟨S4096x16384, .bf16⟩
  | .hbm, ⟨17, _⟩ => ⟨S16x16384, .f32⟩
  | .hbm, ⟨18, _⟩ => ⟨S16x1024, .f32⟩
  | .hbm, ⟨19, _⟩ => ⟨S16x4096, .f32⟩
  | .hbm, ⟨20, _⟩ => ⟨S16x4096, .f32⟩
  | .hbm, ⟨21, _⟩ => ⟨S2x2048x16384, .bf16⟩
  | .hbm, ⟨22, _⟩ => ⟨S16384x16, .f32⟩
  | .hbm, ⟨23, _⟩ => ⟨S4096x16, .f32⟩
  | .hbm, ⟨24, _⟩ => ⟨S2x2048x16, .f32⟩
  | .hbm, ⟨25, _⟩ => ⟨S4096x16, .f32⟩
  | .hbm, ⟨26, _⟩ => ⟨S2x2048x16, .f32⟩
  | .local _ .vmem, ⟨0, _⟩ => ⟨S4096x512, .fp8e4m3⟩
  | .local _ .vmem, ⟨1, _⟩ => ⟨S4096x512, .fp8e4m3⟩
  | .local _ .vmem, ⟨2, _⟩ => ⟨S4096x128, .f32⟩
  | .local _ .vmem, ⟨3, _⟩ => ⟨S4096x128, .f32⟩
  | .local _ .vmem, ⟨4, _⟩ => ⟨S4096x1024, .fp8e5m2⟩
  | .local _ .vmem, ⟨5, _⟩ => ⟨S4096x32, .f32⟩
  | .local _ .vmem, ⟨6, _⟩ => ⟨S512x1024, .fp8e4m3⟩
  | .local _ .vmem, ⟨7, _⟩ => ⟨S512x1024, .fp8e4m3⟩
  | .local _ .vmem, ⟨8, _⟩ => ⟨S1x1024, .f32⟩
  | .local _ .vmem, ⟨9, _⟩ => ⟨S16x512, .bf16⟩
  | .local _ .vmem, ⟨10, _⟩ => ⟨S16x512, .bf16⟩
  | .local _ .vmem, ⟨11, _⟩ => ⟨S16x1024, .bf16⟩
  | .local _ .vmem, ⟨12, _⟩ => ⟨S4096x512, .bf16⟩
  | .local _ .vmem, ⟨13, _⟩ => ⟨S4096x512, .bf16⟩
  | .local _ .vmem, ⟨14, _⟩ => ⟨S16x512, .f32⟩
  | .local _ .vmem, ⟨15, _⟩ => ⟨S16x512, .f32⟩
  | .local _ .vmem, ⟨16, _⟩ => ⟨S16x1024, .f32⟩
  | .local _ .vmem, ⟨17, _⟩ => ⟨S16x4096, .f32⟩
  | .local _ .vmem, ⟨18, _⟩ => ⟨S16x4096, .f32⟩
  | .local _ .vmem, ⟨19, _⟩ => ⟨S4096x1152, .bf16⟩
  | .local _ .vmem, ⟨20, _⟩ => ⟨S48x4096, .bf16⟩
  | .local _ .vmem, ⟨21, _⟩ => ⟨S512x128, .f32⟩
  | _, _ => ⟨S2x2048x16384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v1449 : BitVec 1 := Scalar.cmpi .eq arg0 c31_i32
  let v1450 : BitVec 32 := Scalar.extui v1449
  let c0_i32_494 : BitVec 32 := 0#32
  let v1451 : BitVec 1 := Scalar.cmpi .ne v1450 c0_i32_494
  v1451

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c128_i32 : BitVec 32 := 128#32
  let v1 : BitVec 32 := Scalar.divsi v0 c128_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S2x2048x16384 : Shape := ⟨3, ![2, 2048, 16384]⟩
abbrev S2x2048x512 : Shape := ⟨3, ![2, 2048, 512]⟩
abbrev S2x2048x1024 : Shape := ⟨3, ![2, 2048, 1024]⟩
abbrev S2x2048x32 : Shape := ⟨3, ![2, 2048, 32]⟩
abbrev S16384x1024 : Shape := ⟨2, ![16384, 1024]⟩
abbrev S1024 : Shape := ⟨1, ![1024]⟩
abbrev S16384x16 : Shape := ⟨2, ![16384, 16]⟩
abbrev S16x1024 : Shape := ⟨2, ![16, 1024]⟩
abbrev S2x2048x32x32 : Shape := ⟨4, ![2, 2048, 32, 32]⟩
abbrev S2x2048x32x1 : Shape := ⟨4, ![2, 2048, 32, 1]⟩
abbrev S2x2048x512x32 : Shape := ⟨4, ![2, 2048, 512, 32]⟩
abbrev S2x2048x512x1 : Shape := ⟨4, ![2, 2048, 512, 1]⟩
abbrev S2x2048x16 : Shape := ⟨3, ![2, 2048, 16]⟩
abbrev S1x1024 : Shape := ⟨2, ![1, 1024]⟩
abbrev S_ : Shape := ⟨0, ![]⟩

abbrev nBuf : Space → Nat
  | .hbm => 59
  | .vmem => 6
  | .smem => 0
  | _ => 0

abbrev bufTy : (tb : Table) → Fin (tcTables nBuf tb) → BufTy
  | .hbm, ⟨0, _⟩ => ⟨S2x2048x16384, .i8⟩
  | .hbm, ⟨1, _⟩ => ⟨S2x2048x512, .f32⟩
  | .hbm, ⟨2, _⟩ => ⟨S2x2048x1024, .i8⟩
  | .hbm, ⟨3, _⟩ => ⟨S2x2048x32, .f32⟩
  | .hbm, ⟨4, _⟩ => ⟨S16384x1024, .fp8e4m3⟩
  | .hbm, ⟨5, _⟩ => ⟨S1024, .f32⟩
  | .hbm, ⟨6, _⟩ => ⟨S16384x16, .bf16⟩
  | .hbm, ⟨7, _⟩ => ⟨S16x1024, .bf16⟩
  | .hbm, ⟨8, _⟩ => ⟨S2x2048x16384, .fp8e4m3⟩
  | .hbm, ⟨9, _⟩ => ⟨S2x2048x1024, .fp8e5m2⟩
  | .hbm, ⟨10, _⟩ => ⟨S2x2048x16384, .bf16⟩
  | .hbm, ⟨11, _⟩ => ⟨S2x2048x1024, .bf16⟩
  | .hbm, ⟨12, _⟩ => ⟨S16384x1024, .bf16⟩
  | .hbm, ⟨13, _⟩ => ⟨S2x2048x32x32, .bf16⟩
  | .hbm, ⟨14, _⟩ => ⟨S2x2048x32, .bf16⟩
  | .hbm, ⟨15, _⟩ => ⟨S2x2048x32x1, .bf16⟩
  | .hbm, ⟨16, _⟩ => ⟨S2x2048x32x32, .bf16⟩
  | .hbm, ⟨17, _⟩ => ⟨S2x2048x32x32, .bf16⟩
  | .hbm, ⟨18, _⟩ => ⟨S2x2048x1024, .bf16⟩
  | .hbm, ⟨19, _⟩ => ⟨S2x2048x512x32, .bf16⟩
  | .hbm, ⟨20, _⟩ => ⟨S2x2048x512, .bf16⟩
  | .hbm, ⟨21, _⟩ => ⟨S2x2048x512x1, .bf16⟩
  | .hbm, ⟨22, _⟩ => ⟨S2x2048x512x32, .bf16⟩
  | .hbm, ⟨23, _⟩ => ⟨S2x2048x512x32, .bf16⟩
  | .hbm, ⟨24, _⟩ => ⟨S2x2048x16384, .bf16⟩
  | .hbm, ⟨25, _⟩ => ⟨S2x2048x16, .f32⟩
  | .hbm, ⟨26, _⟩ => ⟨S2x2048x16, .f32⟩
  | .hbm, ⟨27, _⟩ => ⟨S1024, .bf16⟩
  | .hbm, ⟨28, _⟩ => ⟨S1x1024, .bf16⟩
  | .hbm, ⟨29, _⟩ => ⟨S16384x1024, .bf16⟩
  | .hbm, ⟨30, _⟩ => ⟨S16384x1024, .bf16⟩
  | .hbm, ⟨31, _⟩ => ⟨S2x2048x16384, .f32⟩
  | .hbm, ⟨32, _⟩ => ⟨S16384x16, .f32⟩
  | .hbm, ⟨33, _⟩ => ⟨S2x2048x16384, .f32⟩
  | .hbm, ⟨34, _⟩ => ⟨S_, .f32⟩
  | .hbm, ⟨35, _⟩ => ⟨S2x2048x16384, .f32⟩
  | .hbm, ⟨36, _⟩ => ⟨S2x2048x16384, .f32⟩
  | .hbm, ⟨37, _⟩ => ⟨S2x2048x16384, .f32⟩
  | .hbm, ⟨38, _⟩ => ⟨S2x2048x16384, .bf16⟩
  | .hbm, ⟨39, _⟩ => ⟨S2x2048x16384, .f32⟩
  | .hbm, ⟨40, _⟩ => ⟨S2x2048x512x32, .f32⟩
  | .hbm, ⟨41, _⟩ => ⟨S2x2048x512x1, .f32⟩
  | .hbm, ⟨42, _⟩ => ⟨S2x2048x512x32, .f32⟩
  | .hbm, ⟨43, _⟩ => ⟨S2x2048x512x32, .f32⟩
  | .hbm, ⟨44, _⟩ => ⟨S2x2048x16384, .f32⟩
  | .hbm, ⟨45, _⟩ => ⟨S2x2048x1024, .f32⟩
  | .hbm, ⟨46, _⟩ => ⟨S2x2048x32x32, .f32⟩
  | .hbm, ⟨47, _⟩ => ⟨S2x2048x32x1, .f32⟩
  | .hbm, ⟨48, _⟩ => ⟨S2x2048x32x32, .f32⟩
  | .hbm, ⟨49, _⟩ => ⟨S2x2048x32x32, .f32⟩
  | .hbm, ⟨50, _⟩ => ⟨S2x2048x1024, .f32⟩
  | .hbm, ⟨51, _⟩ => ⟨S16384x16, .f32⟩
  | .hbm, ⟨52, _⟩ => ⟨S_, .f32⟩
  | .hbm, ⟨53, _⟩ => ⟨S16384x16, .f32⟩
  | .hbm, ⟨54, _⟩ => ⟨S16384x16, .f32⟩
  | .hbm, ⟨55, _⟩ => ⟨S16x1024, .f32⟩
  | .hbm, ⟨56, _⟩ => ⟨S_, .f32⟩
  | .hbm, ⟨57, _⟩ => ⟨S16x1024, .f32⟩
  | .hbm, ⟨58, _⟩ => ⟨S16x1024, .f32⟩
  | .local _ .vmem, ⟨0, _⟩ => ⟨S2x2048x16384, .fp8e4m3⟩
  | .local _ .vmem, ⟨1, _⟩ => ⟨S2x2048x1024, .fp8e5m2⟩
  | .local _ .vmem, ⟨2, _⟩ => ⟨S16384x1024, .fp8e4m3⟩
  | .local _ .vmem, ⟨3, _⟩ => ⟨S2x2048x16384, .bf16⟩
  | .local _ .vmem, ⟨4, _⟩ => ⟨S2x2048x1024, .bf16⟩
  | .local _ .vmem, ⟨5, _⟩ => ⟨S16384x1024, .bf16⟩
  | _, _ => ⟨S2x2048x16384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_0 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_v44 : Ref sig .tc := ⟨.hbm, 57, rfl⟩
abbrev main_v45 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x2048x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x1024 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Canon.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid axis position of lane `j` counted in scale blocks, `j / 32`. -/
def laneDiv : IVec S512x128 32 := k0_pay469 (iota .tc S512x128 32 [1] iota_S512x128_d1_w32)

/-- The scales of 128 columns, one per block of 32 of them from block `off` on, rounded to bf16. -/
def gatherCol (off : BitVec 32) (scale : FVec F S512x128 .f32) : FVec F S512x128 .bf16 :=
  truncf .bf16 (dynamicGather 1 scale (shapeCast S512x128 (shapeCast S512x128x1
    (select (cmpi .slt (addi laneDiv (broadcast S512x128 off)) (broadcast S512x128 0#32))
      (addi (addi laneDiv (broadcast S512x128 off)) (broadcast S512x128 128#32)) (addi laneDiv (broadcast S512x128 off)))
    shapeCasts_S512x128_S512x128x1) shapeCasts_S512x128x1_S512x128)) bitsLt_bf16_f32

/-- One chunk of `x` widened: its codes times the scales from block `w` on. -/
def widenX (w : BitVec 32) (codes : Vec F S512x512 .fp8e4m3) (scale : Vec F S512x128 .f32) : FVec F S512x512 .bf16 :=
  concatenate S512x512 1 [
    ⟨S512x128, mulf (extf .bf16 (extractStridedSlice S512x128 ![0, 0] (k0_pay458 codes) slices_S512x512_o0_0_S512x128) bitsLt_fp8e4m3_bf16) (gatherCol (Scalar.addi w 0#32) (k0_pay459 scale))⟩,
    ⟨S512x128, mulf (extf .bf16 (extractStridedSlice S512x128 ![0, 128] (k0_pay458 codes) slices_S512x512_o0_128_S512x128) bitsLt_fp8e4m3_bf16) (gatherCol (Scalar.addi w 4#32) (k0_pay459 scale))⟩,
    ⟨S512x128, mulf (extf .bf16 (extractStridedSlice S512x128 ![0, 256] (k0_pay458 codes) slices_S512x512_o0_256_S512x128) bitsLt_fp8e4m3_bf16) (gatherCol (Scalar.addi w 8#32) (k0_pay459 scale))⟩,
    ⟨S512x128, mulf (extf .bf16 (extractStridedSlice S512x128 ![0, 384] (k0_pay458 codes) slices_S512x512_o0_384_S512x128) bitsLt_fp8e4m3_bf16) (gatherCol (Scalar.addi w 12#32) (k0_pay459 scale))⟩]
    concatenates_S512x128_S512x128_S512x128_S512x128_S512x512_d1

/-- A chunk's product with the transposed `lora_a`, added to the partial sum. -/
def xatStep (w : BitVec 32) (codes : Vec F S512x512 .fp8e4m3) (scale : Vec F S512x128 .f32) (at_ : Vec F S16x512 .bf16) (old : Vec F S16x512 .f32) : FVec F S16x512 .f32 :=
  addf (shapeCast S16x512 old shapeCasts_S16x512_S16x512)
    (matmul dot_S16x512_S512x512_S16x512_1_1_0_0_n_n none (k0_pay454 at_) (widenX w codes scale) (constant S16x512 .f32 0x00000000#32))

/-- A chunk's contribution to the split `lora_a` gradient, added to the running sum. -/
def datAcc (w : BitVec 32) (acc : FVec F S48x512 .f32) (codes : Vec F S512x512 .fp8e4m3) (scale : Vec F S512x128 .f32) (t3 : Vec F S48x512 .bf16) : FVec F S48x512 .f32 :=
  addf acc (matmul dot_S48x512_S512x512_S48x512_1_0_0_1_n_n none t3 (widenX w codes scale) (constant S48x512 .f32 0x00000000#32))

/-- The three parts of the split gradient, summed. -/
def datSum (v : FVec F S48x512 .f32) : FVec F S16x512 .f32 :=
  addf (addf (extractStridedSlice S16x512 ![0, 0] v slices_S48x512_o0_0_S16x512) (extractStridedSlice S16x512 ![16, 0] v slices_S48x512_o16_0_S16x512))
    (extractStridedSlice S16x512 ![32, 0] v slices_S48x512_o32_0_S16x512)

/-- The pieces the body stores into its tile of the input gradient. -/
def dxPieces (x4 : Vec F S512x1024 .fp8e4m3) (x6 : Vec F S16x512 .bf16) (y14 : Vec F S4096x1152 .bf16) : List (View.Piece (Elt F) S4096x512 .bf16) :=
  [⟨Rect.unit (s := S4096x512) ![3584, 0] S512x512.size inb_S4096x512_S512x512_3584_0, k0_pay457 (View.ld x6 (Rect.unit (s := S16x512) ![0, 0] S16x512.size inb_S16x512_S16x512_0_0)) (View.ld y14 (Rect.unit (s := S4096x1152) ![3584, 0] S512x1024.size inb_S4096x1152_S512x1024_3584_0)) (View.ld x4 (Rect.unit (s := S512x1024) ![0, 0] S512x1024.size inb_S512x1024_S512x1024_0_0)) (View.ld y14 (Rect.unit (s := S4096x1152) ![3584, 1024] S512x128.size inb_S4096x1152_S512x128_3584_1024))⟩,
   ⟨Rect.unit (s := S4096x512) ![3072, 0] S512x512.size inb_S4096x512_S512x512_3072_0, k0_pay457 (View.ld x6 (Rect.unit (s := S16x512) ![0, 0] S16x512.size inb_S16x512_S16x512_0_0)) (View.ld y14 (Rect.unit (s := S4096x1152) ![3072, 0] S512x1024.size inb_S4096x1152_S512x1024_3072_0)) (View.ld x4 (Rect.unit (s := S512x1024) ![0, 0] S512x1024.size inb_S512x1024_S512x1024_0_0)) (View.ld y14 (Rect.unit (s := S4096x1152) ![3072, 1024] S512x128.size inb_S4096x1152_S512x128_3072_1024))⟩,
   ⟨Rect.unit (s := S4096x512) ![2560, 0] S512x512.size inb_S4096x512_S512x512_2560_0, k0_pay457 (View.ld x6 (Rect.unit (s := S16x512) ![0, 0] S16x512.size inb_S16x512_S16x512_0_0)) (View.ld y14 (Rect.unit (s := S4096x1152) ![2560, 0] S512x1024.size inb_S4096x1152_S512x1024_2560_0)) (View.ld x4 (Rect.unit (s := S512x1024) ![0, 0] S512x1024.size inb_S512x1024_S512x1024_0_0)) (View.ld y14 (Rect.unit (s := S4096x1152) ![2560, 1024] S512x128.size inb_S4096x1152_S512x128_2560_1024))⟩,
   ⟨Rect.unit (s := S4096x512) ![2048, 0] S512x512.size inb_S4096x512_S512x512_2048_0, k0_pay457 (View.ld x6 (Rect.unit (s := S16x512) ![0, 0] S16x512.size inb_S16x512_S16x512_0_0)) (View.ld y14 (Rect.unit (s := S4096x1152) ![2048, 0] S512x1024.size inb_S4096x1152_S512x1024_2048_0)) (View.ld x4 (Rect.unit (s := S512x1024) ![0, 0] S512x1024.size inb_S512x1024_S512x1024_0_0)) (View.ld y14 (Rect.unit (s := S4096x1152) ![2048, 1024] S512x128.size inb_S4096x1152_S512x128_2048_1024))⟩,
   ⟨Rect.unit (s := S4096x512) ![1536, 0] S512x512.size inb_S4096x512_S512x512_1536_0, k0_pay457 (View.ld x6 (Rect.unit (s := S16x512) ![0, 0] S16x512.size inb_S16x512_S16x512_0_0)) (View.ld y14 (Rect.unit (s := S4096x1152) ![1536, 0] S512x1024.size inb_S4096x1152_S512x1024_1536_0)) (View.ld x4 (Rect.unit (s := S512x1024) ![0, 0] S512x1024.size inb_S512x1024_S512x1024_0_0)) (View.ld y14 (Rect.unit (s := S4096x1152) ![1536, 1024] S512x128.size inb_S4096x1152_S512x128_1536_1024))⟩,
   ⟨Rect.unit (s := S4096x512) ![1024, 0] S512x512.size inb_S4096x512_S512x512_1024_0, k0_pay457 (View.ld x6 (Rect.unit (s := S16x512) ![0, 0] S16x512.size inb_S16x512_S16x512_0_0)) (View.ld y14 (Rect.unit (s := S4096x1152) ![1024, 0] S512x1024.size inb_S4096x1152_S512x1024_1024_0)) (View.ld x4 (Rect.unit (s := S512x1024) ![0, 0] S512x1024.size inb_S512x1024_S512x1024_0_0)) (View.ld y14 (Rect.unit (s := S4096x1152) ![1024, 1024] S512x128.size inb_S4096x1152_S512x128_1024_1024))⟩,
   ⟨Rect.unit (s := S4096x512) ![512, 0] S512x512.size inb_S4096x512_S512x512_512_0, k0_pay457 (View.ld x6 (Rect.unit (s := S16x512) ![0, 0] S16x512.size inb_S16x512_S16x512_0_0)) (View.ld y14 (Rect.unit (s := S4096x1152) ![512, 0] S512x1024.size inb_S4096x1152_S512x1024_512_0)) (View.ld x4 (Rect.unit (s := S512x1024) ![0, 0] S512x1024.size inb_S512x1024_S512x1024_0_0)) (View.ld y14 (Rect.unit (s := S4096x1152) ![512, 1024] S512x128.size inb_S4096x1152_S512x128_512_1024))⟩,
   ⟨Rect.unit (s := S4096x512) ![0, 0] S512x512.size inb_S4096x512_S512x512_0_0, k0_pay457 (View.ld x6 (Rect.unit (s := S16x512) ![0, 0] S16x512.size inb_S16x512_S16x512_0_0)) (View.ld y14 (Rect.unit (s := S4096x1152) ![0, 0] S512x1024.size inb_S4096x1152_S512x1024_0_0)) (View.ld x4 (Rect.unit (s := S512x1024) ![0, 0] S512x1024.size inb_S512x1024_S512x1024_0_0)) (View.ld y14 (Rect.unit (s := S4096x1152) ![0, 1024] S512x128.size inb_S4096x1152_S512x128_0_1024))⟩]

/-- The pieces the body stores into the partial sums of `x · lora_a`. -/
def xatPieces (w : BitVec 32) (x0 : Vec F S4096x512 .fp8e4m3) (x1 : Vec F S4096x128 .f32) (x6 : Vec F S16x512 .bf16) (y13 : Vec F S16x4096 .f32) : List (View.Piece (Elt F) S16x4096 .f32) :=
  [⟨Rect.unit (s := S16x4096) ![0, 3584] S16x512.size inb_S16x4096_S16x512_0_3584, xatStep w (View.ld x0 (Rect.unit (s := S4096x512) ![3584, 0] S512x512.size inb_S4096x512_S512x512_3584_0)) (View.ld x1 (Rect.unit (s := S4096x128) ![3584, 0] S512x128.size inb_S4096x128_S512x128_3584_0)) (View.ld x6 (Rect.unit (s := S16x512) ![0, 0] S16x512.size inb_S16x512_S16x512_0_0)) (View.ld y13 (Rect.unit (s := S16x4096) ![0, 3584] S16x512.size inb_S16x4096_S16x512_0_3584))⟩,
   ⟨Rect.unit (s := S16x4096) ![0, 3072] S16x512.size inb_S16x4096_S16x512_0_3072, xatStep w (View.ld x0 (Rect.unit (s := S4096x512) ![3072, 0] S512x512.size inb_S4096x512_S512x512_3072_0)) (View.ld x1 (Rect.unit (s := S4096x128) ![3072, 0] S512x128.size inb_S4096x128_S512x128_3072_0)) (View.ld x6 (Rect.unit (s := S16x512) ![0, 0] S16x512.size inb_S16x512_S16x512_0_0)) (View.ld y13 (Rect.unit (s := S16x4096) ![0, 3072] S16x512.size inb_S16x4096_S16x512_0_3072))⟩,
   ⟨Rect.unit (s := S16x4096) ![0, 2560] S16x512.size inb_S16x4096_S16x512_0_2560, xatStep w (View.ld x0 (Rect.unit (s := S4096x512) ![2560, 0] S512x512.size inb_S4096x512_S512x512_2560_0)) (View.ld x1 (Rect.unit (s := S4096x128) ![2560, 0] S512x128.size inb_S4096x128_S512x128_2560_0)) (View.ld x6 (Rect.unit (s := S16x512) ![0, 0] S16x512.size inb_S16x512_S16x512_0_0)) (View.ld y13 (Rect.unit (s := S16x4096) ![0, 2560] S16x512.size inb_S16x4096_S16x512_0_2560))⟩,
   ⟨Rect.unit (s := S16x4096) ![0, 2048] S16x512.size inb_S16x4096_S16x512_0_2048, xatStep w (View.ld x0 (Rect.unit (s := S4096x512) ![2048, 0] S512x512.size inb_S4096x512_S512x512_2048_0)) (View.ld x1 (Rect.unit (s := S4096x128) ![2048, 0] S512x128.size inb_S4096x128_S512x128_2048_0)) (View.ld x6 (Rect.unit (s := S16x512) ![0, 0] S16x512.size inb_S16x512_S16x512_0_0)) (View.ld y13 (Rect.unit (s := S16x4096) ![0, 2048] S16x512.size inb_S16x4096_S16x512_0_2048))⟩,
   ⟨Rect.unit (s := S16x4096) ![0, 1536] S16x512.size inb_S16x4096_S16x512_0_1536, xatStep w (View.ld x0 (Rect.unit (s := S4096x512) ![1536, 0] S512x512.size inb_S4096x512_S512x512_1536_0)) (View.ld x1 (Rect.unit (s := S4096x128) ![1536, 0] S512x128.size inb_S4096x128_S512x128_1536_0)) (View.ld x6 (Rect.unit (s := S16x512) ![0, 0] S16x512.size inb_S16x512_S16x512_0_0)) (View.ld y13 (Rect.unit (s := S16x4096) ![0, 1536] S16x512.size inb_S16x4096_S16x512_0_1536))⟩,
   ⟨Rect.unit (s := S16x4096) ![0, 1024] S16x512.size inb_S16x4096_S16x512_0_1024, xatStep w (View.ld x0 (Rect.unit (s := S4096x512) ![1024, 0] S512x512.size inb_S4096x512_S512x512_1024_0)) (View.ld x1 (Rect.unit (s := S4096x128) ![1024, 0] S512x128.size inb_S4096x128_S512x128_1024_0)) (View.ld x6 (Rect.unit (s := S16x512) ![0, 0] S16x512.size inb_S16x512_S16x512_0_0)) (View.ld y13 (Rect.unit (s := S16x4096) ![0, 1024] S16x512.size inb_S16x4096_S16x512_0_1024))⟩,
   ⟨Rect.unit (s := S16x4096) ![0, 512] S16x512.size inb_S16x4096_S16x512_0_512, xatStep w (View.ld x0 (Rect.unit (s := S4096x512) ![512, 0] S512x512.size inb_S4096x512_S512x512_512_0)) (View.ld x1 (Rect.unit (s := S4096x128) ![512, 0] S512x128.size inb_S4096x128_S512x128_512_0)) (View.ld x6 (Rect.unit (s := S16x512) ![0, 0] S16x512.size inb_S16x512_S16x512_0_0)) (View.ld y13 (Rect.unit (s := S16x4096) ![0, 512] S16x512.size inb_S16x4096_S16x512_0_512))⟩,
   ⟨Rect.unit (s := S16x4096) ![0, 0] S16x512.size inb_S16x4096_S16x512_0_0, xatStep w (View.ld x0 (Rect.unit (s := S4096x512) ![0, 0] S512x512.size inb_S4096x512_S512x512_0_0)) (View.ld x1 (Rect.unit (s := S4096x128) ![0, 0] S512x128.size inb_S4096x128_S512x128_0_0)) (View.ld x6 (Rect.unit (s := S16x512) ![0, 0] S16x512.size inb_S16x512_S16x512_0_0)) (View.ld y13 (Rect.unit (s := S16x4096) ![0, 0] S16x512.size inb_S16x4096_S16x512_0_0))⟩]

/-- The tile of the `lora_a` gradient the body stores. -/
def datOut (w : BitVec 32) (x0 : Vec F S4096x512 .fp8e4m3) (x1 : Vec F S4096x128 .f32) (y15 : Vec F S48x4096 .bf16) : FVec F S16x512 .f32 :=
  let a1 := datAcc w (k0_pay456 (F := F)) (View.ld x0 (Rect.unit (s := S4096x512) ![0, 0] S512x512.size inb_S4096x512_S512x512_0_0)) (View.ld x1 (Rect.unit (s := S4096x128) ![0, 0] S512x128.size inb_S4096x128_S512x128_0_0)) (View.ld y15 (Rect.unit (s := S48x4096) ![0, 0] S48x512.size inb_S48x4096_S48x512_0_0))
  let a2 := datAcc w a1 (View.ld x0 (Rect.unit (s := S4096x512) ![512, 0] S512x512.size inb_S4096x512_S512x512_512_0)) (View.ld x1 (Rect.unit (s := S4096x128) ![512, 0] S512x128.size inb_S4096x128_S512x128_512_0)) (View.ld y15 (Rect.unit (s := S48x4096) ![0, 512] S48x512.size inb_S48x4096_S48x512_0_512))
  let a3 := datAcc w a2 (View.ld x0 (Rect.unit (s := S4096x512) ![1024, 0] S512x512.size inb_S4096x512_S512x512_1024_0)) (View.ld x1 (Rect.unit (s := S4096x128) ![1024, 0] S512x128.size inb_S4096x128_S512x128_1024_0)) (View.ld y15 (Rect.unit (s := S48x4096) ![0, 1024] S48x512.size inb_S48x4096_S48x512_0_1024))
  let a4 := datAcc w a3 (View.ld x0 (Rect.unit (s := S4096x512) ![1536, 0] S512x512.size inb_S4096x512_S512x512_1536_0)) (View.ld x1 (Rect.unit (s := S4096x128) ![1536, 0] S512x128.size inb_S4096x128_S512x128_1536_0)) (View.ld y15 (Rect.unit (s := S48x4096) ![0, 1536] S48x512.size inb_S48x4096_S48x512_0_1536))
  let a5 := datAcc w a4 (View.ld x0 (Rect.unit (s := S4096x512) ![2048, 0] S512x512.size inb_S4096x512_S512x512_2048_0)) (View.ld x1 (Rect.unit (s := S4096x128) ![2048, 0] S512x128.size inb_S4096x128_S512x128_2048_0)) (View.ld y15 (Rect.unit (s := S48x4096) ![0, 2048] S48x512.size inb_S48x4096_S48x512_0_2048))
  let a6 := datAcc w a5 (View.ld x0 (Rect.unit (s := S4096x512) ![2560, 0] S512x512.size inb_S4096x512_S512x512_2560_0)) (View.ld x1 (Rect.unit (s := S4096x128) ![2560, 0] S512x128.size inb_S4096x128_S512x128_2560_0)) (View.ld y15 (Rect.unit (s := S48x4096) ![0, 2560] S48x512.size inb_S48x4096_S48x512_0_2560))
  let a7 := datAcc w a6 (View.ld x0 (Rect.unit (s := S4096x512) ![3072, 0] S512x512.size inb_S4096x512_S512x512_3072_0)) (View.ld x1 (Rect.unit (s := S4096x128) ![3072, 0] S512x128.size inb_S4096x128_S512x128_3072_0)) (View.ld y15 (Rect.unit (s := S48x4096) ![0, 3072] S48x512.size inb_S48x4096_S48x512_0_3072))
  let a8 := datAcc w a7 (View.ld x0 (Rect.unit (s := S4096x512) ![3584, 0] S512x512.size inb_S4096x512_S512x512_3584_0)) (View.ld x1 (Rect.unit (s := S4096x128) ![3584, 0] S512x128.size inb_S4096x128_S512x128_3584_0)) (View.ld y15 (Rect.unit (s := S48x4096) ![0, 3584] S48x512.size inb_S48x4096_S48x512_0_3584))
  datSum a8

/-- The scales of a chunk of the upstream gradient, padded with zeros to 128 columns. -/
def padY (dys : Vec F S512x32 .f32) : Vec F S512x128 .f32 :=
  View.canon [⟨Rect.unit (s := S512x128) ![0, 0] S512x32.size inb_S512x128_S512x32_0_0, k0_pay4 dys⟩, ⟨Rect.unit (s := S512x128) ![0, 0] S512x128.size inb_S512x128_S512x128_0_0, k0_pay3⟩]

/-- One chunk of the upstream gradient widened: its codes times their padded scales. -/
def widenY (codes : Vec F S512x1024 .fp8e5m2) (pad : Vec F S512x128 .f32) : FVec F S512x1024 .bf16 :=
  concatenate S512x1024 1 [
    ⟨S512x128, mulf (extf .bf16 (extractStridedSlice S512x128 ![0, 0] (k0_pay5 codes) slices_S512x1024_o0_0_S512x128) bitsLt_fp8e5m2_bf16) (gatherCol 0#32 pad)⟩,
    ⟨S512x128, mulf (extf .bf16 (extractStridedSlice S512x128 ![0, 128] (k0_pay5 codes) slices_S512x1024_o0_128_S512x128) bitsLt_fp8e5m2_bf16) (gatherCol 4#32 pad)⟩,
    ⟨S512x128, mulf (extf .bf16 (extractStridedSlice S512x128 ![0, 256] (k0_pay5 codes) slices_S512x1024_o0_256_S512x128) bitsLt_fp8e5m2_bf16) (gatherCol 8#32 pad)⟩,
    ⟨S512x128, mulf (extf .bf16 (extractStridedSlice S512x128 ![0, 384] (k0_pay5 codes) slices_S512x1024_o0_384_S512x128) bitsLt_fp8e5m2_bf16) (gatherCol 12#32 pad)⟩,
    ⟨S512x128, mulf (extf .bf16 (extractStridedSlice S512x128 ![0, 512] (k0_pay5 codes) slices_S512x1024_o0_512_S512x128) bitsLt_fp8e5m2_bf16) (gatherCol 16#32 pad)⟩,
    ⟨S512x128, mulf (extf .bf16 (extractStridedSlice S512x128 ![0, 640] (k0_pay5 codes) slices_S512x1024_o0_640_S512x128) bitsLt_fp8e5m2_bf16) (gatherCol 20#32 pad)⟩,
    ⟨S512x128, mulf (extf .bf16 (extractStridedSlice S512x128 ![0, 768] (k0_pay5 codes) slices_S512x1024_o0_768_S512x128) bitsLt_fp8e5m2_bf16) (gatherCol 24#32 pad)⟩,
    ⟨S512x128, mulf (extf .bf16 (extractStridedSlice S512x128 ![0, 896] (k0_pay5 codes) slices_S512x1024_o0_896_S512x128) bitsLt_fp8e5m2_bf16) (gatherCol 28#32 pad)⟩]
    concatenates_S512x128_S512x128_S512x128_S512x128_S512x128_S512x128_S512x128_S512x128_S512x1024_d1

/-- A chunk of the widened gradient with the column scales of the base weight folded in. -/
def lhsMain (ws : Vec F S1x1024 .f32) (yb : FVec F S512x1024 .bf16) : FVec F S512x1024 .bf16 :=
  k0_pay26 (mulf yb (broadcastTo S512x1024 (k0_pay2 ws) broadcasts_S1x1024_S512x1024))

/-- The padded scales of chunk `c` of the upstream gradient. -/
def pads (x3 : Vec F S4096x32 .f32) : ℕ → Vec F S512x128 .f32
  | 0 => padY (View.ld x3 (Rect.unit (s := S4096x32) ![0, 0] S512x32.size inb_S4096x32_S512x32_0_0))
  | 1 => padY (View.ld x3 (Rect.unit (s := S4096x32) ![512, 0] S512x32.size inb_S4096x32_S512x32_512_0))
  | 2 => padY (View.ld x3 (Rect.unit (s := S4096x32) ![1024, 0] S512x32.size inb_S4096x32_S512x32_1024_0))
  | 3 => padY (View.ld x3 (Rect.unit (s := S4096x32) ![1536, 0] S512x32.size inb_S4096x32_S512x32_1536_0))
  | 4 => padY (View.ld x3 (Rect.unit (s := S4096x32) ![2048, 0] S512x32.size inb_S4096x32_S512x32_2048_0))
  | 5 => padY (View.ld x3 (Rect.unit (s := S4096x32) ![2560, 0] S512x32.size inb_S4096x32_S512x32_2560_0))
  | 6 => padY (View.ld x3 (Rect.unit (s := S4096x32) ![3072, 0] S512x32.size inb_S4096x32_S512x32_3072_0))
  | _ => padY (View.ld x3 (Rect.unit (s := S4096x32) ![3584, 0] S512x32.size inb_S4096x32_S512x32_3584_0))

/-- A list without the first of every three of its entries. -/
def dropThird {α : Type} : List α → List α
  | _ :: b :: c :: l => b :: c :: dropThird l
  | _ => []

/-- Its entries are entries of the list. -/
theorem mem_of_dropThird {α : Type} : ∀ (l : List α) {p : α}, p ∈ dropThird l → p ∈ l
  | a :: b :: c :: l, p, h => by
      simp only [dropThird, List.mem_cons] at h
      rcases h with h | h | h
      · simp [h]
      · simp [h]
      · simp [mem_of_dropThird l h]
  | [], _, h => by simp [dropThird] at h
  | [_], _, h => by simp [dropThird] at h
  | [_, _], _, h => by simp [dropThird] at h

/-- Pieces cover when those left after `dropThird` tile. -/
theorem cover_of_dropThird {S : Shape} {e : EltTy} (L : List (View.Piece (Elt F) S e)) (g : Fin S.rank → ℕ)
    (h : View.Piece.tiledBy (dropThird L) g = true) : ∀ y : S.Idx, ∃ p ∈ L, y ∈ p.1.set := fun y => by
  obtain ⟨p, hp, hy⟩ := View.cover_of_tiledBy (dropThird L) g h y
  exact ⟨p, mem_of_dropThird L hp, hy⟩

/-- A load of a whole buffer whose last store but one was a whole one reads the last two stores. -/
theorem readCov_two {S : Shape} {e : EltTy} {κ : Kind} {sp : Space} (v : View sig κ sp S e) {off : Fin S.rank → ℕ} (h : off = fun _ => 0)
    (inb : ∀ a, off a + S.size a ≤ S.size a) (r : Rect S) (w : r.shape.Idx → Elt F e) (z : S.Idx → Elt F e) (rest : List (View.Piece (Elt F) S e)) :
    v.readCov (⟨r, w⟩ :: ⟨Rect.unit off S.size inb, z⟩ :: rest) (Rect.unit off S.size inb).toLoadRect
      = View.canon (Val := Elt F) [⟨r, w⟩, ⟨Rect.unit off S.size inb, z⟩] := by
  refine (View.readCov_eq_canon' v _ _).trans ((View.ld_unit_zero h inb _).trans ?_)
  rw [View.canon_cons, View.canon_cons_unit_zero h, View.canon_cons ⟨r, w⟩, View.canon_cons_unit_zero h]

/-- What a load of the padded scales reads after its two stores, whatever was stored before them. -/
theorem readPad {κ : Kind} {sp : Space} (v : View sig κ sp S512x128 .f32) (d : Vec F S512x32 .f32) (rest : List (View.Piece (Elt F) S512x128 .f32)) :
    v.readCov (⟨Rect.unit (s := S512x128) ![0, 0] S512x32.size inb_S512x128_S512x32_0_0, k0_pay4 d⟩ :: ⟨Rect.unit (s := S512x128) ![0, 0] S512x128.size inb_S512x128_S512x128_0_0, k0_pay3⟩ :: rest)
      (Rect.unit (s := S512x128) ![0, 0] S512x128.size inb_S512x128_S512x128_0_0).toLoadRect = padY d :=
  readCov_two v (by funext a; fin_cases a <;> rfl) inb_S512x128_S512x128_0_0 _ _ _ rest

/-- The pieces the first grid point stores into the left operand of the input-gradient product. -/
def lhsPieces (x2 : Vec F S4096x1024 .fp8e5m2) (P : ℕ → Vec F S512x128 .f32) (x5 : Vec F S1x1024 .f32) (x7 : Vec F S16x1024 .bf16) : List (View.Piece (Elt F) S4096x1152 .bf16) :=
  [⟨Rect.unit (s := S4096x1152) ![3584, 1024] S512x48.size inb_S4096x1152_S512x48_3584_1024, k0_pay30 (widenY (View.ld x2 (Rect.unit (s := S4096x1024) ![3584, 0] S512x1024.size inb_S4096x1024_S512x1024_3584_0)) (P 7)) (View.ld x7 (Rect.unit (s := S16x1024) ![0, 0] S16x1024.size inb_S16x1024_S16x1024_0_0))⟩,
   ⟨Rect.unit (s := S4096x1152) ![3584, 1024] S512x128.size inb_S4096x1152_S512x128_3584_1024, k0_pay29⟩,
   ⟨Rect.unit (s := S4096x1152) ![3584, 0] S512x1024.size inb_S4096x1152_S512x1024_3584_0, lhsMain (View.ld x5 (Rect.unit (s := S1x1024) ![0, 0] S1x1024.size inb_S1x1024_S1x1024_0_0)) (widenY (View.ld x2 (Rect.unit (s := S4096x1024) ![3584, 0] S512x1024.size inb_S4096x1024_S512x1024_3584_0)) (P 7))⟩,
   ⟨Rect.unit (s := S4096x1152) ![3072, 1024] S512x48.size inb_S4096x1152_S512x48_3072_1024, k0_pay30 (widenY (View.ld x2 (Rect.unit (s := S4096x1024) ![3072, 0] S512x1024.size inb_S4096x1024_S512x1024_3072_0)) (P 6)) (View.ld x7 (Rect.unit (s := S16x1024) ![0, 0] S16x1024.size inb_S16x1024_S16x1024_0_0))⟩,
   ⟨Rect.unit (s := S4096x1152) ![3072, 1024] S512x128.size inb_S4096x1152_S512x128_3072_1024, k0_pay29⟩,
   ⟨Rect.unit (s := S4096x1152) ![3072, 0] S512x1024.size inb_S4096x1152_S512x1024_3072_0, lhsMain (View.ld x5 (Rect.unit (s := S1x1024) ![0, 0] S1x1024.size inb_S1x1024_S1x1024_0_0)) (widenY (View.ld x2 (Rect.unit (s := S4096x1024) ![3072, 0] S512x1024.size inb_S4096x1024_S512x1024_3072_0)) (P 6))⟩,
   ⟨Rect.unit (s := S4096x1152) ![2560, 1024] S512x48.size inb_S4096x1152_S512x48_2560_1024, k0_pay30 (widenY (View.ld x2 (Rect.unit (s := S4096x1024) ![2560, 0] S512x1024.size inb_S4096x1024_S512x1024_2560_0)) (P 5)) (View.ld x7 (Rect.unit (s := S16x1024) ![0, 0] S16x1024.size inb_S16x1024_S16x1024_0_0))⟩,
   ⟨Rect.unit (s := S4096x1152) ![2560, 1024] S512x128.size inb_S4096x1152_S512x128_2560_1024, k0_pay29⟩,
   ⟨Rect.unit (s := S4096x1152) ![2560, 0] S512x1024.size inb_S4096x1152_S512x1024_2560_0, lhsMain (View.ld x5 (Rect.unit (s := S1x1024) ![0, 0] S1x1024.size inb_S1x1024_S1x1024_0_0)) (widenY (View.ld x2 (Rect.unit (s := S4096x1024) ![2560, 0] S512x1024.size inb_S4096x1024_S512x1024_2560_0)) (P 5))⟩,
   ⟨Rect.unit (s := S4096x1152) ![2048, 1024] S512x48.size inb_S4096x1152_S512x48_2048_1024, k0_pay30 (widenY (View.ld x2 (Rect.unit (s := S4096x1024) ![2048, 0] S512x1024.size inb_S4096x1024_S512x1024_2048_0)) (P 4)) (View.ld x7 (Rect.unit (s := S16x1024) ![0, 0] S16x1024.size inb_S16x1024_S16x1024_0_0))⟩,
   ⟨Rect.unit (s := S4096x1152) ![2048, 1024] S512x128.size inb_S4096x1152_S512x128_2048_1024, k0_pay29⟩,
   ⟨Rect.unit (s := S4096x1152) ![2048, 0] S512x1024.size inb_S4096x1152_S512x1024_2048_0, lhsMain (View.ld x5 (Rect.unit (s := S1x1024) ![0, 0] S1x1024.size inb_S1x1024_S1x1024_0_0)) (widenY (View.ld x2 (Rect.unit (s := S4096x1024) ![2048, 0] S512x1024.size inb_S4096x1024_S512x1024_2048_0)) (P 4))⟩,
   ⟨Rect.unit (s := S4096x1152) ![1536, 1024] S512x48.size inb_S4096x1152_S512x48_1536_1024, k0_pay30 (widenY (View.ld x2 (Rect.unit (s := S4096x1024) ![1536, 0] S512x1024.size inb_S4096x1024_S512x1024_1536_0)) (P 3)) (View.ld x7 (Rect.unit (s := S16x1024) ![0, 0] S16x1024.size inb_S16x1024_S16x1024_0_0))⟩,
   ⟨Rect.unit (s := S4096x1152) ![1536, 1024] S512x128.size inb_S4096x1152_S512x128_1536_1024, k0_pay29⟩,
   ⟨Rect.unit (s := S4096x1152) ![1536, 0] S512x1024.size inb_S4096x1152_S512x1024_1536_0, lhsMain (View.ld x5 (Rect.unit (s := S1x1024) ![0, 0] S1x1024.size inb_S1x1024_S1x1024_0_0)) (widenY (View.ld x2 (Rect.unit (s := S4096x1024) ![1536, 0] S512x1024.size inb_S4096x1024_S512x1024_1536_0)) (P 3))⟩,
   ⟨Rect.unit (s := S4096x1152) ![1024, 1024] S512x48.size inb_S4096x1152_S512x48_1024_1024, k0_pay30 (widenY (View.ld x2 (Rect.unit (s := S4096x1024) ![1024, 0] S512x1024.size inb_S4096x1024_S512x1024_1024_0)) (P 2)) (View.ld x7 (Rect.unit (s := S16x1024) ![0, 0] S16x1024.size inb_S16x1024_S16x1024_0_0))⟩,
   ⟨Rect.unit (s := S4096x1152) ![1024, 1024] S512x128.size inb_S4096x1152_S512x128_1024_1024, k0_pay29⟩,
   ⟨Rect.unit (s := S4096x1152) ![1024, 0] S512x1024.size inb_S4096x1152_S512x1024_1024_0, lhsMain (View.ld x5 (Rect.unit (s := S1x1024) ![0, 0] S1x1024.size inb_S1x1024_S1x1024_0_0)) (widenY (View.ld x2 (Rect.unit (s := S4096x1024) ![1024, 0] S512x1024.size inb_S4096x1024_S512x1024_1024_0)) (P 2))⟩,
   ⟨Rect.unit (s := S4096x1152) ![512, 1024] S512x48.size inb_S4096x1152_S512x48_512_1024, k0_pay30 (widenY (View.ld x2 (Rect.unit (s := S4096x1024) ![512, 0] S512x1024.size inb_S4096x1024_S512x1024_512_0)) (P 1)) (View.ld x7 (Rect.unit (s := S16x1024) ![0, 0] S16x1024.size inb_S16x1024_S16x1024_0_0))⟩,
   ⟨Rect.unit (s := S4096x1152) ![512, 1024] S512x128.size inb_S4096x1152_S512x128_512_1024, k0_pay29⟩,
   ⟨Rect.unit (s := S4096x1152) ![512, 0] S512x1024.size inb_S4096x1152_S512x1024_512_0, lhsMain (View.ld x5 (Rect.unit (s := S1x1024) ![0, 0] S1x1024.size inb_S1x1024_S1x1024_0_0)) (widenY (View.ld x2 (Rect.unit (s := S4096x1024) ![512, 0] S512x1024.size inb_S4096x1024_S512x1024_512_0)) (P 1))⟩,
   ⟨Rect.unit (s := S4096x1152) ![0, 1024] S512x48.size inb_S4096x1152_S512x48_0_1024, k0_pay30 (widenY (View.ld x2 (Rect.unit (s := S4096x1024) ![0, 0] S512x1024.size inb_S4096x1024_S512x1024_0_0)) (P 0)) (View.ld x7 (Rect.unit (s := S16x1024) ![0, 0] S16x1024.size inb_S16x1024_S16x1024_0_0))⟩,
   ⟨Rect.unit (s := S4096x1152) ![0, 1024] S512x128.size inb_S4096x1152_S512x128_0_1024, k0_pay29⟩,
   ⟨Rect.unit (s := S4096x1152) ![0, 0] S512x1024.size inb_S4096x1152_S512x1024_0_0, lhsMain (View.ld x5 (Rect.unit (s := S1x1024) ![0, 0] S1x1024.size inb_S1x1024_S1x1024_0_0)) (widenY (View.ld x2 (Rect.unit (s := S4096x1024) ![0, 0] S512x1024.size inb_S4096x1024_S512x1024_0_0)) (P 0))⟩]

/-- The pieces the first grid point stores into the transposed product `dy · lora_bᵀ`. -/
def ttPieces (x2 : Vec F S4096x1024 .fp8e5m2) (P : ℕ → Vec F S512x128 .f32) (x7 : Vec F S16x1024 .bf16) : List (View.Piece (Elt F) S16x4096 .f32) :=
  [⟨Rect.unit (s := S16x4096) ![0, 3584] S16x512.size inb_S16x4096_S16x512_0_3584, k0_pay27 (widenY (View.ld x2 (Rect.unit (s := S4096x1024) ![3584, 0] S512x1024.size inb_S4096x1024_S512x1024_3584_0)) (P 7)) (View.ld x7 (Rect.unit (s := S16x1024) ![0, 0] S16x1024.size inb_S16x1024_S16x1024_0_0))⟩,
   ⟨Rect.unit (s := S16x4096) ![0, 3072] S16x512.size inb_S16x4096_S16x512_0_3072, k0_pay27 (widenY (View.ld x2 (Rect.unit (s := S4096x1024) ![3072, 0] S512x1024.size inb_S4096x1024_S512x1024_3072_0)) (P 6)) (View.ld x7 (Rect.unit (s := S16x1024) ![0, 0] S16x1024.size inb_S16x1024_S16x1024_0_0))⟩,
   ⟨Rect.unit (s := S16x4096) ![0, 2560] S16x512.size inb_S16x4096_S16x512_0_2560, k0_pay27 (widenY (View.ld x2 (Rect.unit (s := S4096x1024) ![2560, 0] S512x1024.size inb_S4096x1024_S512x1024_2560_0)) (P 5)) (View.ld x7 (Rect.unit (s := S16x1024) ![0, 0] S16x1024.size inb_S16x1024_S16x1024_0_0))⟩,
   ⟨Rect.unit (s := S16x4096) ![0, 2048] S16x512.size inb_S16x4096_S16x512_0_2048, k0_pay27 (widenY (View.ld x2 (Rect.unit (s := S4096x1024) ![2048, 0] S512x1024.size inb_S4096x1024_S512x1024_2048_0)) (P 4)) (View.ld x7 (Rect.unit (s := S16x1024) ![0, 0] S16x1024.size inb_S16x1024_S16x1024_0_0))⟩,
   ⟨Rect.unit (s := S16x4096) ![0, 1536] S16x512.size inb_S16x4096_S16x512_0_1536, k0_pay27 (widenY (View.ld x2 (Rect.unit (s := S4096x1024) ![1536, 0] S512x1024.size inb_S4096x1024_S512x1024_1536_0)) (P 3)) (View.ld x7 (Rect.unit (s := S16x1024) ![0, 0] S16x1024.size inb_S16x1024_S16x1024_0_0))⟩,
   ⟨Rect.unit (s := S16x4096) ![0, 1024] S16x512.size inb_S16x4096_S16x512_0_1024, k0_pay27 (widenY (View.ld x2 (Rect.unit (s := S4096x1024) ![1024, 0] S512x1024.size inb_S4096x1024_S512x1024_1024_0)) (P 2)) (View.ld x7 (Rect.unit (s := S16x1024) ![0, 0] S16x1024.size inb_S16x1024_S16x1024_0_0))⟩,
   ⟨Rect.unit (s := S16x4096) ![0, 512] S16x512.size inb_S16x4096_S16x512_0_512, k0_pay27 (widenY (View.ld x2 (Rect.unit (s := S4096x1024) ![512, 0] S512x1024.size inb_S4096x1024_S512x1024_512_0)) (P 1)) (View.ld x7 (Rect.unit (s := S16x1024) ![0, 0] S16x1024.size inb_S16x1024_S16x1024_0_0))⟩,
   ⟨Rect.unit (s := S16x4096) ![0, 0] S16x512.size inb_S16x4096_S16x512_0_0, k0_pay27 (widenY (View.ld x2 (Rect.unit (s := S4096x1024) ![0, 0] S512x1024.size inb_S4096x1024_S512x1024_0_0)) (P 0)) (View.ld x7 (Rect.unit (s := S16x1024) ![0, 0] S16x1024.size inb_S16x1024_S16x1024_0_0))⟩]

/-- The pieces the first grid point stores into the split transposed product. -/
def tt3Pieces (x2 : Vec F S4096x1024 .fp8e5m2) (P : ℕ → Vec F S512x128 .f32) (x7 : Vec F S16x1024 .bf16) : List (View.Piece (Elt F) S48x4096 .bf16) :=
  [⟨Rect.unit (s := S48x4096) ![0, 3584] S48x512.size inb_S48x4096_S48x512_0_3584, k0_pay28 (widenY (View.ld x2 (Rect.unit (s := S4096x1024) ![3584, 0] S512x1024.size inb_S4096x1024_S512x1024_3584_0)) (P 7)) (View.ld x7 (Rect.unit (s := S16x1024) ![0, 0] S16x1024.size inb_S16x1024_S16x1024_0_0))⟩,
   ⟨Rect.unit (s := S48x4096) ![0, 3072] S48x512.size inb_S48x4096_S48x512_0_3072, k0_pay28 (widenY (View.ld x2 (Rect.unit (s := S4096x1024) ![3072, 0] S512x1024.size inb_S4096x1024_S512x1024_3072_0)) (P 6)) (View.ld x7 (Rect.unit (s := S16x1024) ![0, 0] S16x1024.size inb_S16x1024_S16x1024_0_0))⟩,
   ⟨Rect.unit (s := S48x4096) ![0, 2560] S48x512.size inb_S48x4096_S48x512_0_2560, k0_pay28 (widenY (View.ld x2 (Rect.unit (s := S4096x1024) ![2560, 0] S512x1024.size inb_S4096x1024_S512x1024_2560_0)) (P 5)) (View.ld x7 (Rect.unit (s := S16x1024) ![0, 0] S16x1024.size inb_S16x1024_S16x1024_0_0))⟩,
   ⟨Rect.unit (s := S48x4096) ![0, 2048] S48x512.size inb_S48x4096_S48x512_0_2048, k0_pay28 (widenY (View.ld x2 (Rect.unit (s := S4096x1024) ![2048, 0] S512x1024.size inb_S4096x1024_S512x1024_2048_0)) (P 4)) (View.ld x7 (Rect.unit (s := S16x1024) ![0, 0] S16x1024.size inb_S16x1024_S16x1024_0_0))⟩,
   ⟨Rect.unit (s := S48x4096) ![0, 1536] S48x512.size inb_S48x4096_S48x512_0_1536, k0_pay28 (widenY (View.ld x2 (Rect.unit (s := S4096x1024) ![1536, 0] S512x1024.size inb_S4096x1024_S512x1024_1536_0)) (P 3)) (View.ld x7 (Rect.unit (s := S16x1024) ![0, 0] S16x1024.size inb_S16x1024_S16x1024_0_0))⟩,
   ⟨Rect.unit (s := S48x4096) ![0, 1024] S48x512.size inb_S48x4096_S48x512_0_1024, k0_pay28 (widenY (View.ld x2 (Rect.unit (s := S4096x1024) ![1024, 0] S512x1024.size inb_S4096x1024_S512x1024_1024_0)) (P 2)) (View.ld x7 (Rect.unit (s := S16x1024) ![0, 0] S16x1024.size inb_S16x1024_S16x1024_0_0))⟩,
   ⟨Rect.unit (s := S48x4096) ![0, 512] S48x512.size inb_S48x4096_S48x512_0_512, k0_pay28 (widenY (View.ld x2 (Rect.unit (s := S4096x1024) ![512, 0] S512x1024.size inb_S4096x1024_S512x1024_512_0)) (P 1)) (View.ld x7 (Rect.unit (s := S16x1024) ![0, 0] S16x1024.size inb_S16x1024_S16x1024_0_0))⟩,
   ⟨Rect.unit (s := S48x4096) ![0, 0] S48x512.size inb_S48x4096_S48x512_0_0, k0_pay28 (widenY (View.ld x2 (Rect.unit (s := S4096x1024) ![0, 0] S512x1024.size inb_S4096x1024_S512x1024_0_0)) (P 0)) (View.ld x7 (Rect.unit (s := S16x1024) ![0, 0] S16x1024.size inb_S16x1024_S16x1024_0_0))⟩]

/-- The zeros the first grid point stores into the partial sums. -/
def zPieces : List (View.Piece (Elt F) S16x4096 .f32) :=
  [⟨Rect.unit (s := S16x4096) ![0, 3584] S16x512.size inb_S16x4096_S16x512_0_3584, k0_pay31⟩,
   ⟨Rect.unit (s := S16x4096) ![0, 3072] S16x512.size inb_S16x4096_S16x512_0_3072, k0_pay31⟩,
   ⟨Rect.unit (s := S16x4096) ![0, 2560] S16x512.size inb_S16x4096_S16x512_0_2560, k0_pay31⟩,
   ⟨Rect.unit (s := S16x4096) ![0, 2048] S16x512.size inb_S16x4096_S16x512_0_2048, k0_pay31⟩,
   ⟨Rect.unit (s := S16x4096) ![0, 1536] S16x512.size inb_S16x4096_S16x512_0_1536, k0_pay31⟩,
   ⟨Rect.unit (s := S16x4096) ![0, 1024] S16x512.size inb_S16x4096_S16x512_0_1024, k0_pay31⟩,
   ⟨Rect.unit (s := S16x4096) ![0, 512] S16x512.size inb_S16x4096_S16x512_0_512, k0_pay31⟩,
   ⟨Rect.unit (s := S16x4096) ![0, 0] S16x512.size inb_S16x4096_S16x512_0_0, k0_pay31⟩]

/-- One chunk of twice the sums of `x · lora_a`, split in three parts stacked. -/
def split2 (xa : Vec F S16x512 .f32) : FVec F S48x512 .bf16 :=
  let v : FVec F S16x512 .f32 := mulf (broadcast S16x512 (Scalar.ofBits .f32 0x40000000#32)) (shapeCast S16x512 xa shapeCasts_S16x512_S16x512)
  let a : FVec F S16x512 .bf16 := truncf .bf16 v bitsLt_bf16_f32
  let r : FVec F S16x512 .f32 := subf v (extf .f32 a bitsLt_bf16_f32)
  let b : FVec F S16x512 .bf16 := truncf .bf16 r bitsLt_bf16_f32
  let q : FVec F S16x512 .f32 := subf r (extf .f32 b bitsLt_bf16_f32)
  concatenate S48x512 0 [⟨S16x512, a⟩, ⟨S16x512, b⟩, ⟨S16x512, truncf .bf16 q bitsLt_bf16_f32⟩] concatenates_S16x512_S16x512_S16x512_S48x512_d0

/-- A chunk's contribution to the split `lora_b` gradient, added to the running sum. -/
def dbAcc (acc : FVec F S48x1024 .f32) (xa : Vec F S16x512 .f32) (yb : FVec F S512x1024 .bf16) : FVec F S48x1024 .f32 :=
  addf acc (matmul dot_S48x512_S512x1024_S48x1024_1_0_0_1_n_n none (split2 xa) yb (constant S48x1024 .f32 0x00000000#32))

/-- The gradient of `lora_b` the last grid point stores. -/
def dbOut (x2 : Vec F S4096x1024 .fp8e5m2) (P : ℕ → Vec F S512x128 .f32) (y13 : Vec F S16x4096 .f32) : FVec F S16x1024 .f32 :=
  let a1 := dbAcc (broadcast S48x1024 (Scalar.ofBits .f32 0x00000000#32)) (View.ld y13 (Rect.unit (s := S16x4096) ![0, 0] S16x512.size inb_S16x4096_S16x512_0_0)) (widenY (View.ld x2 (Rect.unit (s := S4096x1024) ![0, 0] S512x1024.size inb_S4096x1024_S512x1024_0_0)) (P 0))
  let a2 := dbAcc a1 (View.ld y13 (Rect.unit (s := S16x4096) ![0, 512] S16x512.size inb_S16x4096_S16x512_0_512)) (widenY (View.ld x2 (Rect.unit (s := S4096x1024) ![512, 0] S512x1024.size inb_S4096x1024_S512x1024_512_0)) (P 1))
  let a3 := dbAcc a2 (View.ld y13 (Rect.unit (s := S16x4096) ![0, 1024] S16x512.size inb_S16x4096_S16x512_0_1024)) (widenY (View.ld x2 (Rect.unit (s := S4096x1024) ![1024, 0] S512x1024.size inb_S4096x1024_S512x1024_1024_0)) (P 2))
  let a4 := dbAcc a3 (View.ld y13 (Rect.unit (s := S16x4096) ![0, 1536] S16x512.size inb_S16x4096_S16x512_0_1536)) (widenY (View.ld x2 (Rect.unit (s := S4096x1024) ![1536, 0] S512x1024.size inb_S4096x1024_S512x1024_1536_0)) (P 3))
  let a5 := dbAcc a4 (View.ld y13 (Rect.unit (s := S16x4096) ![0, 2048] S16x512.size inb_S16x4096_S16x512_0_2048)) (widenY (View.ld x2 (Rect.unit (s := S4096x1024) ![2048, 0] S512x1024.size inb_S4096x1024_S512x1024_2048_0)) (P 4))
  let a6 := dbAcc a5 (View.ld y13 (Rect.unit (s := S16x4096) ![0, 2560] S16x512.size inb_S16x4096_S16x512_0_2560)) (widenY (View.ld x2 (Rect.unit (s := S4096x1024) ![2560, 0] S512x1024.size inb_S4096x1024_S512x1024_2560_0)) (P 5))
  let a7 := dbAcc a6 (View.ld y13 (Rect.unit (s := S16x4096) ![0, 3072] S16x512.size inb_S16x4096_S16x512_0_3072)) (widenY (View.ld x2 (Rect.unit (s := S4096x1024) ![3072, 0] S512x1024.size inb_S4096x1024_S512x1024_3072_0)) (P 6))
  let a8 := dbAcc a7 (View.ld y13 (Rect.unit (s := S16x4096) ![0, 3584] S16x512.size inb_S16x4096_S16x512_0_3584)) (widenY (View.ld x2 (Rect.unit (s := S4096x1024) ![3584, 0] S512x1024.size inb_S4096x1024_S512x1024_3584_0)) (P 7))
  addf (addf (extractStridedSlice S16x1024 ![0, 0] a8 slices_S48x1024_o0_0_S16x1024) (extractStridedSlice S16x1024 ![16, 0] a8 slices_S48x1024_o16_0_S16x1024))
    (extractStridedSlice S16x1024 ![32, 0] a8 slices_S48x1024_o32_0_S16x1024)

end Cert.KernelIdeal.Gen

end
-- ==== Proof.Gather.lean ====
module

public import proofs.«01_k».proof.Proof.Canon
public import Idealize.ShloMosaic.Lib.Pointwise
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Lane `j` lies in scale block `j / 32` of its 128 columns. -/
theorem laneDiv_apply (r : Fin 512) (j : Fin 128) : laneDiv (ix2 r j) = BitVec.ofNat 32 (j.val / 32) := by
  unfold laneDiv k0_pay469
  pointwise
  revert j
  decide +kernel

/-- The wrapped index of a lane is the block counted from `n`. -/
theorem wrap_apply : ∀ (n : Fin 125) (q : Fin 4),
    ((Scalar.select (IntOp.cmpi .slt (IntOp.addi (BitVec.ofNat 32 q.val) (BitVec.ofNat 32 n.val)) 0#32)
      (IntOp.addi (IntOp.addi (BitVec.ofNat 32 q.val) (BitVec.ofNat 32 n.val)) 128#32)
      (IntOp.addi (BitVec.ofNat 32 q.val) (BitVec.ofNat 32 n.val))).toNat) % 128 = q.val + n.val := by
  decide +kernel

/-- The same at a word that is known. -/
theorem wrap_at (n : Fin 125) (w : BitVec 32) (q : Fin 4) (hw : w = BitVec.ofNat 32 q.val) :
    ((Scalar.select (IntOp.cmpi .slt (IntOp.addi w (BitVec.ofNat 32 n.val)) 0#32)
      (IntOp.addi (IntOp.addi w (BitVec.ofNat 32 n.val)) 128#32)
      (IntOp.addi w (BitVec.ofNat 32 n.val))).toNat) % 128 = q.val + n.val := by
  subst hw; exact wrap_apply n q

/-- The gathered scales read the scale of the lane's block. -/
theorem gatherCol_apply (n : Fin 125) (scale : FVec Ideal S512x128 .f32) (r : Fin 512) (j : Fin 128) :
    gatherCol (BitVec.ofNat 32 n.val) scale (ix2 r j) = scale (ix2 r ⟨j.val / 32 + n.val, by omega⟩) := by
  unfold gatherCol
  pointwise
  exact congrArg scale (congrArg (ix2 r) (Fin.ext (wrap_at n (laneDiv (ix2 r j)) ⟨j.val / 32, by omega⟩ (laneDiv_apply r j))))

/-- The same at an offset given as a word. -/
theorem gatherCol_at (off : BitVec 32) (n : ℕ) (hn : n < 125) (hoff : off = BitVec.ofNat 32 n) (scale : FVec Ideal S512x128 .f32) (r : Fin 512) (j : Fin 128) :
    gatherCol off scale (ix2 r j) = scale (ix2 r ⟨j.val / 32 + n, by omega⟩) := by
  subst hoff; exact gatherCol_apply ⟨n, hn⟩ scale r j

/-- One column block of a widened chunk. -/
theorem widenCol_eq {N : ℕ} (codes : (⟨2, ![512, N]⟩ : Shape).Idx → EReal) (scale : FVec Ideal S512x128 .f32) (off : BitVec 32) (n : ℕ) (hn : n < 125)
    (hoff : off = BitVec.ofNat 32 n) (r : Fin 512) (j j' : Fin N) (q : Fin 128) (s : Fin 128) (hj : j'.val = j.val) (hs : q.val / 32 + n = s.val) :
    (codes (ix2 r j') * (gatherCol off scale (ix2 r q) : EReal) : EReal) = codes (ix2 r j) * (scale (ix2 r s) : EReal) := by
  obtain rfl : j' = j := Fin.ext hj
  rw [gatherCol_at off n hn hoff scale r q]
  exact congrArg (fun z : Fin 128 => (codes (ix2 r j') * (scale (ix2 r z) : EReal) : EReal)) (Fin.ext hs)

theorem addi_ofNat (a b : ℕ) : Scalar.addi (BitVec.ofNat 32 a) (BitVec.ofNat 32 b) = BitVec.ofNat 32 (a + b) :=
  (BitVec.ofNat_add a b).symm

/-- One column block of a widened chunk at an index. -/
theorem widenPiece_apply {N : ℕ} {φ : FTy} (codes : FVec Ideal (⟨2, ![512, N]⟩ : Shape) φ) (o : ℕ) (hsl : (⟨2, ![512, N]⟩ : Shape).Slices ![0, o] S512x128)
    (hb : φ.bits < FTy.bf16.bits) (scale : FVec Ideal S512x128 .f32) (off : BitVec 32) (n : ℕ) (hn : n < 125)
    (hoff : off = BitVec.ofNat 32 n) (r : Fin 512) (j : Fin N) (q : Fin 128) (s : Fin 128) (hj : o + q.val = j.val) (hs : q.val / 32 + n = s.val) :
    mulf (extf .bf16 (extractStridedSlice S512x128 ![0, o] codes hsl) hb) (gatherCol off scale) (ix2 r q) = (codes (ix2 r j) * (scale (ix2 r s) : EReal) : EReal) := by
  refine (congrArg (fun z : EReal => z * (gatherCol off scale (ix2 r q) : EReal)) (extractStridedSlice_apply _ _ hsl _ (ix2 r j) ?_)).trans (widenCol_eq codes scale off n hn hoff r j j q s rfl hs)
  intro b
  match b with
  | ⟨0, _⟩ => show r.val = 0 + r.val; omega
  | ⟨1, _⟩ => exact hj.symm

theorem slicesX (n : Fin 4) : S512x512.Slices ![0, 128 * n.val] S512x128 := by revert n; decide
theorem slicesY (n : Fin 8) : S512x1024.Slices ![0, 128 * n.val] S512x128 := by revert n; decide

/-- Column block `n` of a widened chunk of `x`. -/
def colX (w : BitVec 32) (codes : Vec Ideal S512x512 .fp8e4m3) (scale : Vec Ideal S512x128 .f32) (n : Fin 4) : FVec Ideal S512x128 .bf16 :=
  mulf (extf .bf16 (extractStridedSlice S512x128 ![0, 128 * n.val] (k0_pay458 codes) (slicesX n)) bitsLt_fp8e4m3_bf16) (gatherCol (Scalar.addi w (BitVec.ofNat 32 (4 * n.val))) (k0_pay459 scale))

/-- Column block `n` of a widened chunk of the upstream gradient. -/
def colY (codes : Vec Ideal S512x1024 .fp8e5m2) (pad : Vec Ideal S512x128 .f32) (n : Fin 8) : FVec Ideal S512x128 .bf16 :=
  mulf (extf .bf16 (extractStridedSlice S512x128 ![0, 128 * n.val] (k0_pay5 codes) (slicesY n)) bitsLt_fp8e5m2_bf16) (gatherCol (BitVec.ofNat 32 (4 * n.val)) pad)

/-- A widened chunk of `x` is each code times the scale of its block. -/
theorem widenX_apply (fb : ℕ) (hfb : fb ≤ 112) (codes : Vec Ideal S512x512 .fp8e4m3) (scale : Vec Ideal S512x128 .f32) (r j : Fin 512) :
    widenX (BitVec.ofNat 32 fb) codes scale (ix2 r j) = (codes (ix2 r j) * (scale (ix2 r ⟨fb + j.val / 32, by omega⟩) : EReal) : EReal) := by
  have e : widenX (BitVec.ofNat 32 fb) codes scale = concatenate S512x512 1 (List.ofFn fun n : Fin 4 => ⟨S512x128, colX (BitVec.ofNat 32 fb) codes scale n⟩)
      concatenates_S512x128_S512x128_S512x128_S512x128_S512x512_d1 := rfl
  rw [e]
  refine (concatenate_ofFn_apply (t := S512x512) (s₁ := S512x128) 1 (colX (BitVec.ofNat 32 fb) codes scale) _ rfl 128 rfl (ix2 r j) ⟨j.val / 128, by omega⟩ rfl (ix2 r ⟨j.val % 128, by omega⟩) rfl ?_).trans ?_
  · intro b hb
    match b with
    | ⟨0, _⟩ => rfl
    | ⟨1, _⟩ => exact absurd rfl hb
  · unfold colX k0_pay458 k0_pay459
    simp only [shapeCast_self]
    exact widenPiece_apply codes _ _ _ scale _ (fb + 4 * (j.val / 128)) (by omega) (addi_ofNat fb _) r j _ _ (by dsimp only; omega) (by dsimp only; omega)

/-- A widened chunk of the upstream gradient is each code times the scale of its block. -/
theorem widenY_apply (codes : Vec Ideal S512x1024 .fp8e5m2) (pad : Vec Ideal S512x128 .f32) (r : Fin 512) (j : Fin 1024) :
    widenY codes pad (ix2 r j) = (codes (ix2 r j) * (pad (ix2 r ⟨j.val / 32, by omega⟩) : EReal) : EReal) := by
  have e : widenY codes pad = concatenate S512x1024 1 (List.ofFn fun n : Fin 8 => ⟨S512x128, colY codes pad n⟩)
      concatenates_S512x128_S512x128_S512x128_S512x128_S512x128_S512x128_S512x128_S512x128_S512x1024_d1 := rfl
  rw [e]
  refine (concatenate_ofFn_apply (t := S512x1024) (s₁ := S512x128) 1 (colY codes pad) _ rfl 128 rfl (ix2 r j) ⟨j.val / 128, by omega⟩ rfl (ix2 r ⟨j.val % 128, by omega⟩) rfl ?_).trans ?_
  · intro b hb
    match b with
    | ⟨0, _⟩ => rfl
    | ⟨1, _⟩ => exact absurd rfl hb
  · unfold colY k0_pay5
    simp only [shapeCast_self]
    exact widenPiece_apply codes _ _ _ pad _ (4 * (j.val / 128)) (by omega) rfl r j _ _ (by dsimp only; omega) (by dsimp only; omega)

end Cert.KernelIdeal.Gen

end
-- ==== Proof.Vals.lean ====
module

public import proofs.«01_k».proof.Proof.Gather
public import Idealize.ShloMosaic.Lib.Pipeline.ValueKit.Tiles
public import Idealize.ShloMosaic.Lib.Pointwise
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Reading loads and stores of literal blocks at an index -/

section Rd
variable {M N m n a b : ℕ}

/-- A load of a block reads the contents at the block's offsets. -/
theorem ld2 {e : EltTy} (X : (⟨2, ![M, N]⟩ : Shape).Idx → Elt Ideal e) (inb : ∀ d, (![a, b] : Fin 2 → ℕ) d + (![m, n] : Fin 2 → ℕ) d ≤ (![M, N] : Fin 2 → ℕ) d)
    (i : Fin m) (j : Fin n) (h0 : a + m ≤ M) (h1 : b + n ≤ N) :
    View.ld X (Rect.unit (s := ⟨2, ![M, N]⟩) ![a, b] ![m, n] inb) (ix2 i j) = X (ix2 ⟨a + i.val, by omega⟩ ⟨b + j.val, by omega⟩) :=
  View.ld_unit_apply_of X _ _ _ _ _ fun d => match d with | ⟨0, _⟩ => rfl | ⟨1, _⟩ => rfl

/-- A load of the whole contents is the contents. -/
theorem ldAll {e : EltTy} (X : (⟨2, ![M, N]⟩ : Shape).Idx → Elt Ideal e) (inb : ∀ d, (![0, 0] : Fin 2 → ℕ) d + (![M, N] : Fin 2 → ℕ) d ≤ (![M, N] : Fin 2 → ℕ) d) :
    View.ld X (Rect.unit (s := ⟨2, ![M, N]⟩) ![0, 0] ![M, N] inb) = X := by
  funext x
  exact View.ld_unit_apply_of X _ _ _ _ _ fun d => match d with | ⟨0, _⟩ => (Nat.zero_add _).symm | ⟨1, _⟩ => (Nat.zero_add _).symm

/-- Where a block's index lies in the array. -/
theorem emb2 (inb : ∀ d, (![a, b] : Fin 2 → ℕ) d + (![m, n] : Fin 2 → ℕ) d ≤ (![M, N] : Fin 2 → ℕ) d) (h0 : a + m ≤ M) (h1 : b + n ≤ N) (i : Fin m) (j : Fin n) :
    (Rect.unit (s := ⟨2, ![M, N]⟩) ![a, b] ![m, n] inb).emb (ix2 i j) = ix2 ⟨a + i.val, by omega⟩ ⟨b + j.val, by omega⟩ := by
  funext d
  refine Fin.ext ((Rect.idx_unit_val _ _ inb _ d).trans ?_)
  match d with
  | ⟨0, _⟩ => rfl
  | ⟨1, _⟩ => rfl

/-- A stored block agrees with an array when its entries do. -/
theorem piece2 {e : EltTy} (G : (⟨2, ![M, N]⟩ : Shape).Idx → Elt Ideal e) (inb : ∀ d, (![a, b] : Fin 2 → ℕ) d + (![m, n] : Fin 2 → ℕ) d ≤ (![M, N] : Fin 2 → ℕ) d)
    (w : (⟨2, ![m, n]⟩ : Shape).Idx → Elt Ideal e) (h0 : a + m ≤ M) (h1 : b + n ≤ N)
    (h : ∀ (i : Fin m) (j : Fin n), w (ix2 i j) = G (ix2 ⟨a + i.val, by omega⟩ ⟨b + j.val, by omega⟩)) (x : (⟨2, ![m, n]⟩ : Shape).Idx) :
    w x = G ((Rect.unit (s := ⟨2, ![M, N]⟩) ![a, b] ![m, n] inb).emb x) := by
  obtain ⟨i, j, rfl⟩ : ∃ (i : Fin m) (j : Fin n), x = ix2 i j := ⟨x 0, x 1, eq_ix2 x⟩
  rw [h, emb2 inb h0 h1]

end Rd

/-- A product against the rows of the right operand, into zeros. -/
theorem mmNT {M K N : ℕ} {φ₁ φ₂ : FTy} (l : FVec Ideal ⟨2, ![M, K]⟩ φ₁) (r : FVec Ideal ⟨2, ![N, K]⟩ φ₂) (i : Fin M) (j : Fin N) :
    FloatOps.matmul (DotDims.transposedRhs M K N) none l r (constant ⟨2, ![M, N]⟩ .f32 0x00000000#32) (ix2 i j) = ∑ k : Fin K, (l (ix2 i k) * r (ix2 j k) : EReal) := by
  rw [ix2_eq_valueIdx, Ideal.matmul_transposedRhs_apply]
  simp only [← ix2_eq_valueIdx]
  exact (congrArg (· + _) Ideal.ofBits_zero_f32).trans (zero_add _)

/-- A plain product, into zeros. -/
theorem mmNN {M K N : ℕ} {φ₁ φ₂ : FTy} (l : FVec Ideal ⟨2, ![M, K]⟩ φ₁) (r : FVec Ideal ⟨2, ![K, N]⟩ φ₂) (i : Fin M) (j : Fin N) :
    FloatOps.matmul (DotDims.plain M K N) none l r (constant ⟨2, ![M, N]⟩ .f32 0x00000000#32) (ix2 i j) = ∑ k : Fin K, (l (ix2 i k) * r (ix2 k j) : EReal) := by
  rw [ix2_eq_valueIdx, Ideal.matmul_plain_apply]
  simp only [← ix2_eq_valueIdx]
  exact (congrArg (· + _) Ideal.ofBits_zero_f32).trans (zero_add _)

/-- The factor two. -/
def c2 : EReal := Ideal.ofBits .f32 0x40000000#32

theorem c2_eq : c2 = ((2 : ℝ) : EReal) := by
  unfold c2; simp [Ideal.ofBits, Ideal.ieee]; rw [← EReal.coe_mul]; norm_num

/-- A value is a real number. -/
def Fin' (v : EReal) : Prop := ∃ q : ℝ, v = (q : EReal)

theorem Fin'.mul {u v : EReal} (hu : Fin' u) (hv : Fin' v) : Fin' (u * v) := by
  obtain ⟨p, rfl⟩ := hu; obtain ⟨q, rfl⟩ := hv; exact ⟨p * q, (EReal.coe_mul p q).symm⟩
theorem Fin'.add {u v : EReal} (hu : Fin' u) (hv : Fin' v) : Fin' (u + v) := by
  obtain ⟨p, rfl⟩ := hu; obtain ⟨q, rfl⟩ := hv; exact ⟨p + q, (EReal.coe_add p q).symm⟩
theorem Fin'.sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih
theorem Fin'.sub_self {u : EReal} (hu : Fin' u) : u - u = 0 := by
  obtain ⟨p, rfl⟩ := hu; rw [← EReal.coe_sub, _root_.sub_self]; rfl
theorem Fin'.sub_self2 {u : EReal} (hu : Fin' u) : u - u - (u - u) = 0 := by
  rw [hu.sub_self]; exact sub_zero 0
theorem Fin'.c2 : Fin' c2 := ⟨2, c2_eq⟩

/-! ## The upstream gradient -/

/-- An entry of the widened upstream gradient. -/
def YW (x2 : Vec Ideal S4096x1024 .fp8e5m2) (x3 : Vec Ideal S4096x32 .f32) (r : Fin 4096) (o : Fin 1024) : EReal :=
  (x2 (ix2 r o) * (x3 (ix2 r ⟨o.val / 32, by omega⟩) : EReal) : EReal)

theorem padY_apply (d : Vec Ideal S512x32 .f32) (r : Fin 512) (q : Fin 128) (p : Fin 32) (h : q.val = p.val) : padY d (ix2 r q) = d (ix2 r p) := by
  unfold padY
  have e : (ix2 r q : S512x128.Idx) = (Rect.unit (s := S512x128) ![0, 0] S512x32.size inb_S512x128_S512x32_0_0).emb (ix2 r p) := by
    rw [emb2 (M := 512) (N := 128) (m := 512) (n := 32) (a := 0) (b := 0) _ (by omega) (by omega)]
    congr 1 <;> apply Fin.ext <;> dsimp only <;> omega
  rw [e, View.canon_cons_emb]
  unfold k0_pay4
  simp only [shapeCast_self]

/-- A widened chunk of the upstream gradient is that part of the widened gradient. -/
theorem chunkY (x2 : Vec Ideal S4096x1024 .fp8e5m2) (x3 : Vec Ideal S4096x32 .f32) (o : ℕ) (ho : o + 512 ≤ 4096)
    (i1 : ∀ d, (![o, 0] : Fin 2 → ℕ) d + S512x1024.size d ≤ S4096x1024.size d) (i2 : ∀ d, (![o, 0] : Fin 2 → ℕ) d + S512x32.size d ≤ S4096x32.size d) (r : Fin 512) (j : Fin 1024) :
    widenY (View.ld x2 (Rect.unit (s := S4096x1024) ![o, 0] S512x1024.size i1)) (padY (View.ld x3 (Rect.unit (s := S4096x32) ![o, 0] S512x32.size i2))) (ix2 r j)
      = YW x2 x3 ⟨o + r.val, by omega⟩ j := by
  refine (widenY_apply _ _ r j).trans ?_
  rw [padY_apply _ r _ ⟨j.val / 32, by omega⟩ rfl]
  refine (congrArg₂ (fun u v : EReal => u * v) (ld2 (e := .fp8e5m2) (M := 4096) (N := 1024) (m := 512) (n := 1024) x2 i1 r j ho (by omega)) (ld2 (e := .f32) (M := 4096) (N := 32) (m := 512) (n := 32) x3 i2 r ⟨j.val / 32, by omega⟩ ho (by omega))).trans ?_
  unfold YW
  simp only [Nat.zero_add]

/-- An entry of the upstream gradient times `lora_b` transposed. -/
def TF (x2 : Vec Ideal S4096x1024 .fp8e5m2) (x3 : Vec Ideal S4096x32 .f32) (x7 : Vec Ideal S16x1024 .bf16) (r : Fin 4096) (k : Fin 16) : EReal :=
  ∑ o : Fin 1024, YW x2 x3 r o * (x7 (ix2 k o) : EReal)

variable (x2 : Vec Ideal S4096x1024 .fp8e5m2) (x3 : Vec Ideal S4096x32 .f32) (x7 : Vec Ideal S16x1024 .bf16)

theorem pay27_apply (yb : FVec Ideal S512x1024 .bf16) (B : Vec Ideal S16x1024 .bf16) (k : Fin 16) (s : Fin 512) :
    k0_pay27 yb B (ix2 k s) = ∑ o : Fin 1024, ((yb (ix2 s o) : EReal) * (B (ix2 k o) : EReal) : EReal) :=
  (mmNT B yb k s).trans (Finset.sum_congr rfl fun _ _ => mul_comm _ _)

theorem pay28_apply (yb : FVec Ideal S512x1024 .bf16) (B : Vec Ideal S16x1024 .bf16) (hf : ∀ k s, Fin' (k0_pay27 yb B (ix2 k s))) (a : Fin 48) (s : Fin 512) :
    k0_pay28 yb B (ix2 a s) = if h : a.val < 16 then (c2 * (k0_pay27 yb B (ix2 ⟨a.val, h⟩ s) : EReal) : EReal) else 0 := by
  unfold k0_pay28
  pointwise
  by_cases h1 : a.val < 16
  · rw [dif_pos h1, dif_pos h1]; rfl
  · rw [dif_neg h1, dif_neg h1]
    by_cases h2 : a.val - 16 < 16
    · rw [dif_pos h2]; exact (Fin'.c2.mul (hf _ _)).sub_self
    · rw [dif_neg h2]; exact (Fin'.c2.mul (hf _ _)).sub_self2

theorem pay30_apply (yb : FVec Ideal S512x1024 .bf16) (B : FVec Ideal S16x1024 .bf16) (T : Fin 512 → Fin 16 → EReal)
    (hT : ∀ s k, (∑ o : Fin 1024, ((yb (ix2 s o) : EReal) * (B (ix2 k o) : EReal) : EReal)) = T s k) (hf : ∀ s k, Fin' (T s k)) (s : Fin 512) (a : Fin 48) :
    k0_pay30 yb B (ix2 s a) = if h : a.val < 16 then (c2 * T s ⟨a.val, h⟩ : EReal) else 0 := by
  have e : ∀ s k, (matmul dot_S512x1024_S16x1024_S512x16_1_1_0_0_n_n none yb B (constant S512x16 .f32 0x00000000#32) (ix2 s k) : EReal) = T s k := fun s k => (mmNT yb B s k).trans (hT s k)
  unfold k0_pay30
  generalize matmul dot_S512x1024_S16x1024_S512x16_1_1_0_0_n_n none yb B (constant S512x16 .f32 0x00000000#32) = t at e
  pointwise
  simp only [e]
  by_cases h1 : a.val < 16
  · rw [dif_pos h1, dif_pos h1]; rfl
  · rw [dif_neg h1, dif_neg h1]
    by_cases h2 : a.val - 16 < 16
    · rw [dif_pos h2]; exact (Fin'.c2.mul (hf _ _)).sub_self
    · rw [dif_neg h2]; exact (Fin'.c2.mul (hf _ _)).sub_self2

/-- The rows of the transposed `lora_a`, three times over, then zeros. -/
theorem pay455_apply (v : Vec Ideal S16x512 .bf16) (a : Fin 128) (j : Fin 512) (h : a.val < 16) : k0_pay455 v (ix2 a j) = v (ix2 ⟨a.val, h⟩ j) := by
  unfold k0_pay455 k0_pay454
  pointwise
  rw [dif_pos h]

theorem pay457_apply (v3 : Vec Ideal S16x512 .bf16) (v19 : Vec Ideal S512x1024 .bf16) (v20 : Vec Ideal S512x1024 .fp8e4m3) (v22 : Vec Ideal S512x128 .bf16) (r j : Fin 512) :
    k0_pay457 v3 v19 v20 v22 (ix2 r j) = ((∑ o : Fin 1024, ((v19 (ix2 r o) : EReal) * (v20 (ix2 j o) : EReal) : EReal)) + ∑ a : Fin 128, ((v22 (ix2 r a) : EReal) * (k0_pay455 v3 (ix2 a j) : EReal) : EReal) : EReal) :=
  congrArg₂ (fun u v : EReal => u + v) (mmNT v19 v20 r j) (mmNN v22 (k0_pay455 v3) r j)

theorem lhsMain_apply (ws : Vec Ideal S1x1024 .f32) (yb : FVec Ideal S512x1024 .bf16) (r : Fin 512) (o : Fin 1024) :
    lhsMain ws yb (ix2 r o) = ((yb (ix2 r o) : EReal) * (ws (ix2 0 o) : EReal) : EReal) := by
  unfold lhsMain k0_pay26 k0_pay2
  pointwise

theorem xatStep_apply (fb : ℕ) (hfb : fb ≤ 112) (codes : Vec Ideal S512x512 .fp8e4m3) (scale : Vec Ideal S512x128 .f32) (at_ : Vec Ideal S16x512 .bf16) (old : Vec Ideal S16x512 .f32) (k : Fin 16) (s : Fin 512) :
    xatStep (BitVec.ofNat 32 fb) codes scale at_ old (ix2 k s)
      = ((old (ix2 k s) : EReal) + ∑ j : Fin 512, ((codes (ix2 s j) * (scale (ix2 s ⟨fb + j.val / 32, by omega⟩) : EReal) : EReal) * (at_ (ix2 k j) : EReal) : EReal) : EReal) := by
  unfold xatStep k0_pay454
  simp only [shapeCast_self]
  refine congrArg (fun v : EReal => (old (ix2 k s) : EReal) + v) ((mmNT at_ (widenX (BitVec.ofNat 32 fb) codes scale) k s).trans (Finset.sum_congr rfl fun j _ => ?_))
  rw [widenX_apply fb hfb]
  exact mul_comm _ _

theorem datAcc_apply (fb : ℕ) (hfb : fb ≤ 112) (acc : FVec Ideal S48x512 .f32) (codes : Vec Ideal S512x512 .fp8e4m3) (scale : Vec Ideal S512x128 .f32) (t3 : Vec Ideal S48x512 .bf16) (a : Fin 48) (j : Fin 512) :
    datAcc (BitVec.ofNat 32 fb) acc codes scale t3 (ix2 a j)
      = ((acc (ix2 a j) : EReal) + ∑ s : Fin 512, ((t3 (ix2 a s) : EReal) * (codes (ix2 s j) * (scale (ix2 s ⟨fb + j.val / 32, by omega⟩) : EReal) : EReal) : EReal) : EReal) := by
  unfold datAcc
  refine congrArg (fun v : EReal => (acc (ix2 a j) : EReal) + v) ((mmNN t3 (widenX (BitVec.ofNat 32 fb) codes scale) a j).trans (Finset.sum_congr rfl fun s _ => ?_))
  rw [widenX_apply fb hfb]

theorem datSum_apply (v : FVec Ideal S48x512 .f32) (k : Fin 16) (j : Fin 512) :
    datSum v (ix2 k j) = ((v (ix2 ⟨k.val, by omega⟩ j) + v (ix2 ⟨16 + k.val, by omega⟩ j) : EReal) + (v (ix2 ⟨32 + k.val, by omega⟩ j) : EReal) : EReal) := by
  unfold datSum
  pointwise

theorem split2_apply (xa : Vec Ideal S16x512 .f32) (hf : ∀ k s, Fin' (xa (ix2 k s))) (a : Fin 48) (s : Fin 512) :
    split2 xa (ix2 a s) = if h : a.val < 16 then (c2 * (xa (ix2 ⟨a.val, h⟩ s) : EReal) : EReal) else 0 := by
  unfold split2
  pointwise
  by_cases h1 : a.val < 16
  · rw [dif_pos h1, dif_pos h1]; rfl
  · rw [dif_neg h1, dif_neg h1]
    by_cases h2 : a.val - 16 < 16
    · rw [dif_pos h2]; exact (Fin'.c2.mul (hf _ _)).sub_self
    · rw [dif_neg h2]; exact (Fin'.c2.mul (hf _ _)).sub_self2

theorem dbAcc_apply (acc : FVec Ideal S48x1024 .f32) (xa : Vec Ideal S16x512 .f32) (yb : FVec Ideal S512x1024 .bf16) (a : Fin 48) (o : Fin 1024) :
    dbAcc acc xa yb (ix2 a o) = ((acc (ix2 a o) : EReal) + ∑ s : Fin 512, ((split2 xa (ix2 a s) : EReal) * (yb (ix2 s o) : EReal) : EReal) : EReal) := by
  unfold dbAcc
  exact congrArg (fun v : EReal => (acc (ix2 a o) : EReal) + v) (mmNN (split2 xa) yb a o)

end Cert.KernelIdeal.Gen

end
-- ==== Proof.Arr.lean ====
module

public import proofs.«01_k».proof.Proof.Vals
public import Idealize.ShloMosaic.Lib.Pointwise
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Contents written piece by piece agree with an array off the indices `acc` when each piece does, off those and the newer pieces. -/
def Agree {S : Shape} {e : EltTy} (G : S.Idx → Elt Ideal e) : (S.Idx → Prop) → List (View.Piece (Elt Ideal) S e) → Prop
  | _, [] => True
  | acc, p :: L => (∀ x : p.1.shape.Idx, acc (p.1.emb x) ∨ p.2 x = G (p.1.emb x)) ∧ Agree G (fun y => y ∈ p.1.set ∨ acc y) L

theorem canon_of_agree {S : Shape} {e : EltTy} (G : S.Idx → Elt Ideal e) : ∀ (L : List (View.Piece (Elt Ideal) S e)) (acc : S.Idx → Prop) (_ : Agree G acc L)
    (y : S.Idx) (_ : ¬ acc y) (_ : ∃ p ∈ L, y ∈ p.1.set), View.canon L y = G y
  | [], _, _, _, _, hy => by obtain ⟨p, hp, _⟩ := hy; simp at hp
  | p :: L, acc, h, y, hn, hy => by
    by_cases hm : y ∈ p.1.set
    · obtain ⟨x, rfl⟩ := p.1.exists_idx_of_mem hm
      exact (View.canon_cons_emb p.1 p.2 L x).trans ((h.1 x).resolve_left hn)
    · rw [View.canon_cons_of_not_mem p L hm]
      refine canon_of_agree G L _ h.2 y (by rintro (h1 | h1); exact hm h1; exact hn h1) ?_
      obtain ⟨q, hq, hqy⟩ := hy
      rcases List.mem_cons.mp hq with rfl | hq
      · exact absurd hqy hm
      · exact ⟨q, hq, hqy⟩

variable (x2 : Vec Ideal S4096x1024 .fp8e5m2) (x3 : Vec Ideal S4096x32 .f32) (x5 : Vec Ideal S1x1024 .f32) (x7 : Vec Ideal S16x1024 .bf16)

/-- The product of a chunk with `lora_b`. -/
theorem chunkT (o : ℕ) (ho : o + 512 ≤ 4096)
    (i1 : ∀ d, (![o, 0] : Fin 2 → ℕ) d + S512x1024.size d ≤ S4096x1024.size d) (i2 : ∀ d, (![o, 0] : Fin 2 → ℕ) d + S512x32.size d ≤ S4096x32.size d) (s : Fin 512) (k : Fin 16) :
    (∑ q : Fin 1024, ((widenY (View.ld x2 (Rect.unit (s := S4096x1024) ![o, 0] S512x1024.size i1)) (padY (View.ld x3 (Rect.unit (s := S4096x32) ![o, 0] S512x32.size i2))) (ix2 s q) : EReal) * (x7 (ix2 k q) : EReal) : EReal))
      = TF x2 x3 x7 ⟨o + s.val, by omega⟩ k :=
  Finset.sum_congr rfl fun q _ => congrArg (fun v : EReal => v * (x7 (ix2 k q) : EReal)) (chunkY x2 x3 o ho i1 i2 s q)

/-- The array the product with `lora_b` ends as. -/
def TTF : Vec Ideal S16x4096 .f32 := fun y => TF x2 x3 x7 (y 1) (y 0)

theorem ttPiece (o : ℕ) (ho : o + 512 ≤ 4096)
    (i1 : ∀ d, (![o, 0] : Fin 2 → ℕ) d + S512x1024.size d ≤ S4096x1024.size d) (i2 : ∀ d, (![o, 0] : Fin 2 → ℕ) d + S512x32.size d ≤ S4096x32.size d)
    (i3 : ∀ d, (![0, 0] : Fin 2 → ℕ) d + S16x1024.size d ≤ S16x1024.size d) (i4 : ∀ d, (![0, o] : Fin 2 → ℕ) d + S16x512.size d ≤ S16x4096.size d) (x : S16x512.Idx) :
    k0_pay27 (widenY (View.ld x2 (Rect.unit (s := S4096x1024) ![o, 0] S512x1024.size i1)) (padY (View.ld x3 (Rect.unit (s := S4096x32) ![o, 0] S512x32.size i2)))) (View.ld x7 (Rect.unit (s := S16x1024) ![0, 0] S16x1024.size i3)) x
      = TTF x2 x3 x7 ((Rect.unit (s := S16x4096) ![0, o] S16x512.size i4).emb x) := by
  refine piece2 (e := .f32) (M := 16) (N := 4096) (m := 16) (n := 512) (TTF x2 x3 x7) i4 _ (by omega) ho (fun k s => ?_) x
  rw [pay27_apply, ldAll (e := .bf16) (M := 16) (N := 1024) x7 i3]
  refine (chunkT x2 x3 x7 o ho i1 i2 s k).trans ?_
  exact congrArg (TF x2 x3 x7 _) (Fin.ext (Nat.zero_add _).symm)

theorem ttCanon : View.canon (ttPieces x2 (pads x3) x7) = TTF x2 x3 x7 := by
  funext y
  refine View.canon_apply_of_pieces (TTF x2 x3 x7) _ ?_ y (View.cover_of_tiledBy _ ![16, 512] (by sl_kernel_rfl) y)
  intro p hp
  unfold ttPieces at hp
  simp only [List.mem_cons, List.not_mem_nil, or_false] at hp
  rcases hp with rfl | rfl | rfl | rfl | rfl | rfl | rfl | rfl <;> exact ttPiece x2 x3 x7 _ (by omega) _ _ _ (by decide)

/-- The array the split product with `lora_b` ends as. -/
def TT3G (a : Fin 48) (r : Fin 4096) : EReal := if h : a.val < 16 then (c2 * TF x2 x3 x7 r ⟨a.val, h⟩ : EReal) else 0

@[inherit_doc TT3G] def TT3F : Vec Ideal S48x4096 .bf16 := fun y => TT3G x2 x3 x7 (y 0) (y 1)

theorem tt3Piece (hT : ∀ r k, Fin' (TF x2 x3 x7 r k)) (o : ℕ) (ho : o + 512 ≤ 4096)
    (i1 : ∀ d, (![o, 0] : Fin 2 → ℕ) d + S512x1024.size d ≤ S4096x1024.size d) (i2 : ∀ d, (![o, 0] : Fin 2 → ℕ) d + S512x32.size d ≤ S4096x32.size d)
    (i3 : ∀ d, (![0, 0] : Fin 2 → ℕ) d + S16x1024.size d ≤ S16x1024.size d) (i4 : ∀ d, (![0, o] : Fin 2 → ℕ) d + S48x512.size d ≤ S48x4096.size d) (x : S48x512.Idx) :
    k0_pay28 (widenY (View.ld x2 (Rect.unit (s := S4096x1024) ![o, 0] S512x1024.size i1)) (padY (View.ld x3 (Rect.unit (s := S4096x32) ![o, 0] S512x32.size i2)))) (View.ld x7 (Rect.unit (s := S16x1024) ![0, 0] S16x1024.size i3)) x
      = TT3F x2 x3 x7 ((Rect.unit (s := S48x4096) ![0, o] S48x512.size i4).emb x) := by
  refine piece2 (e := .bf16) (M := 48) (N := 4096) (m := 48) (n := 512) (TT3F x2 x3 x7) i4 _ (by omega) ho (fun a s => ?_) x
  have e : ∀ k s, k0_pay27 (widenY (View.ld x2 (Rect.unit (s := S4096x1024) ![o, 0] S512x1024.size i1)) (padY (View.ld x3 (Rect.unit (s := S4096x32) ![o, 0] S512x32.size i2)))) (View.ld x7 (Rect.unit (s := S16x1024) ![0, 0] S16x1024.size i3)) (ix2 k s) = TF x2 x3 x7 ⟨o + s.val, by omega⟩ k := by
    intro k s
    rw [pay27_apply, ldAll (e := .bf16) (M := 16) (N := 1024) x7 i3]
    exact chunkT x2 x3 x7 o ho i1 i2 s k
  rw [pay28_apply _ _ (fun k s => by rw [e]; exact hT _ _)]
  show _ = TT3G x2 x3 x7 ⟨0 + a.val, by omega⟩ ⟨o + s.val, by omega⟩
  unfold TT3G
  by_cases h : a.val < 16
  · rw [dif_pos h, dif_pos (show 0 + a.val < 16 by omega), e]
    exact congrArg (fun z => (c2 * TF x2 x3 x7 ⟨o + s.val, by omega⟩ z : EReal)) (Fin.ext (Nat.zero_add _).symm)
  · rw [dif_neg h, dif_neg (show ¬ 0 + a.val < 16 by omega)]

theorem tt3Canon (hT : ∀ r k, Fin' (TF x2 x3 x7 r k)) : View.canon (tt3Pieces x2 (pads x3) x7) = TT3F x2 x3 x7 := by
  funext y
  refine View.canon_apply_of_pieces (TT3F x2 x3 x7) _ ?_ y (View.cover_of_tiledBy _ ![48, 512] (by sl_kernel_rfl) y)
  intro p hp
  unfold tt3Pieces at hp
  simp only [List.mem_cons, List.not_mem_nil, or_false] at hp
  rcases hp with rfl | rfl | rfl | rfl | rfl | rfl | rfl | rfl <;> exact tt3Piece x2 x3 x7 hT _ (by omega) _ _ _ (by decide)

/-- The left operand of the input-gradient product. -/
def LHSG (r : Fin 4096) (k : Fin 1152) : EReal :=
  if h : k.val < 1024 then (YW x2 x3 r ⟨k.val, h⟩ * (x5 (ix2 0 ⟨k.val, h⟩) : EReal) : EReal)
  else if h : k.val - 1024 < 16 then (c2 * TF x2 x3 x7 r ⟨k.val - 1024, h⟩ : EReal) else 0

@[inherit_doc LHSG] def LHSF : Vec Ideal S4096x1152 .bf16 := fun y => LHSG x2 x3 x5 x7 (y 0) (y 1)

theorem lhsPieceA (o : ℕ) (ho : o + 512 ≤ 4096)
    (i1 : ∀ d, (![o, 0] : Fin 2 → ℕ) d + S512x1024.size d ≤ S4096x1024.size d) (i2 : ∀ d, (![o, 0] : Fin 2 → ℕ) d + S512x32.size d ≤ S4096x32.size d)
    (i3 : ∀ d, (![0, 0] : Fin 2 → ℕ) d + S1x1024.size d ≤ S1x1024.size d) (i4 : ∀ d, (![o, 0] : Fin 2 → ℕ) d + S512x1024.size d ≤ S4096x1152.size d) (x : S512x1024.Idx) :
    lhsMain (View.ld x5 (Rect.unit (s := S1x1024) ![0, 0] S1x1024.size i3)) (widenY (View.ld x2 (Rect.unit (s := S4096x1024) ![o, 0] S512x1024.size i1)) (padY (View.ld x3 (Rect.unit (s := S4096x32) ![o, 0] S512x32.size i2)))) x
      = LHSF x2 x3 x5 x7 ((Rect.unit (s := S4096x1152) ![o, 0] S512x1024.size i4).emb x) := by
  refine piece2 (e := .bf16) (M := 4096) (N := 1152) (m := 512) (n := 1024) (LHSF x2 x3 x5 x7) i4 _ ho (by omega) (fun r q => ?_) x
  rw [lhsMain_apply, ldAll (e := .f32) (M := 1) (N := 1024) x5 i3, chunkY x2 x3 o ho i1 i2 r q]
  show _ = LHSG x2 x3 x5 x7 ⟨o + r.val, by omega⟩ ⟨0 + q.val, by omega⟩
  unfold LHSG
  rw [dif_pos (show 0 + q.val < 1024 by omega)]
  exact congrArg (fun z => (YW x2 x3 ⟨o + r.val, by omega⟩ z * (x5 (ix2 0 z) : EReal) : EReal)) (Fin.ext (Nat.zero_add _).symm)

theorem lhsPieceC (hT : ∀ r k, Fin' (TF x2 x3 x7 r k)) (o : ℕ) (ho : o + 512 ≤ 4096)
    (i1 : ∀ d, (![o, 0] : Fin 2 → ℕ) d + S512x1024.size d ≤ S4096x1024.size d) (i2 : ∀ d, (![o, 0] : Fin 2 → ℕ) d + S512x32.size d ≤ S4096x32.size d)
    (i3 : ∀ d, (![0, 0] : Fin 2 → ℕ) d + S16x1024.size d ≤ S16x1024.size d) (i4 : ∀ d, (![o, 1024] : Fin 2 → ℕ) d + S512x48.size d ≤ S4096x1152.size d) (x : S512x48.Idx) :
    k0_pay30 (widenY (View.ld x2 (Rect.unit (s := S4096x1024) ![o, 0] S512x1024.size i1)) (padY (View.ld x3 (Rect.unit (s := S4096x32) ![o, 0] S512x32.size i2)))) (View.ld x7 (Rect.unit (s := S16x1024) ![0, 0] S16x1024.size i3)) x
      = LHSF x2 x3 x5 x7 ((Rect.unit (s := S4096x1152) ![o, 1024] S512x48.size i4).emb x) := by
  refine piece2 (e := .bf16) (M := 4096) (N := 1152) (m := 512) (n := 48) (LHSF x2 x3 x5 x7) i4 _ ho (by omega) (fun r a => ?_) x
  rw [ldAll (e := .bf16) (M := 16) (N := 1024) x7 i3, pay30_apply _ _ (fun s k => TF x2 x3 x7 ⟨o + s.val, by omega⟩ k) (chunkT x2 x3 x7 o ho i1 i2) (fun _ _ => hT _ _)]
  show _ = LHSG x2 x3 x5 x7 ⟨o + r.val, by omega⟩ ⟨1024 + a.val, by omega⟩
  unfold LHSG
  rw [dif_neg (show ¬ 1024 + a.val < 1024 by omega)]
  by_cases h : a.val < 16
  · rw [dif_pos h, dif_pos (show 1024 + a.val - 1024 < 16 by omega)]
    exact congrArg (fun z => (c2 * TF x2 x3 x7 ⟨o + r.val, by omega⟩ z : EReal)) (Fin.ext (Nat.add_sub_cancel_left ..).symm)
  · rw [dif_neg h, dif_neg (show ¬ 1024 + a.val - 1024 < 16 by omega)]

theorem lhsPieceB (o : ℕ) (ho : o + 512 ≤ 4096) (i3 : ∀ d, (![o, 1024] : Fin 2 → ℕ) d + S512x48.size d ≤ S4096x1152.size d)
    (i4 : ∀ d, (![o, 1024] : Fin 2 → ℕ) d + S512x128.size d ≤ S4096x1152.size d) (acc : S4096x1152.Idx → Prop) (x : S512x128.Idx) :
    ((Rect.unit (s := S4096x1152) ![o, 1024] S512x128.size i4).emb x ∈ (Rect.unit (s := S4096x1152) ![o, 1024] S512x48.size i3).set ∨ acc ((Rect.unit (s := S4096x1152) ![o, 1024] S512x128.size i4).emb x))
      ∨ (k0_pay29 : FVec Ideal S512x128 .bf16) x = LHSF x2 x3 x5 x7 ((Rect.unit (s := S4096x1152) ![o, 1024] S512x128.size i4).emb x) := by
  obtain ⟨r, a, rfl⟩ : ∃ (r : Fin 512) (a : Fin 128), x = ix2 r a := ⟨x 0, x 1, eq_ix2 x⟩
  have he : (Rect.unit (s := S4096x1152) ![o, 1024] S512x128.size i4).emb (ix2 r a) = ix2 ⟨o + r.val, by omega⟩ ⟨1024 + a.val, by omega⟩ :=
    emb2 (M := 4096) (N := 1152) (m := 512) (n := 128) i4 ho (by omega) r a
  by_cases h : a.val < 48
  · left; left
    rw [he, Rect.mem_set_unit]
    intro d
    match d with
    | ⟨0, _⟩ => exact ⟨by show o ≤ o + r.val; omega, by show o + r.val < o + 512; omega⟩
    | ⟨1, _⟩ => exact ⟨by show 1024 ≤ 1024 + a.val; omega, by show 1024 + a.val < 1024 + 48; omega⟩
  · right
    rw [he]
    show _ = LHSG x2 x3 x5 x7 ⟨o + r.val, by omega⟩ ⟨1024 + a.val, by omega⟩
    unfold LHSG
    rw [dif_neg (show ¬ 1024 + a.val < 1024 by omega), dif_neg (show ¬ 1024 + a.val - 1024 < 16 by omega)]
    exact Ideal.ofBits_zero_bf16

theorem agreeStep (hT : ∀ r k, Fin' (TF x2 x3 x7 r k)) (o : ℕ) (ho : o + 512 ≤ 4096)
    (i1 : ∀ d, (![o, 0] : Fin 2 → ℕ) d + S512x1024.size d ≤ S4096x1024.size d) (i2 : ∀ d, (![o, 0] : Fin 2 → ℕ) d + S512x32.size d ≤ S4096x32.size d)
    (i3 : ∀ d, (![0, 0] : Fin 2 → ℕ) d + S16x1024.size d ≤ S16x1024.size d) (i3' : ∀ d, (![0, 0] : Fin 2 → ℕ) d + S1x1024.size d ≤ S1x1024.size d)
    (i4 : ∀ d, (![o, 1024] : Fin 2 → ℕ) d + S512x48.size d ≤ S4096x1152.size d) (i5 : ∀ d, (![o, 1024] : Fin 2 → ℕ) d + S512x128.size d ≤ S4096x1152.size d)
    (i6 : ∀ d, (![o, 0] : Fin 2 → ℕ) d + S512x1024.size d ≤ S4096x1152.size d) (L : List (View.Piece (Elt Ideal) S4096x1152 .bf16))
    (h : ∀ acc, Agree (LHSF x2 x3 x5 x7) acc L) (acc : S4096x1152.Idx → Prop) :
    Agree (LHSF x2 x3 x5 x7) acc
      (⟨Rect.unit (s := S4096x1152) ![o, 1024] S512x48.size i4, k0_pay30 (widenY (View.ld x2 (Rect.unit (s := S4096x1024) ![o, 0] S512x1024.size i1)) (padY (View.ld x3 (Rect.unit (s := S4096x32) ![o, 0] S512x32.size i2)))) (View.ld x7 (Rect.unit (s := S16x1024) ![0, 0] S16x1024.size i3))⟩ ::
        ⟨Rect.unit (s := S4096x1152) ![o, 1024] S512x128.size i5, (k0_pay29 : FVec Ideal S512x128 .bf16)⟩ ::
        ⟨Rect.unit (s := S4096x1152) ![o, 0] S512x1024.size i6, lhsMain (View.ld x5 (Rect.unit (s := S1x1024) ![0, 0] S1x1024.size i3')) (widenY (View.ld x2 (Rect.unit (s := S4096x1024) ![o, 0] S512x1024.size i1)) (padY (View.ld x3 (Rect.unit (s := S4096x32) ![o, 0] S512x32.size i2))))⟩ :: L) :=
  ⟨fun x => Or.inr (lhsPieceC x2 x3 x5 x7 hT o ho i1 i2 i3 i4 x), fun x => lhsPieceB x2 x3 x5 x7 o ho i4 i5 acc x, fun x => Or.inr (lhsPieceA x2 x3 x5 x7 o ho i1 i2 i3' i6 x), h _⟩

theorem lhsCanon (hT : ∀ r k, Fin' (TF x2 x3 x7 r k)) : View.canon (lhsPieces x2 (pads x3) x5 x7) = LHSF x2 x3 x5 x7 := by
  funext y
  refine canon_of_agree (LHSF x2 x3 x5 x7) _ (fun _ => False) ?_ y (fun h => h) (cover_of_dropThird _ ![512, 128] (by sl_kernel_rfl) y)
  generalize (fun _ : S4096x1152.Idx => False) = acc
  revert acc
  unfold lhsPieces
  refine agreeStep x2 x3 x5 x7 hT 3584 (by omega) (by decide) (by decide) (by decide) (by decide) (by decide) (by decide) (by decide) _ ?_
  refine agreeStep x2 x3 x5 x7 hT 3072 (by omega) (by decide) (by decide) (by decide) (by decide) (by decide) (by decide) (by decide) _ ?_
  refine agreeStep x2 x3 x5 x7 hT 2560 (by omega) (by decide) (by decide) (by decide) (by decide) (by decide) (by decide) (by decide) _ ?_
  refine agreeStep x2 x3 x5 x7 hT 2048 (by omega) (by decide) (by decide) (by decide) (by decide) (by decide) (by decide) (by decide) _ ?_
  refine agreeStep x2 x3 x5 x7 hT 1536 (by omega) (by decide) (by decide) (by decide) (by decide) (by decide) (by decide) (by decide) _ ?_
  refine agreeStep x2 x3 x5 x7 hT 1024 (by omega) (by decide) (by decide) (by decide) (by decide) (by decide) (by decide) (by decide) _ ?_
  refine agreeStep x2 x3 x5 x7 hT 512 (by omega) (by decide) (by decide) (by decide) (by decide) (by decide) (by decide) (by decide) _ ?_
  refine agreeStep x2 x3 x5 x7 hT 0 (by omega) (by decide) (by decide) (by decide) (by decide) (by decide) (by decide) (by decide) _ ?_
  exact fun _ => trivial

end Cert.KernelIdeal.Gen

end
-- ==== Proof.Arr2.lean ====
module

public import proofs.«01_k».proof.Proof.Arr
public import Idealize.ShloMosaic.Lib.Pointwise
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A sum over `n = a * b` indices is the sum over `a` blocks of `b` indices each. -/
theorem sumBlocks {A : Type} [AddCommMonoid A] {n : ℕ} (a b : ℕ) (h : n = a * b) (f : Fin n → A) :
    ∑ x, f x = ∑ c : Fin a, ∑ s : Fin b, f ⟨b * c.val + s.val, by subst h; have := c.isLt; have := s.isLt; calc b * c.val + s.val < b * c.val + b := by omega
      _ = (c.val + 1) * b := by ring
      _ ≤ a * b := Nat.mul_le_mul_right b (by omega)⟩ := by
  subst h
  rw [← Equiv.sum_comp finProdFinEquiv, Fintype.sum_prod_type]
  refine Finset.sum_congr rfl fun c _ => Finset.sum_congr rfl fun s _ => congrArg f (Fin.ext ?_)
  show s.val + b * c.val = _
  exact Nat.add_comm _ _

/-- A sum over 4096 rows, accumulated chunk by chunk of 512. -/
theorem sumChunks (f : Fin 4096 → EReal) : ((((((((0 + (∑ s : Fin 512, f ⟨0 + s.val, by omega⟩)) + (∑ s : Fin 512, f ⟨512 + s.val, by omega⟩)) + (∑ s : Fin 512, f ⟨1024 + s.val, by omega⟩)) + (∑ s : Fin 512, f ⟨1536 + s.val, by omega⟩)) + (∑ s : Fin 512, f ⟨2048 + s.val, by omega⟩)) + (∑ s : Fin 512, f ⟨2560 + s.val, by omega⟩)) + (∑ s : Fin 512, f ⟨3072 + s.val, by omega⟩)) + (∑ s : Fin 512, f ⟨3584 + s.val, by omega⟩) : EReal) = ∑ r, f r := by
  rw [sumBlocks 8 512 rfl f, Fin.sum_univ_eight, zero_add]
  rfl

/-- A column block of `x` widened: its codes times the scales of their groups of 32. -/
def XW (fb : ℕ) (hfb : fb ≤ 112) (x0 : Vec Ideal S4096x512 .fp8e4m3) (x1 : Vec Ideal S4096x128 .f32) (r : Fin 4096) (j : Fin 512) : EReal :=
  (x0 (ix2 r j) * (x1 (ix2 r ⟨fb + j.val / 32, by omega⟩) : EReal) : EReal)

/-- A block of the input gradient. -/
def DXF (x4 : Vec Ideal S512x1024 .fp8e4m3) (x6 : Vec Ideal S16x512 .bf16) (L : Vec Ideal S4096x1152 .bf16) : Vec Ideal S4096x512 .bf16 := fun y =>
  ((∑ o : Fin 1024, ((L (ix2 (y 0) ⟨o.val, by omega⟩) : EReal) * (x4 (ix2 (y 1) o) : EReal) : EReal))
    + ∑ a : Fin 128, ((L (ix2 (y 0) ⟨1024 + a.val, by omega⟩) : EReal) * (k0_pay455 x6 (ix2 a (y 1)) : EReal) : EReal) : EReal)

theorem dxPiece (x4 : Vec Ideal S512x1024 .fp8e4m3) (x6 : Vec Ideal S16x512 .bf16) (L : Vec Ideal S4096x1152 .bf16) (o : ℕ) (ho : o + 512 ≤ 4096)
    (i1 : ∀ d, (![0, 0] : Fin 2 → ℕ) d + S16x512.size d ≤ S16x512.size d) (i2 : ∀ d, (![o, 0] : Fin 2 → ℕ) d + S512x1024.size d ≤ S4096x1152.size d)
    (i3 : ∀ d, (![0, 0] : Fin 2 → ℕ) d + S512x1024.size d ≤ S512x1024.size d) (i4 : ∀ d, (![o, 1024] : Fin 2 → ℕ) d + S512x128.size d ≤ S4096x1152.size d)
    (i5 : ∀ d, (![o, 0] : Fin 2 → ℕ) d + S512x512.size d ≤ S4096x512.size d) (x : S512x512.Idx) :
    k0_pay457 (View.ld x6 (Rect.unit (s := S16x512) ![0, 0] S16x512.size i1)) (View.ld L (Rect.unit (s := S4096x1152) ![o, 0] S512x1024.size i2))
        (View.ld x4 (Rect.unit (s := S512x1024) ![0, 0] S512x1024.size i3)) (View.ld L (Rect.unit (s := S4096x1152) ![o, 1024] S512x128.size i4)) x
      = DXF x4 x6 L ((Rect.unit (s := S4096x512) ![o, 0] S512x512.size i5).emb x) := by
  refine piece2 (e := .bf16) (M := 4096) (N := 512) (m := 512) (n := 512) (DXF x4 x6 L) i5 _ ho (by omega) (fun r j => ?_) x
  rw [pay457_apply, ldAll (e := .bf16) (M := 16) (N := 512) x6 i1, ldAll (e := .fp8e4m3) (M := 512) (N := 1024) x4 i3]
  have ej : (⟨0 + j.val, by omega⟩ : Fin 512) = j := Fin.ext (Nat.zero_add _)
  show _ = ((∑ q : Fin 1024, ((L (ix2 ⟨o + r.val, by omega⟩ ⟨q.val, by omega⟩) : EReal) * (x4 (ix2 ⟨0 + j.val, by omega⟩ q) : EReal) : EReal))
    + ∑ a : Fin 128, ((L (ix2 ⟨o + r.val, by omega⟩ ⟨1024 + a.val, by omega⟩) : EReal) * (k0_pay455 x6 (ix2 a ⟨0 + j.val, by omega⟩) : EReal) : EReal) : EReal)
  rw [ej]
  refine congrArg₂ (fun u v : EReal => u + v) (Finset.sum_congr rfl fun q _ => ?_) (Finset.sum_congr rfl fun a _ => ?_)
  · rw [ld2 (e := .bf16) (M := 4096) (N := 1152) (m := 512) (n := 1024) L i2 r q ho (by omega)]
    exact congrArg (fun z : Fin 1152 => ((L (ix2 ⟨o + r.val, by omega⟩ z) : EReal) * (x4 (ix2 j q) : EReal) : EReal)) (Fin.ext (Nat.zero_add _))
  · rw [ld2 (e := .bf16) (M := 4096) (N := 1152) (m := 512) (n := 128) L i4 r a ho (by omega)]

theorem dxCanon (x4 : Vec Ideal S512x1024 .fp8e4m3) (x6 : Vec Ideal S16x512 .bf16) (L : Vec Ideal S4096x1152 .bf16) :
    View.canon (dxPieces x4 x6 L) = DXF x4 x6 L := by
  funext y
  refine View.canon_apply_of_pieces (DXF x4 x6 L) _ ?_ y (View.cover_of_tiledBy _ ![512, 512] (by sl_kernel_rfl) y)
  intro p hp
  unfold dxPieces at hp
  simp only [List.mem_cons, List.not_mem_nil, or_false] at hp
  rcases hp with rfl | rfl | rfl | rfl | rfl | rfl | rfl | rfl <;> exact dxPiece x4 x6 L _ (by omega) _ _ _ _ (by decide)

section

variable (fb : ℕ) (hfb : fb ≤ 112) (x0 : Vec Ideal S4096x512 .fp8e4m3) (x1 : Vec Ideal S4096x128 .f32)

theorem chunkX (o : ℕ) (ho : o + 512 ≤ 4096)
    (i1 : ∀ d, (![o, 0] : Fin 2 → ℕ) d + S512x512.size d ≤ S4096x512.size d) (i2 : ∀ d, (![o, 0] : Fin 2 → ℕ) d + S512x128.size d ≤ S4096x128.size d) (s j : Fin 512) :
    (View.ld x0 (Rect.unit (s := S4096x512) ![o, 0] S512x512.size i1) (ix2 s j) * (View.ld x1 (Rect.unit (s := S4096x128) ![o, 0] S512x128.size i2) (ix2 s ⟨fb + j.val / 32, by omega⟩) : EReal) : EReal)
      = XW fb hfb x0 x1 ⟨o + s.val, by omega⟩ j := by
  rw [ld2 (e := .fp8e4m3) (M := 4096) (N := 512) (m := 512) (n := 512) x0 i1 s j ho (by omega),
    ld2 (e := .f32) (M := 4096) (N := 128) (m := 512) (n := 128) x1 i2 s ⟨fb + j.val / 32, by omega⟩ ho (by omega)]
  unfold XW
  have e1 : (⟨0 + j.val, by omega⟩ : Fin 512) = j := Fin.ext (Nat.zero_add _)
  have e2 : (⟨0 + (fb + j.val / 32), by omega⟩ : Fin 128) = ⟨fb + j.val / 32, by omega⟩ := Fin.ext (Nat.zero_add _)
  exact congrArg₂ (fun (u : Fin 512) (v : Fin 128) => (x0 (ix2 ⟨o + s.val, by omega⟩ u) * (x1 (ix2 ⟨o + s.val, by omega⟩ v) : EReal) : EReal)) e1 e2

/-- One step of the product with `lora_a`: what was accumulated plus this column block's part. -/
def XAF (x6 : Vec Ideal S16x512 .bf16) (old : Vec Ideal S16x4096 .f32) : Vec Ideal S16x4096 .f32 := fun y =>
  ((old (ix2 (y 0) (y 1)) : EReal) + ∑ j : Fin 512, XW fb hfb x0 x1 (y 1) j * (x6 (ix2 (y 0) j) : EReal) : EReal)

theorem xaPiece (x6 : Vec Ideal S16x512 .bf16) (old : Vec Ideal S16x4096 .f32) (o : ℕ) (ho : o + 512 ≤ 4096)
    (i1 : ∀ d, (![o, 0] : Fin 2 → ℕ) d + S512x512.size d ≤ S4096x512.size d) (i2 : ∀ d, (![o, 0] : Fin 2 → ℕ) d + S512x128.size d ≤ S4096x128.size d)
    (i3 : ∀ d, (![0, 0] : Fin 2 → ℕ) d + S16x512.size d ≤ S16x512.size d) (i4 : ∀ d, (![0, o] : Fin 2 → ℕ) d + S16x512.size d ≤ S16x4096.size d) (x : S16x512.Idx) :
    xatStep (BitVec.ofNat 32 fb) (View.ld x0 (Rect.unit (s := S4096x512) ![o, 0] S512x512.size i1)) (View.ld x1 (Rect.unit (s := S4096x128) ![o, 0] S512x128.size i2))
        (View.ld x6 (Rect.unit (s := S16x512) ![0, 0] S16x512.size i3)) (View.ld old (Rect.unit (s := S16x4096) ![0, o] S16x512.size i4)) x
      = XAF fb hfb x0 x1 x6 old ((Rect.unit (s := S16x4096) ![0, o] S16x512.size i4).emb x) := by
  refine piece2 (e := .f32) (M := 16) (N := 4096) (m := 16) (n := 512) (XAF fb hfb x0 x1 x6 old) i4 _ (by omega) ho (fun k s => ?_) x
  rw [xatStep_apply fb hfb, ldAll (e := .bf16) (M := 16) (N := 512) x6 i3, ld2 (e := .f32) (M := 16) (N := 4096) (m := 16) (n := 512) old i4 k s (by omega) ho]
  have ek : (⟨0 + k.val, by omega⟩ : Fin 16) = k := Fin.ext (Nat.zero_add _)
  show _ = ((old (ix2 ⟨0 + k.val, by omega⟩ ⟨o + s.val, by omega⟩) : EReal) + ∑ j : Fin 512, XW fb hfb x0 x1 ⟨o + s.val, by omega⟩ j * (x6 (ix2 ⟨0 + k.val, by omega⟩ j) : EReal) : EReal)
  rw [ek]
  refine congrArg (fun v : EReal => (old (ix2 k ⟨o + s.val, by omega⟩) : EReal) + v) (Finset.sum_congr rfl fun j _ => ?_)
  rw [chunkX fb hfb x0 x1 o ho i1 i2 s j]

theorem xaCanon (x6 : Vec Ideal S16x512 .bf16) (old : Vec Ideal S16x4096 .f32) :
    View.canon (xatPieces (BitVec.ofNat 32 fb) x0 x1 x6 old) = XAF fb hfb x0 x1 x6 old := by
  funext y
  refine View.canon_apply_of_pieces (XAF fb hfb x0 x1 x6 old) _ ?_ y (View.cover_of_tiledBy _ ![16, 512] (by sl_kernel_rfl) y)
  intro p hp
  unfold xatPieces at hp
  simp only [List.mem_cons, List.not_mem_nil, or_false] at hp
  rcases hp with rfl | rfl | rfl | rfl | rfl | rfl | rfl | rfl <;> exact xaPiece fb hfb x0 x1 x6 old _ (by omega) _ _ _ (by decide)

/-- The array of zeros. -/
def ZF : Vec Ideal S16x4096 .f32 := fun _ => (0 : EReal)

theorem zCanon : View.canon (zPieces : List (View.Piece (Elt Ideal) S16x4096 .f32)) = ZF := by
  funext y
  refine View.canon_apply_of_pieces (ZF) _ ?_ y (View.cover_of_tiledBy _ ![16, 512] (by sl_kernel_rfl) y)
  intro p hp
  unfold zPieces at hp
  simp only [List.mem_cons, List.not_mem_nil, or_false] at hp
  rcases hp with rfl | rfl | rfl | rfl | rfl | rfl | rfl | rfl <;> exact fun _ => Ideal.ofBits_zero_f32

theorem datStep (y15 : Vec Ideal S48x4096 .bf16) (acc : FVec Ideal S48x512 .f32) (o : ℕ) (ho : o + 512 ≤ 4096)
    (i1 : ∀ d, (![o, 0] : Fin 2 → ℕ) d + S512x512.size d ≤ S4096x512.size d) (i2 : ∀ d, (![o, 0] : Fin 2 → ℕ) d + S512x128.size d ≤ S4096x128.size d)
    (i3 : ∀ d, (![0, o] : Fin 2 → ℕ) d + S48x512.size d ≤ S48x4096.size d) (a : Fin 48) (j : Fin 512) :
    datAcc (BitVec.ofNat 32 fb) acc (View.ld x0 (Rect.unit (s := S4096x512) ![o, 0] S512x512.size i1)) (View.ld x1 (Rect.unit (s := S4096x128) ![o, 0] S512x128.size i2))
        (View.ld y15 (Rect.unit (s := S48x4096) ![0, o] S48x512.size i3)) (ix2 a j)
      = ((acc (ix2 a j) : EReal) + ∑ s : Fin 512, (fun r : Fin 4096 => ((y15 (ix2 a r) : EReal) * XW fb hfb x0 x1 r j : EReal)) ⟨o + s.val, by omega⟩ : EReal) := by
  rw [datAcc_apply fb hfb]
  refine congrArg (fun v : EReal => (acc (ix2 a j) : EReal) + v) (Finset.sum_congr rfl fun s _ => ?_)
  rw [chunkX fb hfb x0 x1 o ho i1 i2 s j, ld2 (e := .bf16) (M := 48) (N := 4096) (m := 48) (n := 512) y15 i3 a s (by omega) ho]
  exact congrArg (fun z : Fin 48 => ((y15 (ix2 z ⟨o + s.val, by omega⟩) : EReal) * XW fb hfb x0 x1 ⟨o + s.val, by omega⟩ j : EReal)) (Fin.ext (Nat.zero_add _))

/-- A column block of the gradient of `lora_a`, transposed. -/
theorem datOut_apply (y15 : Vec Ideal S48x4096 .bf16) (T : Fin 16 → Fin 4096 → EReal)
    (h15 : ∀ a r, y15 (ix2 a r) = if h : a.val < 16 then (c2 * T ⟨a.val, h⟩ r : EReal) else (0 : EReal)) (k : Fin 16) (j : Fin 512) :
    datOut (BitVec.ofNat 32 fb) x0 x1 y15 (ix2 k j) = ∑ r : Fin 4096, (c2 * T k r : EReal) * XW fb hfb x0 x1 r j := by
  have hz : ∀ a : Fin 48, ¬ a.val < 16 → (∑ r : Fin 4096, ((y15 (ix2 a r) : EReal) * XW fb hfb x0 x1 r j : EReal)) = 0 := fun a ha =>
    Finset.sum_eq_zero fun r _ => by rw [h15, dif_neg ha]; exact zero_mul _
  have hs : (∑ r : Fin 4096, ((y15 (ix2 ⟨k.val, by omega⟩ r) : EReal) * XW fb hfb x0 x1 r j : EReal)) = ∑ r : Fin 4096, (c2 * T k r : EReal) * XW fb hfb x0 x1 r j :=
    Finset.sum_congr rfl fun r _ => by rw [h15, dif_pos k.isLt]
  unfold datOut
  generalize ha8 : datAcc (F := Ideal) (BitVec.ofNat 32 fb) _ _ _ _ = a8
  have h8 : ∀ a, a8 (ix2 a j) = ∑ r : Fin 4096, ((y15 (ix2 a r) : EReal) * XW fb hfb x0 x1 r j : EReal) := by
    intro a
    rw [← ha8]
    refine Eq.trans ?_ (sumChunks fun r => ((y15 (ix2 a r) : EReal) * XW fb hfb x0 x1 r j : EReal))
    refine (datStep fb hfb x0 x1 y15 _ 3584 (by omega) (by decide) (by decide) (by decide) a j).trans (congrArg (fun v : EReal => v + _) ?_)
    refine (datStep fb hfb x0 x1 y15 _ 3072 (by omega) (by decide) (by decide) (by decide) a j).trans (congrArg (fun v : EReal => v + _) ?_)
    refine (datStep fb hfb x0 x1 y15 _ 2560 (by omega) (by decide) (by decide) (by decide) a j).trans (congrArg (fun v : EReal => v + _) ?_)
    refine (datStep fb hfb x0 x1 y15 _ 2048 (by omega) (by decide) (by decide) (by decide) a j).trans (congrArg (fun v : EReal => v + _) ?_)
    refine (datStep fb hfb x0 x1 y15 _ 1536 (by omega) (by decide) (by decide) (by decide) a j).trans (congrArg (fun v : EReal => v + _) ?_)
    refine (datStep fb hfb x0 x1 y15 _ 1024 (by omega) (by decide) (by decide) (by decide) a j).trans (congrArg (fun v : EReal => v + _) ?_)
    refine (datStep fb hfb x0 x1 y15 _ 512 (by omega) (by decide) (by decide) (by decide) a j).trans (congrArg (fun v : EReal => v + _) ?_)
    refine (datStep fb hfb x0 x1 y15 _ 0 (by omega) (by decide) (by decide) (by decide) a j).trans (congrArg (fun v : EReal => v + _) ?_)
    exact Ideal.ofBits_zero_f32
  refine (datSum_apply a8 k j).trans ?_
  rw [h8, h8, h8, hs, hz ⟨16 + k.val, by omega⟩ (by simp), hz ⟨32 + k.val, by omega⟩ (by show ¬ 32 + k.val < 16; omega), add_zero, add_zero]

end

variable (x2 : Vec Ideal S4096x1024 .fp8e5m2) (x3 : Vec Ideal S4096x32 .f32)

theorem dbStep (xa : Vec Ideal S16x4096 .f32) (hxa : ∀ k r, Fin' (xa (ix2 k r))) (acc : FVec Ideal S48x1024 .f32) (o : ℕ) (ho : o + 512 ≤ 4096)
    (i1 : ∀ d, (![o, 0] : Fin 2 → ℕ) d + S512x1024.size d ≤ S4096x1024.size d) (i2 : ∀ d, (![o, 0] : Fin 2 → ℕ) d + S512x32.size d ≤ S4096x32.size d)
    (i3 : ∀ d, (![0, o] : Fin 2 → ℕ) d + S16x512.size d ≤ S16x4096.size d) (a : Fin 48) (q : Fin 1024) :
    dbAcc acc (View.ld xa (Rect.unit (s := S16x4096) ![0, o] S16x512.size i3))
        (widenY (View.ld x2 (Rect.unit (s := S4096x1024) ![o, 0] S512x1024.size i1)) (padY (View.ld x3 (Rect.unit (s := S4096x32) ![o, 0] S512x32.size i2)))) (ix2 a q)
      = ((acc (ix2 a q) : EReal) + ∑ s : Fin 512, (fun r : Fin 4096 => ((if h : a.val < 16 then (c2 * (xa (ix2 ⟨a.val, h⟩ r) : EReal) : EReal) else 0) * YW x2 x3 r q : EReal)) ⟨o + s.val, by omega⟩ : EReal) := by
  rw [dbAcc_apply]
  have hl : ∀ (k : Fin 16) (s : Fin 512), View.ld xa (Rect.unit (s := S16x4096) ![0, o] S16x512.size i3) (ix2 k s) = xa (ix2 k ⟨o + s.val, by omega⟩) := fun k s => by
    rw [ld2 (e := .f32) (M := 16) (N := 4096) (m := 16) (n := 512) xa i3 k s (by omega) ho]
    exact congrArg (fun z : Fin 16 => xa (ix2 z ⟨o + s.val, by omega⟩)) (Fin.ext (Nat.zero_add _))
  refine congrArg (fun v : EReal => (acc (ix2 a q) : EReal) + v) (Finset.sum_congr rfl fun s _ => ?_)
  rw [chunkY x2 x3 o ho i1 i2 s q, split2_apply _ (fun k s => by rw [hl]; exact hxa _ _)]
  refine congrArg (fun v : EReal => v * YW x2 x3 ⟨o + s.val, by omega⟩ q) ?_
  by_cases h : a.val < 16
  · rw [dif_pos h, dif_pos h, hl]
  · rw [dif_neg h, dif_neg h]

/-- The gradient of `lora_b`. -/
theorem dbOut_apply (xa : Vec Ideal S16x4096 .f32) (hxa : ∀ k r, Fin' (xa (ix2 k r))) (k : Fin 16) (q : Fin 1024) :
    dbOut x2 (pads x3) xa (ix2 k q) = ∑ r : Fin 4096, (c2 * (xa (ix2 k r) : EReal) : EReal) * YW x2 x3 r q := by
  have hz : ∀ a : Fin 48, ¬ a.val < 16 → (∑ r : Fin 4096, ((if h : a.val < 16 then (c2 * (xa (ix2 ⟨a.val, h⟩ r) : EReal) : EReal) else 0) * YW x2 x3 r q : EReal)) = 0 := fun a ha =>
    Finset.sum_eq_zero fun r _ => by rw [dif_neg ha]; exact zero_mul _
  have hs : (∑ r : Fin 4096, ((if h : (⟨k.val, by omega⟩ : Fin 48).val < 16 then (c2 * (xa (ix2 ⟨(⟨k.val, by omega⟩ : Fin 48).val, h⟩ r) : EReal) : EReal) else 0) * YW x2 x3 r q : EReal)) = ∑ r : Fin 4096, (c2 * (xa (ix2 k r) : EReal) : EReal) * YW x2 x3 r q :=
    Finset.sum_congr rfl fun r _ => by rw [dif_pos k.isLt]
  unfold dbOut
  generalize ha8 : dbAcc (F := Ideal) _ _ _ = a8
  have h8 : ∀ a, a8 (ix2 a q) = ∑ r : Fin 4096, ((if h : a.val < 16 then (c2 * (xa (ix2 ⟨a.val, h⟩ r) : EReal) : EReal) else 0) * YW x2 x3 r q : EReal) := by
    intro a
    rw [← ha8]
    refine Eq.trans ?_ (sumChunks fun r => ((if h : a.val < 16 then (c2 * (xa (ix2 ⟨a.val, h⟩ r) : EReal) : EReal) else 0) * YW x2 x3 r q : EReal))
    refine (dbStep x2 x3 xa hxa _ 3584 (by omega) (by decide) (by decide) (by decide) a q).trans (congrArg (fun v : EReal => v + _) ?_)
    refine (dbStep x2 x3 xa hxa _ 3072 (by omega) (by decide) (by decide) (by decide) a q).trans (congrArg (fun v : EReal => v + _) ?_)
    refine (dbStep x2 x3 xa hxa _ 2560 (by omega) (by decide) (by decide) (by decide) a q).trans (congrArg (fun v : EReal => v + _) ?_)
    refine (dbStep x2 x3 xa hxa _ 2048 (by omega) (by decide) (by decide) (by decide) a q).trans (congrArg (fun v : EReal => v + _) ?_)
    refine (dbStep x2 x3 xa hxa _ 1536 (by omega) (by decide) (by decide) (by decide) a q).trans (congrArg (fun v : EReal => v + _) ?_)
    refine (dbStep x2 x3 xa hxa _ 1024 (by omega) (by decide) (by decide) (by decide) a q).trans (congrArg (fun v : EReal => v + _) ?_)
    refine (dbStep x2 x3 xa hxa _ 512 (by omega) (by decide) (by decide) (by decide) a q).trans (congrArg (fun v : EReal => v + _) ?_)
    refine (dbStep x2 x3 xa hxa _ 0 (by omega) (by decide) (by decide) (by decide) a q).trans (congrArg (fun v : EReal => v + _) ?_)
    exact Ideal.ofBits_zero_f32
  pointwise
  refine (congrArg₂ (fun u v : EReal => u + v) (congrArg₂ (fun u v : EReal => u + v) (h8 _) (h8 _)) (h8 _)).trans ?_
  rw [hz ⟨16 + k.val, by omega⟩ (by simp), hz ⟨32 + k.val, by omega⟩ (by show ¬ 32 + k.val < 16; omega), add_zero, add_zero]
  exact hs

end Cert.KernelIdeal.Gen

end
-- ==== Proof.Split.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first scale block of the grid point's tile of `x`, as the body computes it. -/
def fbW (i : grid0.Coords) : BitVec 32 :=
  let arg0 : BitVec 32 := BitVec.ofNat 32 (i 0).val
  let v7 : BitVec 1 := Scalar.cmpi .eq 8#32 0#32
  let v8 : BitVec 32 := Scalar.select v7 1#32 8#32
  let v9 : BitVec 32 := Scalar.remsi arg0 v8
  let v10 : BitVec 1 := Scalar.cmpi .ne v9 0#32
  let v11 : BitVec 1 := Scalar.cmpi .slt v9 0#32
  let v12 : BitVec 1 := Scalar.cmpi .slt v8 0#32
  let v13 : BitVec 1 := Scalar.xori v11 v12
  let v14 : BitVec 1 := Scalar.andi v13 v10
  let v15 : BitVec 32 := Scalar.addi v9 v8
  let v16 : BitVec 32 := Scalar.select v14 v15 v9
  let v17 : BitVec 32 := Scalar.muli v16 16#32
  v17

/-- What the body does at the first grid point only: the upstream gradient widened and stored, with its products by `lora_b`. -/
noncomputable def initG (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) : Prog (TpuEff nD τ sig (Elt F) Λ₀ .tc) PUnit := do
  let ⟨v1454, v3985, v3986, v3987, v4025, v4063, v4101, v4139, c32_i32_1336, v4141, v4144, v4146⟩ : Σ' (v1454 : FVec F S1x1024 .bf16) (v3985 : FVec F S512x1024 .fp8e5m2) (v3986 : Vec F S512x128 .f32) (v3987 : IVec S512x128 32) (v4025 : FVec F S512x128 .bf16) (v4063 : FVec F S512x128 .bf16) (v4101 : FVec F S512x128 .bf16) (v4139 : FVec F S512x128 .bf16) (c32_i32_1336 : BitVec 32) (v4141 : IVec S512x128 32) (v4144 : IVec S512x128 32), IVec S512x128 1 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let ⟨v4177, v4179, v4193, v4194⟩ : Σ' (v4177 : FVec F S512x128 .bf16) (v4179 : IVec S512x128 32) (v4193 : IVec S512x128 1), IVec S512x128 32 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3985 v3986 v3987 c32_i32_1336 v4141 v4144 v4146
  let ⟨v4215, v4241⟩ : Σ' (v4215 : FVec F S512x128 .bf16), IVec S512x128 32 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3985 v3986 v3987 v4179 v4193 v4194
  let ⟨v4253, v4288, v4289⟩ : Σ' (v4253 : FVec F S512x128 .bf16) (v4288 : FVec F S512x128 .bf16), FVec F S512x128 .fp8e5m2 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3985 v3986 v3987 v4241
  let ⟨v4325, v4329⟩ : Σ' (v4325 : FVec F S512x48 .bf16), FVec F S512x128 .bf16 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1454 v4025 v4063 v4101 v4139 v4177 v4215 v4253 v4288 v4289
  Prog.lift (.store arg14 (Rect.unit (s := S4096x1152) ![3584, 1024] S512x128.size inb_S4096x1152_S512x128_3584_1024) v4329 Finset.univ (View.stores_vmem h_S512x128 (harg14.storeExact_slice rfl _ packedbf16_S4096x1152_S512x128_3584_1024) (fun _ => rfl)) (.inl rfl))
  let v4330 : Vec F S512x48 .bf16 ← Prog.lift (.load arg14 (Rect.unit (s := S4096x1152) ![3584, 1024] S512x48.size inb_S4096x1152_S512x48_3584_1024).toLoadRect (View.loadsAt_vmem h_S512x48))
  Prog.lift (.store arg14 (Rect.unit (s := S4096x1152) ![3584, 1024] S512x48.size inb_S4096x1152_S512x48_3584_1024) (k0_pay452 v4325) Finset.univ (View.stores_vmem h_S512x48 (harg14.storeExact_slice rfl _ packedbf16_S4096x1152_S512x48_3584_1024) (fun _ => rfl)) (.inl rfl))
  let v4334 : Vec F S16x512 .f32 ← Prog.lift (.load arg13 (Rect.unit (s := S16x4096) ![0, 3584] S16x512.size inb_S16x4096_S16x512_0_3584).toLoadRect (View.loadsAt_vmem h_S16x512))
  Prog.lift (.store arg13 (Rect.unit (s := S16x4096) ![0, 3584] S16x512.size inb_S16x4096_S16x512_0_3584) (k0_pay453 (F := F)) Finset.univ (View.stores_vmem_bits_univ h_S16x512 rfl) (.inl rfl))
  pure ⟨⟩

/-- What the body does at every grid point. -/
noncomputable def commonG (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) (next : Prog (TpuEff nD τ sig (Elt F) Λ₀ .tc) PUnit) : Prog (TpuEff nD τ sig (Elt F) Λ₀ .tc) PUnit := do
  let v3 : Vec F S16x512 .bf16 ← Prog.lift (.load arg7 (Rect.unit (s := S16x512) ![0, 0] S16x512.size inb_S16x512_S16x512_0_0).toLoadRect (View.loadsAt_vmem h_S16x512))
  let v17 : BitVec 32 := fbW i
  let v19 : Vec F S512x1024 .bf16 ← Prog.lift (.load arg14 (Rect.unit (s := S4096x1152) ![0, 0] S512x1024.size inb_S4096x1152_S512x1024_0_0).toLoadRect (View.loadsAt_vmem h_S512x1024))
  let v20 : Vec F S512x1024 .fp8e4m3 ← Prog.lift (.load arg5 (Rect.unit (s := S512x1024) ![0, 0] S512x1024.size inb_S512x1024_S512x1024_0_0).toLoadRect (View.loadsAt_vmem h_S512x1024))
  let v22 : Vec F S512x128 .bf16 ← Prog.lift (.load arg14 (Rect.unit (s := S4096x1152) ![0, 1024] S512x128.size inb_S4096x1152_S512x128_0_1024).toLoadRect (View.loadsAt_vmem h_S512x128))
  let v26 : Vec F S512x512 .bf16 ← Prog.lift (.load arg9 (Rect.unit (s := S4096x512) ![0, 0] S512x512.size inb_S4096x512_S512x512_0_0).toLoadRect (View.loadsAt_vmem h_S512x512))
  Prog.lift (.store arg9 (Rect.unit (s := S4096x512) ![0, 0] S512x512.size inb_S4096x512_S512x512_0_0) (k0_pay457 v3 v19 v20 v22) Finset.univ (View.stores_vmem h_S512x512 (harg9.storeExact_slice rfl _ packedbf16_S4096x512_S512x512_0_0) (fun _ => rfl)) (.inl rfl))
  let v27 : Vec F S512x512 .fp8e4m3 ← Prog.lift (.load arg1 (Rect.unit (s := S4096x512) ![0, 0] S512x512.size inb_S4096x512_S512x512_0_0).toLoadRect (View.loadsAt_vmem h_S512x512))
  let v29 : Vec F S512x128 .f32 ← Prog.lift (.load arg2 (Rect.unit (s := S4096x128) ![0, 0] S512x128.size inb_S4096x128_S512x128_0_0).toLoadRect (View.loadsAt_vmem h_S512x128))
  let v4 := k0_pay454 v3
  let v6 := k0_pay455 v3
  let v18 := k0_pay456 (F := F)
  let v28 := k0_pay458 v27
  let ⟨v30, v31, v70, c32_i32_28, v72, v75, v76⟩ : Σ' (v30 : FVec F S512x128 .f32) (v31 : IVec S512x128 32) (v70 : FVec F S512x128 .bf16) (c32_i32_28 : BitVec 32) (v72 : IVec S512x128 32) (v75 : IVec S512x128 32), IVec S512x128 32 ← k0_part125 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v28 v29
  let ⟨v109, c32_i32_37, v111, v118, v124⟩ : Σ' (v109 : FVec F S512x128 .bf16) (c32_i32_37 : BitVec 32) (v111 : IVec S512x128 32) (v118 : IVec S512x128 32), IVec S512x128 32 ← k0_part126 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v28 v30 v31 c32_i32_28 v72 v75 v76
  let ⟨v148, v172⟩ : Σ' (v148 : FVec F S512x128 .bf16), IVec S512x128 32 ← k0_part127 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v28 v30 v31 c32_i32_37 v111 v118 v124
  let ⟨v191, v206⟩ : Σ' (v191 : FVec F S48x512 .f32), FVec F S512x512 .fp8e4m3 ← k0_part128 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v17 v18 v28 v30 v70 v109 v148 v172
  let ⟨v208, v209, v248, c32_i32_87, v250, v253⟩ : Σ' (v208 : FVec F S512x128 .f32) (v209 : IVec S512x128 32) (v248 : FVec F S512x128 .bf16) (c32_i32_87 : BitVec 32) (v250 : IVec S512x128 32), IVec S512x128 32 ← k0_part129 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v206
  let ⟨v287, c32_i32_97, v289, v296, v298, v300⟩ : Σ' (v287 : FVec F S512x128 .bf16) (c32_i32_97 : BitVec 32) (v289 : IVec S512x128 32) (v296 : IVec S512x128 32) (v298 : BitVec 32), BitVec 32 ← k0_part130 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v206 v208 v209 c32_i32_87 v250 v253
  let ⟨v326, v328, v347, v348⟩ : Σ' (v326 : FVec F S512x128 .bf16) (v328 : IVec S512x128 32) (v347 : IVec S512x128 1), IVec S512x128 32 ← k0_part131 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v206 v208 v209 c32_i32_97 v289 v296 v298 v300
  let ⟨v369, v383⟩ : Σ' (v369 : FVec F S48x512 .f32), Vec F S512x512 .fp8e4m3 ← k0_part132 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v17 v191 v206 v208 v248 v287 v326 v328 v347 v348
  let ⟨v384, v386, v387, v426, c32_i32_149, v428, v429⟩ : Σ' (v384 : FVec F S512x512 .fp8e4m3) (v386 : FVec F S512x128 .f32) (v387 : IVec S512x128 32) (v426 : FVec F S512x128 .bf16) (c32_i32_149 : BitVec 32) (v428 : IVec S512x128 32), IVec S512x128 32 ← k0_part133 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v383
  let ⟨v465, c32_i32_159, v467, v474, v476, c0_i32_163⟩ : Σ' (v465 : FVec F S512x128 .bf16) (c32_i32_159 : BitVec 32) (v467 : IVec S512x128 32) (v474 : IVec S512x128 32) (v476 : BitVec 32), BitVec 32 ← k0_part134 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v384 v386 v387 c32_i32_149 v428 v429
  let ⟨v504, v506, v525⟩ : Σ' (v504 : FVec F S512x128 .bf16) (v506 : IVec S512x128 32), IVec S512x128 1 ← k0_part135 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v384 v386 v387 c32_i32_159 v467 v474 v476 c0_i32_163
  let v547 : FVec F S48x512 .f32 ← k0_part136 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v17 v369 v384 v386 v426 v465 v504 v506 v525
  let ⟨v562, v564, v565, v604, c32_i32_210, v606⟩ : Σ' (v562 : FVec F S512x512 .fp8e4m3) (v564 : FVec F S512x128 .f32) (v565 : IVec S512x128 32) (v604 : FVec F S512x128 .bf16) (c32_i32_210 : BitVec 32), IVec S512x128 32 ← k0_part137 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17
  let ⟨v643, c32_i32_220, v645, v652, v653⟩ : Σ' (v643 : FVec F S512x128 .bf16) (c32_i32_220 : BitVec 32) (v645 : IVec S512x128 32) (v652 : IVec S512x128 32), BitVec 1 ← k0_part138 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v562 v564 v565 c32_i32_210 v606
  let ⟨v682, v684, v698, v700, v701⟩ : Σ' (v682 : FVec F S512x128 .bf16) (v684 : IVec S512x128 32) (v698 : IVec S512x128 1) (v700 : IVec S512x128 32), IVec S512x128 32 ← k0_part139 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v562 v564 v565 c32_i32_220 v645 v652 v653
  let ⟨v725, v737⟩ : Σ' (v725 : FVec F S48x512 .f32), FVec F S512x512 .bf16 ← k0_part140 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v17 v547 v562 v564 v604 v643 v682 v684 v698 v700 v701
  let ⟨v740, v742, v743, v782, c32_i32_271⟩ : Σ' (v740 : FVec F S512x512 .fp8e4m3) (v742 : FVec F S512x128 .f32) (v743 : IVec S512x128 32) (v782 : FVec F S512x128 .bf16), BitVec 32 ← k0_part141 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v737
  let ⟨v821, c32_i32_281, v823, v830⟩ : Σ' (v821 : FVec F S512x128 .bf16) (c32_i32_281 : BitVec 32) (v823 : IVec S512x128 32), IVec S512x128 32 ← k0_part142 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v740 v742 v743 c32_i32_271
  let ⟨v860, v862, v876, v878⟩ : Σ' (v860 : FVec F S512x128 .bf16) (v862 : IVec S512x128 32) (v876 : IVec S512x128 1), IVec S512x128 32 ← k0_part143 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v740 v742 v743 c32_i32_281 v823 v830
  let ⟨v903, v915⟩ : Σ' (v903 : FVec F S48x512 .f32), FVec F S512x512 .bf16 ← k0_part144 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v17 v725 v740 v742 v782 v821 v860 v862 v876 v878
  let ⟨v918, v920, v921, v957, v959⟩ : Σ' (v918 : FVec F S512x512 .fp8e4m3) (v920 : FVec F S512x128 .f32) (v921 : IVec S512x128 32) (v957 : FVec F S512x128 .bf16), FVec F S512x128 .bf16 ← k0_part145 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v915
  let ⟨v960, v999, c32_i32_342, v1001, v1004, v1006⟩ : Σ' (v960 : FVec F S512x128 .bf16) (v999 : FVec F S512x128 .bf16) (c32_i32_342 : BitVec 32) (v1001 : IVec S512x128 32) (v1004 : IVec S512x128 32), IVec S512x128 1 ← k0_part146 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v918 v920 v921 v957 v959
  let ⟨v1038, c32_i32_352, v1040, v1054⟩ : Σ' (v1038 : FVec F S512x128 .bf16) (c32_i32_352 : BitVec 32) (v1040 : IVec S512x128 32), IVec S512x128 1 ← k0_part147 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v918 v920 v921 c32_i32_342 v1001 v1004 v1006
  let ⟨v1081, v1092⟩ : Σ' (v1081 : FVec F S48x512 .f32), FVec F S512x512 .f32 ← k0_part148 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v17 v903 v918 v920 v921 v960 v999 v1038 c32_i32_352 v1040 v1054
  let ⟨v1096, v1098, v1099, v1135⟩ : Σ' (v1096 : FVec F S512x512 .fp8e4m3) (v1098 : FVec F S512x128 .f32) (v1099 : IVec S512x128 32), FVec F S512x128 .bf16 ← k0_part149 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v1092
  let ⟨v1138, v1177, c32_i32_403, v1179, v1182, c0_i32_405⟩ : Σ' (v1138 : FVec F S512x128 .bf16) (v1177 : FVec F S512x128 .bf16) (c32_i32_403 : BitVec 32) (v1179 : IVec S512x128 32) (v1182 : IVec S512x128 32), BitVec 32 ← k0_part150 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v1096 v1098 v1099 v1135
  let ⟨v1216, c32_i32_413, v1218, v1225, v1230⟩ : Σ' (v1216 : FVec F S512x128 .bf16) (c32_i32_413 : BitVec 32) (v1218 : IVec S512x128 32) (v1225 : IVec S512x128 32), BitVec 32 ← k0_part151 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v1096 v1098 v1099 c32_i32_403 v1179 v1182 c0_i32_405
  let ⟨v1259, v1267, v1268, cst_437⟩ : Σ' (v1259 : FVec F S48x512 .f32) (v1267 : FVec F S512x512 .f32) (v1268 : Vec F S512x128 .bf16), FVec F S512x512 .f32 ← k0_part152 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v17 v1081 v1096 v1098 v1099 v1138 v1177 v1216 c32_i32_413 v1218 v1225 v1230
  let ⟨v1274, v1276, v1277, v1311⟩ : Σ' (v1274 : FVec F S512x512 .fp8e4m3) (v1276 : FVec F S512x128 .f32) (v1277 : IVec S512x128 32), IVec S512x128 32 ← k0_part153 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v6 v17 v1267 v1268 cst_437
  let ⟨v1316, v1355, c32_i32_464, v1357, v1359⟩ : Σ' (v1316 : FVec F S512x128 .bf16) (v1355 : FVec F S512x128 .bf16) (c32_i32_464 : BitVec 32) (v1357 : IVec S512x128 32), IVec S512x128 1 ← k0_part154 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v1274 v1276 v1277 v1311
  let ⟨v1394, c32_i32_474, v1396, v1403, v1405, v1406⟩ : Σ' (v1394 : FVec F S512x128 .bf16) (c32_i32_474 : BitVec 32) (v1396 : IVec S512x128 32) (v1403 : IVec S512x128 32) (v1405 : BitVec 32), BitVec 1 ← k0_part155 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v1274 v1276 v1277 c32_i32_464 v1357 v1359
  let c31_i32 : BitVec 32 ← k0_part156 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v17 v1259 v1274 v1276 v1277 v1316 v1355 v1394 c32_i32_474 v1396 v1403 v1405 v1406
  next

/-- What the body does at the last grid point only: the gradient of `lora_b`. -/
noncomputable def finG (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) : Prog (TpuEff nD τ sig (Elt F) Λ₀ .tc) PUnit := do
  let ⟨v3776, v4094, v4098⟩ : Σ' (v3776 : FVec F S48x1024 .f32) (v4094 : FVec F S512x1024 .bf16), FVec F S16x512 .f32 ← k0_part123 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let v4114 : Vec F S16x1024 .f32 ← Prog.lift (.load arg11 (Rect.unit (s := S16x1024) ![0, 0] S16x1024.size inb_S16x1024_S16x1024_0_0).toLoadRect (View.loadsAt_vmem h_S16x1024))
  Prog.lift (.store arg11 (Rect.unit (s := S16x1024) ![0, 0] S16x1024.size inb_S16x1024_S16x1024_0_0) (k0_pay1 v3776 v4094 v4098) Finset.univ (View.stores_vmem_bits_univ h_S16x1024 rfl) (.inl rfl))
  pure ⟨⟩

/-- The body, its conditionals decided (case A). -/
theorem body_A (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) (hc0 : k0_cond1 i = 1#1) (hc1 : ¬ k0_cond2 i = 1#1) :
    cc0_lora_fp8_backward (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = (initG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun _ => commonG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (pure ⟨⟩)) := by
  rw [cc0_lora_fp8_backward_eq_skeleton]; unfold cc0_lora_fp8_backward_skel
  rw [k0_part124_eq_skeleton]; unfold k0_part124_skel commonG fbW initG
  simp only [dif_pos hc0, dif_neg hc1, bind_assoc, pure_bind]

/-- The body, its conditionals decided (case B). -/
theorem body_B (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) (hc0 : ¬ k0_cond1 i = 1#1) (hc1 : ¬ k0_cond2 i = 1#1) :
    cc0_lora_fp8_backward (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = (commonG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (pure ⟨⟩)) := by
  rw [cc0_lora_fp8_backward_eq_skeleton]; unfold cc0_lora_fp8_backward_skel
  rw [k0_part124_eq_skeleton]; unfold k0_part124_skel commonG fbW
  simp only [dif_neg hc0, dif_neg hc1, bind_assoc, pure_bind]

/-- The body, its conditionals decided (case C). -/
theorem body_C (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) (hc0 : ¬ k0_cond1 i = 1#1) (hc1 : k0_cond2 i = 1#1) :
    cc0_lora_fp8_backward (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = (commonG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (finG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)) := by
  rw [cc0_lora_fp8_backward_eq_skeleton]; unfold cc0_lora_fp8_backward_skel
  rw [k0_part124_eq_skeleton]; unfold k0_part124_skel commonG fbW finG
  simp only [dif_neg hc0, dif_pos hc1, bind_assoc, pure_bind]

end Cert.KernelIdeal.Gen

end
-- ==== Proof.Init.lean ====
module

public import proofs.«01_k».proof.Proof.Split
public import proofs.«01_k».proof.Proof.Canon
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem initG_run (c : Dev nD) (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole)
    (x2 : Vec F S4096x1024 .fp8e5m2) (x3 : Vec F S4096x32 .f32) (x5 : Vec F S1x1024 .f32) (x7 : Vec F S16x1024 .bf16)
    (E : Set ℕ) (K : PUnit → sProp 𝕄) :
    iprop(owns (c : Thread nD τ) arg3 fullShare x2 ∗ owns (c : Thread nD τ) arg4 fullShare x3 ∗ owns (c : Thread nD τ) arg6 fullShare x5 ∗ owns (c : Thread nD τ) arg8 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x2 ∗ owns (c : Thread nD τ) arg4 fullShare x3 ∗ owns (c : Thread nD τ) arg6 fullShare x5 ∗ owns (c : Thread nD τ) arg8 fullShare x7 ∗ owns (c : Thread nD τ) arg12 fullShare (View.canon (ttPieces x2 (pads x3) x7)) ∗ owns (c : Thread nD τ) arg13 fullShare (View.canon zPieces) ∗ owns (c : Thread nD τ) arg14 fullShare (View.canon (lhsPieces x2 (pads x3) x5 x7)) ∗ owns (c : Thread nD τ) arg15 fullShare (View.canon (tt3Pieces x2 (pads x3) x7)) ∗ (∃ d, owns (c : Thread nD τ) arg16 fullShare d)) -∗ K ⟨⟩))
      ⊢ wp frame (wpE (defs₀ (F := F)) Variants.none c none) E (initG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold initG
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
  unfold owns
  iintro ⟨⟨%f3, %hf3, H2⟩, ⟨%f4, %hf4, H3⟩, ⟨%f6, %hf6, H5⟩, ⟨%f8, %hf8, H7⟩, ⟨%d12, %f12, -, H11⟩, ⟨%d13, %f13, -, H12⟩, ⟨%d14, %f14, -, HS0⟩, ⟨%d15, %f15, -, HS1⟩, ⟨%d16, %f16, -, HS2⟩, Hk⟩
  subst hf3 hf4 hf6 hf8
  sl_exec
  have hP : pads (View.read (Elt F) arg4.view f4) = (fun n => match n with
    | 0 => initG_run.sl.v1466 c arg4 arg16 f4
    | 1 => initG_run.sl.v1826 c arg4 arg16 f4
    | 2 => initG_run.sl.v2186 c arg4 arg16 f4
    | 3 => initG_run.sl.v2546 c arg4 arg16 f4
    | 4 => initG_run.sl.v2906 c arg4 arg16 f4
    | 5 => initG_run.sl.v3266 c arg4 arg16 f4
    | 6 => initG_run.sl.v3626 c arg4 arg16 f4
    | _ => initG_run.sl.v3986 c arg4 arg16 f4) := by
    funext n
    rcases n with _ | _ | _ | _ | _ | _ | _ | n <;> exact (readPad _ _ _).symm
  rw [hP]
  simp only [wp_ret]
  imodintro
  iapply Hk
  isplitl [H2]
  · iexists _; isplitr; swap; · iexact H2
    ipureintro; rfl
  isplitl [H3]
  · iexists _; isplitr; swap; · iexact H3
    ipureintro; rfl
  isplitl [H5]
  · iexists _; isplitr; swap; · iexact H5
    ipureintro; rfl
  isplitl [H7]
  · iexists _; isplitr; swap; · iexact H7
    ipureintro; rfl
  isplitl [H11]
  · iexists _; isplitr; swap; · iexact H11
    ipureintro; exact (View.read_writes_eq_canon _ _ _ (View.cover_of_tiled _ S16x512.size (by rfl)))
  isplitl [H12]
  · iexists _; isplitr; swap; · iexact H12
    ipureintro; exact (View.read_writes_eq_canon _ _ _ (View.cover_of_tiled _ S16x512.size (by rfl)))
  isplitl [HS0]
  · iexists _; isplitr; swap; · iexact HS0
    ipureintro; exact (View.read_writes_eq_canon _ _ _ (cover_of_dropThird _ ![512, 128] (by sl_kernel_rfl)))
  isplitl [HS1]
  · iexists _; isplitr; swap; · iexact HS1
    ipureintro; exact (View.read_writes_eq_canon _ _ _ (View.cover_of_tiled _ S48x512.size (by rfl)))
  iexists _; iexists _; isplitr; swap; · iexact HS2
  ipureintro; rfl

end Cert.KernelIdeal.Gen

end
-- ==== Proof.Fin.lean ====
module

public import proofs.«01_k».proof.Proof.Split
public import proofs.«01_k».proof.Proof.Canon
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem finG_run (c : Dev nD) (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole)
    (x2 : Vec F S4096x1024 .fp8e5m2) (x3 : Vec F S4096x32 .f32) (y13 : Vec F S16x4096 .f32)
    (E : Set ℕ) (K : PUnit → sProp 𝕄) :
    iprop(owns (c : Thread nD τ) arg3 fullShare x2 ∗ owns (c : Thread nD τ) arg4 fullShare x3 ∗ (∃ d, owns (c : Thread nD τ) arg11 fullShare d) ∗ owns (c : Thread nD τ) arg13 fullShare y13 ∗ (∃ d, owns (c : Thread nD τ) arg16 fullShare d)
        ∗ (iprop(owns (c : Thread nD τ) arg3 fullShare x2 ∗ owns (c : Thread nD τ) arg4 fullShare x3 ∗ owns (c : Thread nD τ) arg11 fullShare (dbOut x2 (pads x3) y13) ∗ owns (c : Thread nD τ) arg13 fullShare y13 ∗ (∃ d, owns (c : Thread nD τ) arg16 fullShare d)) -∗ K ⟨⟩))
      ⊢ wp frame (wpE (defs₀ (F := F)) Variants.none c none) E (finG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold finG
  simp only [k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton]
  unfold owns
  iintro ⟨⟨%f3, %hf3, H2⟩, ⟨%f4, %hf4, H3⟩, ⟨%d11, %f11, -, H10⟩, ⟨%f13, %hf13, H12⟩, ⟨%d16, %f16, -, HS2⟩, Hk⟩
  subst hf3 hf4 hf13
  sl_exec
  have hP : pads (View.read (Elt F) arg4.view f4) = (fun n => match n with
    | 0 => finG_run.sl.v1464 c arg4 arg16 f4
    | 1 => finG_run.sl.v1796 c arg4 arg16 f4
    | 2 => finG_run.sl.v2128 c arg4 arg16 f4
    | 3 => finG_run.sl.v2460 c arg4 arg16 f4
    | 4 => finG_run.sl.v2792 c arg4 arg16 f4
    | 5 => finG_run.sl.v3124 c arg4 arg16 f4
    | 6 => finG_run.sl.v3456 c arg4 arg16 f4
    | _ => finG_run.sl.v3788 c arg4 arg16 f4) := by
    funext n
    rcases n with _ | _ | _ | _ | _ | _ | _ | n <;> exact (readPad _ _ _).symm
  rw [hP]
  simp only [wp_ret]
  imodintro
  iapply Hk
  isplitl [H2]
  · iexists _; isplitr; swap; · iexact H2
    ipureintro; rfl
  isplitl [H3]
  · iexists _; isplitr; swap; · iexact H3
    ipureintro; rfl
  isplitl [H10]
  · iexists _; isplitr; swap; · iexact H10
    ipureintro; exact (View.read_writes_eq_canon _ _ _ (View.cover_of_tiled _ S16x1024.size (by rfl))).trans (View.canon_unit_zero (by funext a; fin_cases a <;> rfl) _ _)
  isplitl [H12]
  · iexists _; isplitr; swap; · iexact H12
    ipureintro; rfl
  iexists _; iexists _; isplitr; swap; · iexact HS2
  ipureintro; rfl

end Cert.KernelIdeal.Gen

end
-- ==== Proof.Common.lean ====
module

public import proofs.«01_k».proof.Proof.Split
public import proofs.«01_k».proof.Proof.Canon
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem commonG_run (c : Dev nD) (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) (next : Prog (TpuEff nD τ sig (Elt F) Λ₀ .tc) PUnit)
    (x0 : Vec F S4096x512 .fp8e4m3) (x1 : Vec F S4096x128 .f32) (x4 : Vec F S512x1024 .fp8e4m3) (x6 : Vec F S16x512 .bf16) (y13 : Vec F S16x4096 .f32) (y14 : Vec F S4096x1152 .bf16) (y15 : Vec F S48x4096 .bf16)
    (E : Set ℕ) (K : PUnit → sProp 𝕄) :
    iprop(owns (c : Thread nD τ) arg1 fullShare x0 ∗ owns (c : Thread nD τ) arg2 fullShare x1 ∗ owns (c : Thread nD τ) arg5 fullShare x4 ∗ owns (c : Thread nD τ) arg7 fullShare x6 ∗ (∃ d, owns (c : Thread nD τ) arg9 fullShare d) ∗ (∃ d, owns (c : Thread nD τ) arg10 fullShare d) ∗ owns (c : Thread nD τ) arg13 fullShare y13 ∗ owns (c : Thread nD τ) arg14 fullShare y14 ∗ owns (c : Thread nD τ) arg15 fullShare y15
        ∗ (iprop(owns (c : Thread nD τ) arg1 fullShare x0 ∗ owns (c : Thread nD τ) arg2 fullShare x1 ∗ owns (c : Thread nD τ) arg5 fullShare x4 ∗ owns (c : Thread nD τ) arg7 fullShare x6 ∗ owns (c : Thread nD τ) arg9 fullShare (View.canon (dxPieces x4 x6 y14)) ∗ owns (c : Thread nD τ) arg10 fullShare (datOut (fbW i) x0 x1 y15) ∗ owns (c : Thread nD τ) arg13 fullShare (View.canon (xatPieces (fbW i) x0 x1 x6 y13)) ∗ owns (c : Thread nD τ) arg14 fullShare y14 ∗ owns (c : Thread nD τ) arg15 fullShare y15) -∗ wp frame (wpE (defs₀ (F := F)) Variants.none c none) E next K))
      ⊢ wp frame (wpE (defs₀ (F := F)) Variants.none c none) E (commonG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 next) K := by
  unfold commonG
  simp only [k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton]
  unfold owns
  iintro ⟨⟨%f0, %hf0, H0⟩, ⟨%f1, %hf1, H1⟩, ⟨%f4, %hf4, H4⟩, ⟨%f6, %hf6, H6⟩, ⟨%d8, %f8, -, H8⟩, ⟨%d9, %f9, -, H9⟩, ⟨%f12, %hf12, H12⟩, ⟨%fs0, %hfs0, HS0⟩, ⟨%fs1, %hfs1, HS1⟩, Hk⟩
  subst hf0 hf1 hf4 hf6 hf12 hfs0 hfs1
  sl_exec
  iapply Hk
  isplitl [H0]
  · iexists _; isplitr; swap; · iexact H0
    ipureintro; rfl
  isplitl [H1]
  · iexists _; isplitr; swap; · iexact H1
    ipureintro; rfl
  isplitl [H4]
  · iexists _; isplitr; swap; · iexact H4
    ipureintro; rfl
  isplitl [H6]
  · iexists _; isplitr; swap; · iexact H6
    ipureintro; rfl
  isplitl [H8]
  · iexists _; isplitr; swap; · iexact H8
    ipureintro; exact View.read_writes_eq_canon _ _ _ (View.cover_of_tiled _ S512x512.size (by rfl))
  isplitl [H9]
  · iexists _; isplitr; swap; · iexact H9
    ipureintro; exact (View.read_writes_eq_canon _ _ _ (View.cover_of_tiled _ S16x512.size (by rfl))).trans (View.canon_unit_zero (by funext a; fin_cases a <;> rfl) _ _)
  isplitl [H12]
  · iexists _; isplitr; swap; · iexact H12
    ipureintro; exact View.read_writes_eq_canon _ _ _ (View.cover_of_tiled _ S16x512.size (by rfl))
  isplitl [HS0]
  · iexists _; isplitr; swap; · iexact HS0
    ipureintro; rfl
  iexists _; isplitr; swap; · iexact HS1
  ipureintro; rfl

end Cert.KernelIdeal.Gen

end
-- ==== Proof.Runs.lean ====
/- What the runs of the idealized kernel's body share: the branch conditions as facts about the grid point, the
   staging and scratch buffers by name, the invariant the scratch buffers are kept under. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4096x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1024 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x4096 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x4096 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S4096x1152 .bf16 := Memref.whole cc0_scratch0
abbrev scM0_1 : Memref sig .tc .vmem S48x4096 .bf16 := Memref.whole cc0_scratch1
abbrev scM0_2 : Memref sig .tc .vmem S512x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Pipe.lean ====
module

public import proofs.«01_k».proof.Proof.Init
public import proofs.«01_k».proof.Proof.Fin
public import proofs.«01_k».proof.Proof.Common
public import proofs.«01_k».proof.Proof.Runs
public import Idealize.ShloMosaic.Lib.Pipeline.FrameSuffix

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The first grid point. -/
def t0 : Fin cfg0.N := ⟨0, by rw [show cfg0.N = 32 from N_0]; decide⟩

/-- The left operand of the input-gradient product, as the first grid point leaves it. -/
def LHS (c : Dev nD) : Vec F S4096x1152 .bf16 := View.canon (lhsPieces (iblk m c 2 t0) (pads (iblk m c 3 t0)) (iblk m c 5 t0) (iblk m c 7 t0))
/-- The split product `lora_b · dyᵀ`, as the first grid point leaves it. -/
def TT3 (c : Dev nD) : Vec F S48x4096 .bf16 := View.canon (tt3Pieces (iblk m c 2 t0) (pads (iblk m c 3 t0)) (iblk m c 7 t0))
/-- The product `lora_b · dyᵀ`, as the first grid point leaves it. -/
def TT (c : Dev nD) : Vec F S16x4096 .f32 := View.canon (ttPieces (iblk m c 2 t0) (pads (iblk m c 3 t0)) (iblk m c 7 t0))
/-- The partial sums of `x · lora_a` before grid point `n`. -/
def XA (c : Dev nD) : ℕ → Vec F S16x4096 .f32
  | 0 => View.canon zPieces
  | n + 1 => if h : n < cfg0.N then View.canon (xatPieces (fbW (grid0.coords ⟨n, h⟩)) (iblk m c 0 ⟨n, h⟩) (iblk m c 1 ⟨n, h⟩) (iblk m c 6 ⟨n, h⟩) (XA c n)) else XA c n
/-- The gradient of `lora_b`. -/
def DB (c : Dev nD) : Vec F S16x1024 .f32 := dbOut (iblk m c 2 t0) (pads (iblk m c 3 t0)) (XA m c 32)
/-- The tile of the input gradient of grid point `t`. -/
def DX (c : Dev nD) (t : Fin cfg0.N) : Vec F S4096x512 .bf16 := View.canon (dxPieces (iblk m c 4 t) (iblk m c 6 t) (LHS m c))
/-- The tile of the `lora_a` gradient of grid point `t`. -/
def DAT (c : Dev nD) (t : Fin cfg0.N) : Vec F S16x512 .f32 := datOut (fbW (grid0.coords t)) (iblk m c 0 t) (iblk m c 1 t) (TT3 m c)

/-- The invariant before point `n`: nothing kept at the start; then the two operands the first point built. -/
def PhiS (c : Dev nD) : ℕ → sProp 𝕄
  | 0 => Pipeline.ΦA spec0 c
  | _ + 1 => iprop(iprop(owns (c : Thread nD τ) scM0_0 fullShare (LHS m c) ∗ owns (c : Thread nD τ) scM0_1 fullShare (TT3 m c) ∗ (∃ d, owns (c : Thread nD τ) scM0_2 fullShare d)) ∗ (∃ r, prngReg c r))

/-- The proof data of the pipeline on core `c`: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => DX m c t
    | ⟨9, _⟩ => DAT m c t
    | ⟨10, _⟩ => DB m c
    | ⟨11, _⟩ => TT m c
    | ⟨12, _⟩ => XA m c (t.val + 1)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = DX m c t := by dsimp only [dats]
theorem after0_9 (c : Dev nD) (t : Fin cfg0.N) : (dats m 0 c).after 9 t = DAT m c t := by dsimp only [dats]
theorem after0_10 (c : Dev nD) (t : Fin cfg0.N) : (dats m 0 c).after 10 t = DB m c := by dsimp only [dats]
theorem after0_11 (c : Dev nD) (t : Fin cfg0.N) : (dats m 0 c).after 11 t = TT m c := by dsimp only [dats]
theorem after0_12 (c : Dev nD) (t : Fin cfg0.N) : (dats m 0 c).after 12 t = XA m c (t.val + 1) := by dsimp only [dats]
theorem before0_0 (c : Dev nD) (t : Fin cfg0.N) (d) : (dats m 0 c).before 0 t d = iblk m c 0 t :=
  before0_0_of m (dats m 0 c) (A_eq m c 0) (fun t => after0_0 m c t) t d
theorem before0_1 (c : Dev nD) (t : Fin cfg0.N) (d) : (dats m 0 c).before 1 t d = iblk m c 1 t :=
  before0_1_of m (dats m 0 c) (A_eq m c 1) (fun t => after0_1 m c t) t d
theorem before0_2 (c : Dev nD) (t : Fin cfg0.N) (d) : (dats m 0 c).before 2 t d = iblk m c 2 t :=
  before0_2_of m (dats m 0 c) (A_eq m c 2) (fun t => after0_2 m c t) t d
theorem before0_3 (c : Dev nD) (t : Fin cfg0.N) (d) : (dats m 0 c).before 3 t d = iblk m c 3 t :=
  before0_3_of m (dats m 0 c) (A_eq m c 3) (fun t => after0_3 m c t) t d
theorem before0_4 (c : Dev nD) (t : Fin cfg0.N) (d) : (dats m 0 c).before 4 t d = iblk m c 4 t :=
  before0_4_of m (dats m 0 c) (A_eq m c 4) (fun t => after0_4 m c t) t d
theorem before0_5 (c : Dev nD) (t : Fin cfg0.N) (d) : (dats m 0 c).before 5 t d = iblk m c 5 t :=
  before0_5_of m (dats m 0 c) (A_eq m c 5) (fun t => after0_5 m c t) t d
theorem before0_6 (c : Dev nD) (t : Fin cfg0.N) (d) : (dats m 0 c).before 6 t d = iblk m c 6 t :=
  before0_6_of m (dats m 0 c) (A_eq m c 6) (fun t => after0_6 m c t) t d
theorem before0_7 (c : Dev nD) (t : Fin cfg0.N) (d) : (dats m 0 c).before 7 t d = iblk m c 7 t :=
  before0_7_of m (dats m 0 c) (A_eq m c 7) (fun t => after0_7 m c t) t d
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_12 : ∀ t : Fin cfg0.N, cfg0.idle 12 (grid0.coords t) = false := fun _ => rfl
theorem lv0_0 (c : Dev nD) (t : Fin cfg0.N) : (dats m 0 c).leavesExact 0 t = owns (c : Thread nD τ) (ms0_0 t) fullShare (iblk m c 0 t) := by
  unfold Dat.leavesExact; rw [liveAt0_0 t, after0_0]
theorem lv0_1 (c : Dev nD) (t : Fin cfg0.N) : (dats m 0 c).leavesExact 1 t = owns (c : Thread nD τ) (ms0_1 t) fullShare (iblk m c 1 t) := by
  unfold Dat.leavesExact; rw [liveAt0_1 t, after0_1]
theorem lv0_2 (c : Dev nD) (t : Fin cfg0.N) : (dats m 0 c).leavesExact 2 t = owns (c : Thread nD τ) (ms0_2 t) fullShare (iblk m c 2 t) := by
  unfold Dat.leavesExact; rw [liveAt0_2 t, after0_2]
theorem lv0_3 (c : Dev nD) (t : Fin cfg0.N) : (dats m 0 c).leavesExact 3 t = owns (c : Thread nD τ) (ms0_3 t) fullShare (iblk m c 3 t) := by
  unfold Dat.leavesExact; rw [liveAt0_3 t, after0_3]
theorem lv0_4 (c : Dev nD) (t : Fin cfg0.N) : (dats m 0 c).leavesExact 4 t = owns (c : Thread nD τ) (ms0_4 t) fullShare (iblk m c 4 t) := by
  unfold Dat.leavesExact; rw [liveAt0_4 t, after0_4]
theorem lv0_5 (c : Dev nD) (t : Fin cfg0.N) : (dats m 0 c).leavesExact 5 t = owns (c : Thread nD τ) (ms0_5 t) fullShare (iblk m c 5 t) := by
  unfold Dat.leavesExact; rw [liveAt0_5 t, after0_5]
theorem lv0_6 (c : Dev nD) (t : Fin cfg0.N) : (dats m 0 c).leavesExact 6 t = owns (c : Thread nD τ) (ms0_6 t) fullShare (iblk m c 6 t) := by
  unfold Dat.leavesExact; rw [liveAt0_6 t, after0_6]
theorem lv0_7 (c : Dev nD) (t : Fin cfg0.N) : (dats m 0 c).leavesExact 7 t = owns (c : Thread nD τ) (ms0_7 t) fullShare (iblk m c 7 t) := by
  unfold Dat.leavesExact; rw [liveAt0_7 t, after0_7]
theorem lv0_8 (c : Dev nD) (t : Fin cfg0.N) : (dats m 0 c).leavesExact 8 t = owns (c : Thread nD τ) (ms0_8 t) fullShare (DX m c t) := by
  unfold Dat.leavesExact; rw [liveAt0_8 t, after0_8]
theorem lv0_9 (c : Dev nD) (t : Fin cfg0.N) : (dats m 0 c).leavesExact 9 t = owns (c : Thread nD τ) (ms0_9 t) fullShare (DAT m c t) := by
  unfold Dat.leavesExact; rw [liveAt0_9 t, after0_9]
theorem lv0_12 (c : Dev nD) (t : Fin cfg0.N) : (dats m 0 c).leavesExact 12 t = owns (c : Thread nD τ) (ms0_12 t) fullShare (XA m c (t.val + 1)) := by
  unfold Dat.leavesExact; rw [liveAt0_12 t, after0_12]
theorem iblk_const_2 (c : Dev nD) (t : Fin cfg0.N) : iblk m c 2 t = iblk m c 2 t0 := rfl
theorem iblk_const_3 (c : Dev nD) (t : Fin cfg0.N) : iblk m c 3 t = iblk m c 3 t0 := rfl
theorem iblk_const_5 (c : Dev nD) (t : Fin cfg0.N) : iblk m c 5 t = iblk m c 5 t0 := rfl
theorem iblk_const_7 (c : Dev nD) (t : Fin cfg0.N) : iblk m c 7 t = iblk m c 7 t0 := rfl

theorem idle10 (t : Fin cfg0.N) (h : ¬ k0_cond2 (grid0.coords t) = 1#1) : cfg0.idle 10 (grid0.coords t) = true := by
  show (!(k0_cond2 (grid0.coords t) == 1#1)) = true
  simp [h]
theorem live10 (t : Fin cfg0.N) (h : k0_cond2 (grid0.coords t) = 1#1) : cfg0.idle 10 (grid0.coords t) = false := by
  show (!(k0_cond2 (grid0.coords t) == 1#1)) = false
  simp [h]
theorem idle11 (t : Fin cfg0.N) (h : ¬ k0_cond1 (grid0.coords t) = 1#1) : cfg0.idle 11 (grid0.coords t) = true := by
  show (!(k0_cond1 (grid0.coords t) == 1#1)) = true
  simp [h]
theorem live11 (t : Fin cfg0.N) (h : k0_cond1 (grid0.coords t) = 1#1) : cfg0.idle 11 (grid0.coords t) = false := by
  show (!(k0_cond1 (grid0.coords t) == 1#1)) = false
  simp [h]
theorem noflush10 (t : Fin cfg0.N) (h : ¬ t.val % 32 = 31) : (cfg0.win 10).flush t = false :=
  Bool.eq_false_iff.mpr fun e => h ((flush0_10 t).mp e)
theorem noflush11 (t : Fin cfg0.N) (h : ¬ t.val % 32 = 31) : (cfg0.win 11).flush t = false :=
  Bool.eq_false_iff.mpr fun e => h ((flush0_11 t).mp e)
theorem noflush12 (t : Fin cfg0.N) (h : ¬ t.val % 32 = 31) : (cfg0.win 12).flush t = false :=
  Bool.eq_false_iff.mpr fun e => h ((flush0_12 t).mp e)

theorem lv0_10_idle (c : Dev nD) (t : Fin cfg0.N) (h : ¬ t.val % 32 = 31) :
    (dats m 0 c).leavesExact 10 t = iprop(∃ d, owns (c : Thread nD τ) (ms0_10 t) fullShare ((dats m 0 c).before 10 t d)) := by
  unfold Dat.leavesExact; rw [idle10 t (fun e => h ((hcond0_1 t).mp e)), noflush10 t h]
theorem lv0_10_last (c : Dev nD) (t : Fin cfg0.N) (h : t.val % 32 = 31) :
    (dats m 0 c).leavesExact 10 t = owns (c : Thread nD τ) (ms0_10 t) fullShare (DB m c) := by
  unfold Dat.leavesExact; rw [live10 t ((hcond0_1 t).mpr h), after0_10]
theorem lv0_11_first (c : Dev nD) (t : Fin cfg0.N) (h : t.val % 32 = 0) :
    (dats m 0 c).leavesExact 11 t = owns (c : Thread nD τ) (ms0_11 t) fullShare (TT m c) := by
  unfold Dat.leavesExact; rw [live11 t ((hcond0_0 t).mpr h), after0_11]
theorem lv0_11_idle (c : Dev nD) (t : Fin cfg0.N) (h0 : ¬ t.val % 32 = 0) (h : ¬ t.val % 32 = 31) :
    (dats m 0 c).leavesExact 11 t = iprop(∃ d, owns (c : Thread nD τ) (ms0_11 t) fullShare ((dats m 0 c).before 11 t d)) := by
  unfold Dat.leavesExact; rw [idle11 t (fun e => h0 ((hcond0_0 t).mp e)), noflush11 t h]
theorem lv0_11_last (c : Dev nD) (t : Fin cfg0.N) (h : t.val % 32 = 31) :
    (dats m 0 c).leavesExact 11 t = owns (c : Thread nD τ) (ms0_11 t) fullShare (TT m c) := by
  unfold Dat.leavesExact; rw [idle11 t (fun e => by have := (hcond0_0 t).mp e; omega), (flush0_11 t).mpr h, after0_11]

/-- Before a later point window 12 holds the partial sums the point before left. -/
theorem before0_12 (c : Dev nD) (t : Fin cfg0.N) (ht : t.val ≠ 0) (d) : (dats m 0 c).before 12 t d = XA m c t.val := by
  have hN : t.val < 32 := lt_of_lt_of_eq t.isLt (show cfg0.N = 32 from N_0)
  rw [Dat.before_of_pos _ _ t ht rfl, noflush12 _ (by show ¬ (t.val - 1) % 32 = 31; omega)]
  show (dats m 0 c).after 12 _ = _
  rw [after0_12]
  show XA m c (t.val - 1 + 1) = _
  rw [Nat.sub_add_cancel (by omega)]

/-- Before a later point window 11 holds what the first point left. -/
theorem before0_11 (c : Dev nD) : ∀ (n : ℕ) (t : Fin cfg0.N), t.val = n + 1 → ∀ d, (dats m 0 c).before 11 t d = TT m c := by
  intro n
  induction n with
  | zero =>
    intro t ht d
    rw [Dat.before_of_pos _ _ t (by omega) rfl, noflush11 _ (by show ¬ (t.val - 1) % 32 = 31; omega)]
    show Dat.left _ _ _ d = _
    unfold Dat.left
    rw [live11 _ ((hcond0_0 _).mpr (by show (t.val - 1) % 32 = 0; omega))]
    show (dats m 0 c).after 11 _ = _
    rw [after0_11]
  | succ n ih =>
    intro t ht d
    have hN : t.val < 32 := lt_of_lt_of_eq t.isLt (show cfg0.N = 32 from N_0)
    rw [Dat.before_of_pos _ _ t (by omega) rfl, noflush11 _ (by show ¬ (t.val - 1) % 32 = 31; omega)]
    show Dat.left _ _ _ d = _
    unfold Dat.left
    rw [idle11 _ (fun e => by have h : (t.val - 1) % 32 = 0 := (hcond0_0 _).mp e; omega)]
    exact ih _ (by show t.val - 1 = n + 1; omega) d

theorem XA_succ (c : Dev nD) (t : Fin cfg0.N) :
    XA m c (t.val + 1) = View.canon (xatPieces (fbW (grid0.coords t)) (iblk m c 0 t) (iblk m c 1 t) (iblk m c 6 t) (XA m c t.val)) := by
  rw [XA, dif_pos t.isLt]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem Phi_start (c : Dev nD) (t : Fin cfg0.N) : (dats m 0 c).Φ t.castSucc = PhiS m c t.val := by
  dsimp only [dats]; exact Pipeline.Dat.Φ_castSucc (fun n _ => PhiS m c n) t
theorem Phi_next (c : Dev nD) (t : Fin cfg0.N) : (dats m 0 c).Φ t.succ = PhiS m c (t.val + 1) := by
  dsimp only [dats]; rfl

set_option maxHeartbeats 4800000 in
/-- The body at the first point. -/
theorem sound_A (c : Dev nD) (t : Fin cfg0.N) (h0 : t.val % 32 = 0) (h1 : ¬ t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have ht : t.val = 0 := by omega
  unfold bodyPre bodyPost bodyAt0
  simp only [before0_0, before0_1, before0_2, before0_3, before0_4, before0_5, before0_6, before0_7, lv0_0, lv0_1, lv0_2, lv0_3, lv0_4, lv0_5, lv0_6, lv0_7, lv0_8, lv0_9, lv0_12]
  rw [Phi_start, Phi_next, ht, show (dats m 0 c).owesAt () t.succ = (dats m 0 c).owesAt () t.castSucc from rfl, lv0_10_idle m c t h1, lv0_11_first m c t h0]
  rw [show PhiS m c 0 = Pipeline.ΦA spec0 c from rfl, PhiA0_eq, PhiS]
  rw [body_A _ _ _ _ _ _ _ _ _ _ _ _ _ _ _ _ _ _ _ _ _ _ _ _ _ _ _ _ _ _ _ _ _ ((hcond0_0 t).mpr h0) (fun h => h1 ((hcond0_1 t).mp h)), wp_bind]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (initG_run c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (Memref.isWhole_whole _) _ (Memref.isWhole_whole _) _ (Memref.isWhole_whole _) (iblk m c 2 t) (iblk m c 3 t) (iblk m c 5 t) (iblk m c 7 t) Set.univ _)
  isplitl [H2]; · iexact H2
  isplitl [H3]; · iexact H3
  isplitl [H5]; · iexact H5
  isplitl [H7]; · iexact H7
  isplitl [H11]; · iexists _; iexact H11
  isplitl [H12]; · iexists _; iexact H12
  isplitl [HS0]; · iexact HS0
  isplitl [HS1]; · iexact HS1
  isplitl [HS2]; · iexact HS2
  iintro ⟨H2, H3, H5, H7, H11, H12, HS0, HS1, HS2⟩
  iapply (commonG_run c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (Memref.isWhole_whole _) _ (Memref.isWhole_whole _) _ (Memref.isWhole_whole _) _ (iblk m c 0 t) (iblk m c 1 t) (iblk m c 4 t) (iblk m c 6 t) _ _ _ Set.univ _)
  isplitl [H0]; · iexact H0
  isplitl [H1]; · iexact H1
  isplitl [H4]; · iexact H4
  isplitl [H6]; · iexact H6
  isplitl [H8]; · iexists _; iexact H8
  isplitl [H9]; · iexists _; iexact H9
  isplitl [H12]; · iexact H12
  isplitl [HS0]; · iexact HS0
  isplitl [HS1]; · iexact HS1
  iintro ⟨H0, H1, H4, H6, H8, H9, H12, HS0, HS1⟩
  simp only [wp_pure]
  imodintro
  rw [show XA m c (0 + 1) = _ from ht ▸ XA_succ m c t, show XA m c 0 = View.canon zPieces from rfl]
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  iexact H12

set_option maxHeartbeats 4800000 in
/-- The body between the first point and the last. -/
theorem sound_B (c : Dev nD) (t : Fin cfg0.N) (h0 : ¬ t.val % 32 = 0) (h1 : ¬ t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  obtain ⟨n, hn⟩ : ∃ n, t.val = n + 1 := ⟨t.val - 1, by omega⟩
  unfold bodyPre bodyPost bodyAt0
  simp only [before0_0, before0_1, before0_2, before0_3, before0_4, before0_5, before0_6, before0_7, lv0_0, lv0_1, lv0_2, lv0_3, lv0_4, lv0_5, lv0_6, lv0_7, lv0_8, lv0_9, lv0_12, before0_12 m c t (by omega)]
  rw [Phi_start, Phi_next, show (dats m 0 c).owesAt () t.succ = (dats m 0 c).owesAt () t.castSucc from rfl, lv0_10_idle m c t h1, lv0_11_idle m c t h0 h1, XA_succ m c t]
  rw [show PhiS m c t.val = PhiS m c (n + 1) from congrArg _ hn]
  unfold PhiS
  rw [body_B _ _ _ _ _ _ _ _ _ _ _ _ _ _ _ _ _ _ _ _ _ _ _ _ _ _ _ _ _ _ _ _ _ (fun h => h0 ((hcond0_0 t).mp h)) (fun h => h1 ((hcond0_1 t).mp h))]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (commonG_run c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (Memref.isWhole_whole _) _ (Memref.isWhole_whole _) _ (Memref.isWhole_whole _) _ (iblk m c 0 t) (iblk m c 1 t) (iblk m c 4 t) (iblk m c 6 t) (XA m c t.val) (LHS m c) (TT3 m c) Set.univ _)
  isplitl [H0]; · iexact H0
  isplitl [H1]; · iexact H1
  isplitl [H4]; · iexact H4
  isplitl [H6]; · iexact H6
  isplitl [H8]; · iexists _; iexact H8
  isplitl [H9]; · iexists _; iexact H9
  isplitl [H12]; · iexact H12
  isplitl [HS0]; · iexact HS0
  isplitl [HS1]; · iexact HS1
  iintro ⟨H0, H1, H4, H6, H8, H9, H12, HS0, HS1⟩
  simp only [wp_pure]
  imodintro
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexact H12

set_option maxHeartbeats 4800000 in
/-- The body at the last point. -/
theorem sound_C (c : Dev nD) (t : Fin cfg0.N) (h0 : ¬ t.val % 32 = 0) (h1 : t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  obtain ⟨n, hn⟩ : ∃ n, t.val = n + 1 := ⟨t.val - 1, by omega⟩
  have h31 : t.val + 1 = 32 := by omega
  unfold bodyPre bodyPost bodyAt0
  simp only [before0_0, before0_1, before0_2, before0_3, before0_4, before0_5, before0_6, before0_7, lv0_0, lv0_1, lv0_2, lv0_3, lv0_4, lv0_5, lv0_6, lv0_7, lv0_8, lv0_9, lv0_12, before0_12 m c t (by omega), before0_11 m c n t hn]
  rw [Phi_start, Phi_next, show (dats m 0 c).owesAt () t.succ = (dats m 0 c).owesAt () t.castSucc from rfl, lv0_10_last m c t h1, lv0_11_last m c t h1]
  rw [show PhiS m c t.val = PhiS m c (n + 1) from congrArg _ hn]
  unfold PhiS DB
  rw [← h31, XA_succ m c t]
  rw [body_C _ _ _ _ _ _ _ _ _ _ _ _ _ _ _ _ _ _ _ _ _ _ _ _ _ _ _ _ _ _ _ _ _ (fun h => h0 ((hcond0_0 t).mp h)) ((hcond0_1 t).mpr h1)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (commonG_run c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (Memref.isWhole_whole _) _ (Memref.isWhole_whole _) _ (Memref.isWhole_whole _) _ (iblk m c 0 t) (iblk m c 1 t) (iblk m c 4 t) (iblk m c 6 t) (XA m c t.val) (LHS m c) (TT3 m c) Set.univ _)
  isplitl [H0]; · iexact H0
  isplitl [H1]; · iexact H1
  isplitl [H4]; · iexact H4
  isplitl [H6]; · iexact H6
  isplitl [H8]; · iexists _; iexact H8
  isplitl [H9]; · iexists _; iexact H9
  isplitl [H12]; · iexact H12
  isplitl [HS0]; · iexact HS0
  isplitl [HS1]; · iexact HS1
  iintro ⟨H0, H1, H4, H6, H8, H9, H12, HS0, HS1⟩
  iapply (finG_run c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (Memref.isWhole_whole _) _ (Memref.isWhole_whole _) _ (Memref.isWhole_whole _) (iblk m c 2 t) (iblk m c 3 t) _ Set.univ _)
  isplitl [H2]; · iexact H2
  isplitl [H3]; · iexact H3
  isplitl [H10]; · iexists _; iexact H10
  isplitl [H12]; · iexact H12
  isplitl [HS2]; · iexact HS2
  iintro ⟨H2, H3, H10, H12, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact sound_A m c t h0 (by omega)
  · by_cases h1 : t.val % 32 = 31
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant after the last point gives back the scratch buffers at some contents. -/
theorem hout (c : Dev nD) : (dats m 0 c).Φ (Fin.last cfg0.N) ⊢ Pipeline.ΦA spec0 c := by
  rw [PhiA0_eq, show (dats m 0 c).Φ (Fin.last cfg0.N) = PhiS m c (31 + 1) from by dsimp only [dats]; exact congrArg (PhiS m c) (show (Fin.last cfg0.N).val = 32 from N_0), PhiS]
  iintro ⟨⟨HS0, HS1, HS2⟩, Hg⟩
  isplitl [HS0 HS1 HS2]
  · isplitl [HS0]; · iexists _; iexact HS0
    isplitl [HS1]; · iexists _; iexact HS1
    iexact HS2
  iexact Hg

set_option backward.isDefEq.respectTransparency.types false in
set_option maxHeartbeats 800000 in
/-- THE RUN: from any memory with zero counters every execution ends with each windowed array as the proof data say, and
    the host lines after the region run over them; every counter of the machine is zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := hout m)

/-- The run, without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Gen

end
-- ==== Proof.Blk.lean ====
module

public import proofs.«01_k».proof.Proof.Arr2
public import proofs.«01_k».proof.Proof.Pipe
public import Idealize.ShloMosaic.Lib.Pointwise
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD) (t : Fin cfg0.N)

theorem tlt : t.val < 32 := Nat.lt_of_lt_of_eq t.isLt N_0

/-! ## The block indices and the gathered column's base, per grid point -/

theorem fbW_eq : ∀ t : Fin cfg0.N, fbW (grid0.coords t) = BitVec.ofNat 32 (16 * (t.val % 8)) :=
  (by decide +kernel : ∀ t : Fin grid0.N, fbW (grid0.coords t) = BitVec.ofNat 32 (16 * (t.val % 8)))

theorem idx0 : ∀ t : Fin cfg0.N, win0_0.index t 0 = 0 ∧ win0_0.index t 1 = t.val :=
  (by decide +kernel : ∀ t : Fin grid0.N, win0_0.index t 0 = 0 ∧ win0_0.index t 1 = t.val)

theorem idx1 : ∀ t : Fin cfg0.N, win0_1.index t 0 = 0 ∧ win0_1.index t 1 = t.val / 8 :=
  (by decide +kernel : ∀ t : Fin grid0.N, win0_1.index t 0 = 0 ∧ win0_1.index t 1 = t.val / 8)

theorem idx2 : ∀ t : Fin cfg0.N, win0_2.index t 0 = 0 ∧ win0_2.index t 1 = 0 :=
  (by decide +kernel : ∀ t : Fin grid0.N, win0_2.index t 0 = 0 ∧ win0_2.index t 1 = 0)

theorem idx3 : ∀ t : Fin cfg0.N, win0_3.index t 0 = 0 ∧ win0_3.index t 1 = 0 :=
  (by decide +kernel : ∀ t : Fin grid0.N, win0_3.index t 0 = 0 ∧ win0_3.index t 1 = 0)

theorem idx4 : ∀ t : Fin cfg0.N, win0_4.index t 0 = t.val ∧ win0_4.index t 1 = 0 :=
  (by decide +kernel : ∀ t : Fin grid0.N, win0_4.index t 0 = t.val ∧ win0_4.index t 1 = 0)

theorem idx5 : ∀ t : Fin cfg0.N, win0_5.index t 0 = 0 ∧ win0_5.index t 1 = 0 :=
  (by decide +kernel : ∀ t : Fin grid0.N, win0_5.index t 0 = 0 ∧ win0_5.index t 1 = 0)

theorem idx6 : ∀ t : Fin cfg0.N, win0_6.index t 0 = 0 ∧ win0_6.index t 1 = t.val :=
  (by decide +kernel : ∀ t : Fin grid0.N, win0_6.index t 0 = 0 ∧ win0_6.index t 1 = t.val)

theorem idx7 : ∀ t : Fin cfg0.N, win0_7.index t 0 = 0 ∧ win0_7.index t 1 = 0 :=
  (by decide +kernel : ∀ t : Fin grid0.N, win0_7.index t 0 = 0 ∧ win0_7.index t 1 = 0)

theorem idx8 : ∀ t : Fin cfg0.N, win0_8.index t 0 = 0 ∧ win0_8.index t 1 = t.val :=
  (by decide +kernel : ∀ t : Fin grid0.N, win0_8.index t 0 = 0 ∧ win0_8.index t 1 = t.val)

theorem idx9 : ∀ t : Fin cfg0.N, win0_9.index t 0 = 0 ∧ win0_9.index t 1 = t.val :=
  (by decide +kernel : ∀ t : Fin grid0.N, win0_9.index t 0 = 0 ∧ win0_9.index t 1 = t.val)

theorem idx10 : ∀ t : Fin cfg0.N, win0_10.index t 0 = 0 ∧ win0_10.index t 1 = 0 :=
  (by decide +kernel : ∀ t : Fin grid0.N, win0_10.index t 0 = 0 ∧ win0_10.index t 1 = 0)

theorem idx11 : ∀ t : Fin cfg0.N, win0_11.index t 0 = 0 ∧ win0_11.index t 1 = 0 :=
  (by decide +kernel : ∀ t : Fin grid0.N, win0_11.index t 0 = 0 ∧ win0_11.index t 1 = 0)

theorem idx12 : ∀ t : Fin cfg0.N, win0_12.index t 0 = 0 ∧ win0_12.index t 1 = 0 :=
  (by decide +kernel : ∀ t : Fin grid0.N, win0_12.index t 0 = 0 ∧ win0_12.index t 1 = 0)

theorem blk0 (i : Fin 4096) (j : Fin 512) : (iblk m c 0 t : Vec Ideal ⟨2, ![4096, 512]⟩ .fp8e4m3) (ix2 i j) = V m c main_v2 (ix2 i ⟨512 * (t.val) + j.val, by have := tlt t; omega⟩) := by
  unfold iblk
  rw [View.read_apply]
  show V m c main_v2 _ = V m c main_v2 _
  refine congrArg (V m c main_v2) (funext fun a => Fin.ext ?_)
  match a with
  | ⟨0, _⟩ => show win0_0.index t 0 * 4096 + 1 * i.val = i.val; rw [(idx0 t).1]; omega
  | ⟨1, _⟩ => show win0_0.index t 1 * 512 + 1 * j.val = 512 * (t.val) + j.val; rw [(idx0 t).2]; omega

theorem blk1 (i : Fin 4096) (j : Fin 128) : (iblk m c 1 t : Vec Ideal ⟨2, ![4096, 128]⟩ .f32) (ix2 i j) = V m c main_v3 (ix2 i ⟨128 * (t.val / 8) + j.val, by have := tlt t; omega⟩) := by
  unfold iblk
  rw [View.read_apply]
  show V m c main_v3 _ = V m c main_v3 _
  refine congrArg (V m c main_v3) (funext fun a => Fin.ext ?_)
  match a with
  | ⟨0, _⟩ => show win0_1.index t 0 * 4096 + 1 * i.val = i.val; rw [(idx1 t).1]; omega
  | ⟨1, _⟩ => show win0_1.index t 1 * 128 + 1 * j.val = 128 * (t.val / 8) + j.val; rw [(idx1 t).2]; omega

theorem blk2 : (iblk m c 2 t : Vec Ideal ⟨2, ![4096, 1024]⟩ .fp8e5m2) = V m c main_v4 := by
  funext x
  unfold iblk
  rw [View.read_apply]
  show V m c main_v4 _ = V m c main_v4 _
  refine congrArg (V m c main_v4) (funext fun a => Fin.ext ?_)
  match a with
  | ⟨0, _⟩ => show win0_2.index t 0 * 4096 + 1 * (x 0).val = (x 0).val; rw [(idx2 t).1]; omega
  | ⟨1, _⟩ => show win0_2.index t 1 * 1024 + 1 * (x 1).val = (x 1).val; rw [(idx2 t).2]; omega

theorem blk3 : (iblk m c 3 t : Vec Ideal ⟨2, ![4096, 32]⟩ .f32) = V m c main_v5 := by
  funext x
  unfold iblk
  rw [View.read_apply]
  show V m c main_v5 _ = V m c main_v5 _
  refine congrArg (V m c main_v5) (funext fun a => Fin.ext ?_)
  match a with
  | ⟨0, _⟩ => show win0_3.index t 0 * 4096 + 1 * (x 0).val = (x 0).val; rw [(idx3 t).1]; omega
  | ⟨1, _⟩ => show win0_3.index t 1 * 32 + 1 * (x 1).val = (x 1).val; rw [(idx3 t).2]; omega

theorem blk4 (i : Fin 512) (j : Fin 1024) : (iblk m c 4 t : Vec Ideal ⟨2, ![512, 1024]⟩ .fp8e4m3) (ix2 i j) = V m c main_arg4 (ix2 ⟨512 * (t.val) + i.val, by have := tlt t; omega⟩ j) := by
  unfold iblk
  rw [View.read_apply]
  show V m c main_arg4 _ = V m c main_arg4 _
  refine congrArg (V m c main_arg4) (funext fun a => Fin.ext ?_)
  match a with
  | ⟨0, _⟩ => show win0_4.index t 0 * 512 + 1 * i.val = 512 * (t.val) + i.val; rw [(idx4 t).1]; omega
  | ⟨1, _⟩ => show win0_4.index t 1 * 1024 + 1 * j.val = j.val; rw [(idx4 t).2]; omega

theorem blk5 : (iblk m c 5 t : Vec Ideal ⟨2, ![1, 1024]⟩ .f32) = V m c main_v6 := by
  funext x
  unfold iblk
  rw [View.read_apply]
  show V m c main_v6 _ = V m c main_v6 _
  refine congrArg (V m c main_v6) (funext fun a => Fin.ext ?_)
  match a with
  | ⟨0, _⟩ => show win0_5.index t 0 * 1 + 1 * (x 0).val = (x 0).val; rw [(idx5 t).1]; omega
  | ⟨1, _⟩ => show win0_5.index t 1 * 1024 + 1 * (x 1).val = (x 1).val; rw [(idx5 t).2]; omega

theorem blk6 (i : Fin 16) (j : Fin 512) : (iblk m c 6 t : Vec Ideal ⟨2, ![16, 512]⟩ .bf16) (ix2 i j) = V m c main_v7 (ix2 i ⟨512 * (t.val) + j.val, by have := tlt t; omega⟩) := by
  unfold iblk
  rw [View.read_apply]
  show V m c main_v7 _ = V m c main_v7 _
  refine congrArg (V m c main_v7) (funext fun a => Fin.ext ?_)
  match a with
  | ⟨0, _⟩ => show win0_6.index t 0 * 16 + 1 * i.val = i.val; rw [(idx6 t).1]; omega
  | ⟨1, _⟩ => show win0_6.index t 1 * 512 + 1 * j.val = 512 * (t.val) + j.val; rw [(idx6 t).2]; omega

theorem blk7 : (iblk m c 7 t : Vec Ideal ⟨2, ![16, 1024]⟩ .bf16) = V m c main_arg7 := by
  funext x
  unfold iblk
  rw [View.read_apply]
  show V m c main_arg7 _ = V m c main_arg7 _
  refine congrArg (V m c main_arg7) (funext fun a => Fin.ext ?_)
  match a with
  | ⟨0, _⟩ => show win0_7.index t 0 * 16 + 1 * (x 0).val = (x 0).val; rw [(idx7 t).1]; omega
  | ⟨1, _⟩ => show win0_7.index t 1 * 1024 + 1 * (x 1).val = (x 1).val; rw [(idx7 t).2]; omega

/-- What a grid point writes back into `main_v8_0` is the block at its columns of an array that agrees with it there. -/
theorem final8 (G : Vec Ideal ⟨2, ![4096, 16384]⟩ .bf16) (h : ∀ (t : Fin cfg0.N) (i : Fin 4096) (j : Fin 512), ((dats m 0 c).after 8 t : Vec Ideal ⟨2, ![4096, 512]⟩ .bf16) (ix2 i j) = G (ix2 i ⟨512 * t.val + j.val, by have := tlt t; omega⟩)) :
    (dats m 0 c).arrAt 8 cfg0.N = (G : Buf (Elt Ideal) ((c : Thread nD τ).loc main_v8_0)) :=
  (dats m 0 c).arrAt_eq_of_cover 8 _ (fun t _ => by
    show (cfg0.win 8).cut (grid0.coords t) ((dats m 0 c).after 8 t) = _
    funext x
    rw [View.read_apply]
    refine ((congrArg ((dats m 0 c).after 8 t) (eq_ix2 x)).trans (h t (x 0) (x 1))).trans (congrArg G (funext fun a => Fin.ext ?_))
    match a with
    | ⟨0, _⟩ => show (x 0).val = win0_8.index t 0 * 4096 + 1 * (x 0).val; rw [(idx8 t).1]; omega
    | ⟨1, _⟩ => show 512 * t.val + (x 1).val = win0_8.index t 1 * 512 + 1 * (x 1).val; rw [(idx8 t).2]; omega) fun i => by
    have h0 : (i 0 : Nat) < 4096 := (i 0).isLt
    have h1 : (i 1 : Nat) < 16384 := (i 1).isLt
    obtain ⟨t, ht⟩ : ∃ t : Fin cfg0.N, t.val = (i 1 : Nat) / 512 := ⟨⟨(i 1 : Nat) / 512, by rw [show cfg0.N = 32 from N_0]; omega⟩, rfl⟩
    refine ⟨t, flush0_8 t, ?_⟩
    show i ∈ ((View.whole main_v8_0).slice (win0_8.rect t)).set
    rw [View.set_slice_whole, Rect.mem_set_unit]
    intro a
    match a with
    | ⟨0, _⟩ => show win0_8.index t 0 * 4096 ≤ (i 0 : Nat) ∧ (i 0 : Nat) < win0_8.index t 0 * 4096 + 4096
                rw [(idx8 t).1]; omega
    | ⟨1, _⟩ => show win0_8.index t 1 * 512 ≤ (i 1 : Nat) ∧ (i 1 : Nat) < win0_8.index t 1 * 512 + 512
                rw [(idx8 t).2]; rw [ht]; omega

/-- What a grid point writes back into `main_v8_1` is the block at its columns of an array that agrees with it there. -/
theorem final9 (G : Vec Ideal ⟨2, ![16, 16384]⟩ .f32) (h : ∀ (t : Fin cfg0.N) (i : Fin 16) (j : Fin 512), ((dats m 0 c).after 9 t : Vec Ideal ⟨2, ![16, 512]⟩ .f32) (ix2 i j) = G (ix2 i ⟨512 * t.val + j.val, by have := tlt t; omega⟩)) :
    (dats m 0 c).arrAt 9 cfg0.N = (G : Buf (Elt Ideal) ((c : Thread nD τ).loc main_v8_1)) :=
  (dats m 0 c).arrAt_eq_of_cover 9 _ (fun t _ => by
    show (cfg0.win 9).cut (grid0.coords t) ((dats m 0 c).after 9 t) = _
    funext x
    rw [View.read_apply]
    refine ((congrArg ((dats m 0 c).after 9 t) (eq_ix2 x)).trans (h t (x 0) (x 1))).trans (congrArg G (funext fun a => Fin.ext ?_))
    match a with
    | ⟨0, _⟩ => show (x 0).val = win0_9.index t 0 * 16 + 1 * (x 0).val; rw [(idx9 t).1]; omega
    | ⟨1, _⟩ => show 512 * t.val + (x 1).val = win0_9.index t 1 * 512 + 1 * (x 1).val; rw [(idx9 t).2]; omega) fun i => by
    have h0 : (i 0 : Nat) < 16 := (i 0).isLt
    have h1 : (i 1 : Nat) < 16384 := (i 1).isLt
    obtain ⟨t, ht⟩ : ∃ t : Fin cfg0.N, t.val = (i 1 : Nat) / 512 := ⟨⟨(i 1 : Nat) / 512, by rw [show cfg0.N = 32 from N_0]; omega⟩, rfl⟩
    refine ⟨t, flush0_9 t, ?_⟩
    show i ∈ ((View.whole main_v8_1).slice (win0_9.rect t)).set
    rw [View.set_slice_whole, Rect.mem_set_unit]
    intro a
    match a with
    | ⟨0, _⟩ => show win0_9.index t 0 * 16 ≤ (i 0 : Nat) ∧ (i 0 : Nat) < win0_9.index t 0 * 16 + 16
                rw [(idx9 t).1]; omega
    | ⟨1, _⟩ => show win0_9.index t 1 * 512 ≤ (i 1 : Nat) ∧ (i 1 : Nat) < win0_9.index t 1 * 512 + 512
                rw [(idx9 t).2]; rw [ht]; omega

/-- What the last grid point leaves is `main_v8_2`. -/
theorem final10 (G : Vec Ideal ⟨2, ![16, 1024]⟩ .f32) (h : ∀ t : Fin cfg0.N, t.val = 31 → ((dats m 0 c).after 10 t : Vec Ideal ⟨2, ![16, 1024]⟩ .f32) = G) :
    (dats m 0 c).arrAt 10 cfg0.N = (G : Buf (Elt Ideal) ((c : Thread nD τ).loc main_v8_2)) :=
  (dats m 0 c).arrAt_eq_of_cover 10 _ (fun t hf => by
    have h3 : t.val = 31 := by have := (flush0_10 t).mp hf; have := tlt t; omega
    show (cfg0.win 10).cut (grid0.coords t) ((dats m 0 c).after 10 t) = _
    rw [h t h3]
    funext x
    rw [View.read_apply]
    refine (congrArg G (funext fun a => Fin.ext ?_) : G x = G _)
    match a with
    | ⟨0, _⟩ => show (x 0).val = win0_10.index t 0 * 16 + 1 * (x 0).val; rw [(idx10 t).1]; omega
    | ⟨1, _⟩ => show (x 1).val = win0_10.index t 1 * 1024 + 1 * (x 1).val; rw [(idx10 t).2]; omega) fun i => by
    have h0 : (i 0 : Nat) < 16 := (i 0).isLt
    have h1 : (i 1 : Nat) < 1024 := (i 1).isLt
    obtain ⟨t, ht⟩ : ∃ t : Fin cfg0.N, t.val = 31 := ⟨⟨31, by rw [show cfg0.N = 32 from N_0]; decide⟩, rfl⟩
    refine ⟨t, (flush0_10 t).mpr (by omega), ?_⟩
    show i ∈ ((View.whole main_v8_2).slice (win0_10.rect t)).set
    rw [View.set_slice_whole, Rect.mem_set_unit]
    intro a
    match a with
    | ⟨0, _⟩ => show win0_10.index t 0 * 16 ≤ (i 0 : Nat) ∧ (i 0 : Nat) < win0_10.index t 0 * 16 + 16
                rw [(idx10 t).1]; omega
    | ⟨1, _⟩ => show win0_10.index t 1 * 1024 ≤ (i 1 : Nat) ∧ (i 1 : Nat) < win0_10.index t 1 * 1024 + 1024
                rw [(idx10 t).2]; omega

/-- What the last grid point leaves is `main_v8_3`. -/
theorem final11 (G : Vec Ideal ⟨2, ![16, 4096]⟩ .f32) (h : ∀ t : Fin cfg0.N, t.val = 31 → ((dats m 0 c).after 11 t : Vec Ideal ⟨2, ![16, 4096]⟩ .f32) = G) :
    (dats m 0 c).arrAt 11 cfg0.N = (G : Buf (Elt Ideal) ((c : Thread nD τ).loc main_v8_3)) :=
  (dats m 0 c).arrAt_eq_of_cover 11 _ (fun t hf => by
    have h3 : t.val = 31 := by have := (flush0_11 t).mp hf; have := tlt t; omega
    show (cfg0.win 11).cut (grid0.coords t) ((dats m 0 c).after 11 t) = _
    rw [h t h3]
    funext x
    rw [View.read_apply]
    refine (congrArg G (funext fun a => Fin.ext ?_) : G x = G _)
    match a with
    | ⟨0, _⟩ => show (x 0).val = win0_11.index t 0 * 16 + 1 * (x 0).val; rw [(idx11 t).1]; omega
    | ⟨1, _⟩ => show (x 1).val = win0_11.index t 1 * 4096 + 1 * (x 1).val; rw [(idx11 t).2]; omega) fun i => by
    have h0 : (i 0 : Nat) < 16 := (i 0).isLt
    have h1 : (i 1 : Nat) < 4096 := (i 1).isLt
    obtain ⟨t, ht⟩ : ∃ t : Fin cfg0.N, t.val = 31 := ⟨⟨31, by rw [show cfg0.N = 32 from N_0]; decide⟩, rfl⟩
    refine ⟨t, (flush0_11 t).mpr (by omega), ?_⟩
    show i ∈ ((View.whole main_v8_3).slice (win0_11.rect t)).set
    rw [View.set_slice_whole, Rect.mem_set_unit]
    intro a
    match a with
    | ⟨0, _⟩ => show win0_11.index t 0 * 16 ≤ (i 0 : Nat) ∧ (i 0 : Nat) < win0_11.index t 0 * 16 + 16
                rw [(idx11 t).1]; omega
    | ⟨1, _⟩ => show win0_11.index t 1 * 4096 ≤ (i 1 : Nat) ∧ (i 1 : Nat) < win0_11.index t 1 * 4096 + 4096
                rw [(idx11 t).2]; omega

/-- What the last grid point leaves is `main_v8_4`. -/
theorem final12 (G : Vec Ideal ⟨2, ![16, 4096]⟩ .f32) (h : ∀ t : Fin cfg0.N, t.val = 31 → ((dats m 0 c).after 12 t : Vec Ideal ⟨2, ![16, 4096]⟩ .f32) = G) :
    (dats m 0 c).arrAt 12 cfg0.N = (G : Buf (Elt Ideal) ((c : Thread nD τ).loc main_v8_4)) :=
  (dats m 0 c).arrAt_eq_of_cover 12 _ (fun t hf => by
    have h3 : t.val = 31 := by have := (flush0_12 t).mp hf; have := tlt t; omega
    show (cfg0.win 12).cut (grid0.coords t) ((dats m 0 c).after 12 t) = _
    rw [h t h3]
    funext x
    rw [View.read_apply]
    refine (congrArg G (funext fun a => Fin.ext ?_) : G x = G _)
    match a with
    | ⟨0, _⟩ => show (x 0).val = win0_12.index t 0 * 16 + 1 * (x 0).val; rw [(idx12 t).1]; omega
    | ⟨1, _⟩ => show (x 1).val = win0_12.index t 1 * 4096 + 1 * (x 1).val; rw [(idx12 t).2]; omega) fun i => by
    have h0 : (i 0 : Nat) < 16 := (i 0).isLt
    have h1 : (i 1 : Nat) < 4096 := (i 1).isLt
    obtain ⟨t, ht⟩ : ∃ t : Fin cfg0.N, t.val = 31 := ⟨⟨31, by rw [show cfg0.N = 32 from N_0]; decide⟩, rfl⟩
    refine ⟨t, (flush0_12 t).mpr (by omega), ?_⟩
    show i ∈ ((View.whole main_v8_4).slice (win0_12.rect t)).set
    rw [View.set_slice_whole, Rect.mem_set_unit]
    intro a
    match a with
    | ⟨0, _⟩ => show win0_12.index t 0 * 16 ≤ (i 0 : Nat) ∧ (i 0 : Nat) < win0_12.index t 0 * 16 + 16
                rw [(idx12 t).1]; omega
    | ⟨1, _⟩ => show win0_12.index t 1 * 4096 ≤ (i 1 : Nat) ∧ (i 1 : Nat) < win0_12.index t 1 * 4096 + 4096
                rw [(idx12 t).2]; omega

end Cert.KernelIdeal.Gen

end
-- ==== Proof.KVal.lean ====
module

public import proofs.«01_k».proof.Proof.Blk
public import Idealize.ShloMosaic.Lib.Pointwise
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-! ## The operands, as the region finds them -/

/-- The region's input arrays, by operand. -/
abbrev vx : Vec Ideal S4096x16384 .fp8e4m3 := V m c main_v2
abbrev vxs : Vec Ideal S4096x512 .f32 := V m c main_v3
abbrev vy : Vec Ideal S4096x1024 .fp8e5m2 := V m c main_v4
abbrev vys : Vec Ideal S4096x32 .f32 := V m c main_v5
abbrev vw : Vec Ideal S16384x1024 .fp8e4m3 := V m c main_arg4
abbrev vws : Vec Ideal S1x1024 .f32 := V m c main_v6
abbrev va : Vec Ideal S16x16384 .bf16 := V m c main_v7
abbrev vb : Vec Ideal S16x1024 .bf16 := V m c main_arg7

/-- `x` widened: its codes times the scales of their groups of 32. -/
def X2 (r : Fin 4096) (i : Fin 16384) : EReal :=
  (vx m c (ix2 r i) * (vxs m c (ix2 r ⟨i.val / 32, by omega⟩) : EReal) : EReal)

/-- The upstream gradient widened. -/
abbrev Y2 (r : Fin 4096) (o : Fin 1024) : EReal := YW (vy m c) (vys m c) r o

/-- The product of the widened upstream gradient with `lora_b`. -/
abbrev T2 (r : Fin 4096) (k : Fin 16) : EReal := TF (vy m c) (vys m c) (vb m c) r k

/-- `lora_a`, transposed. -/
abbrev A2 (k : Fin 16) (i : Fin 16384) : EReal := va m c (ix2 k i)

/-- The product of the widened `x` with `lora_a`. -/
def XA2 (k : Fin 16) (r : Fin 4096) : EReal := ∑ i : Fin 16384, X2 m c r i * A2 m c k i

theorem hfb (n : ℕ) : 16 * (n % 8) ≤ 112 := by omega

theorem XW_blk (t : Fin cfg0.N) (r : Fin 4096) (j : Fin 512) :
    XW (16 * (t.val % 8)) (hfb _) (iblk m c 0 t) (iblk m c 1 t) r j = X2 m c r ⟨512 * t.val + j.val, by have := tlt t; omega⟩ := by
  have := tlt t
  unfold XW X2
  refine congrArg₂ (fun u v : EReal => u * v) (blk0 m c t r j) ((blk1 m c t r _).trans ?_)
  exact congrArg (fun z : Fin 512 => vxs m c (ix2 r z)) (Fin.ext (by show 128 * (t.val / 8) + (16 * (t.val % 8) + j.val / 32) = (512 * t.val + j.val) / 32; omega))

/-! ## The product with `lora_a`, summed over the grid -/

/-- Column block `n`'s part of the product with `lora_a`. -/
def XAP (k : Fin 16) (r : Fin 4096) (n : ℕ) : EReal :=
  if h : n < 32 then ∑ j : Fin 512, X2 m c r ⟨512 * n + j.val, by omega⟩ * A2 m c k ⟨512 * n + j.val, by omega⟩ else 0

theorem XA_val (k : Fin 16) (r : Fin 4096) : ∀ n, n ≤ 32 → (XA m c n : Vec Ideal S16x4096 .f32) (ix2 k r) = ∑ i ∈ Finset.range n, XAP m c k r i
  | 0, _ => (congrFun zCanon (ix2 k r)).trans rfl
  | n + 1, hn => by
    have hN : n < cfg0.N := by rw [show cfg0.N = 32 from N_0]; omega
    rw [Finset.sum_range_succ, ← XA_val k r n (by omega)]
    have h1 := XA_succ m c ⟨n, hN⟩
    have h2 : XA m c (n + 1) = XAF (16 * (n % 8)) (hfb n) (iblk m c 0 ⟨n, hN⟩) (iblk m c 1 ⟨n, hN⟩) (iblk m c 6 ⟨n, hN⟩) (XA m c n) := by
      refine h1.trans ?_
      rw [fbW_eq]
      exact xaCanon (16 * (n % 8)) (hfb n) _ _ _ _
    rw [h2]
    refine congrArg (fun v : EReal => ((XA m c n : Vec Ideal S16x4096 .f32) (ix2 k r) : EReal) + v) ?_
    unfold XAP
    rw [dif_pos (show n < 32 by omega)]
    refine Finset.sum_congr rfl fun j _ => ?_
    exact congrArg₂ (fun u v : EReal => u * v) (XW_blk m c ⟨n, hN⟩ r j) (blk6 m c ⟨n, hN⟩ k j)

theorem XA_all (k : Fin 16) (r : Fin 4096) : (XA m c 32 : Vec Ideal S16x4096 .f32) (ix2 k r) = XA2 m c k r := by
  rw [XA_val m c k r 32 le_rfl, Finset.sum_range]
  unfold XA2
  rw [sumBlocks 32 512 rfl]
  refine Finset.sum_congr rfl fun n _ => ?_
  unfold XAP
  rw [dif_pos n.isLt]

/-! ## The arrays the region leaves -/

/-- The product with `lora_a`, transposed. -/
def G12 : Vec Ideal S16x4096 .f32 := fun y => XA2 m c (y 0) (y 1)

/-- The product with `lora_b`, transposed. -/
def G11 : Vec Ideal S16x4096 .f32 := fun y => T2 m c (y 1) (y 0)

/-- The gradient of `lora_b`. -/
def G10 : Vec Ideal S16x1024 .f32 := fun y => ∑ r : Fin 4096, (c2 * XA2 m c (y 0) r : EReal) * Y2 m c r (y 1)

/-- The gradient of `lora_a`, transposed. -/
def G9 : Vec Ideal S16x16384 .f32 := fun y => ∑ r : Fin 4096, (c2 * T2 m c r (y 0) : EReal) * X2 m c r (y 1)

/-- The input gradient. -/
def G8 : Vec Ideal S4096x16384 .bf16 := fun y => (∑ o : Fin 1024, (Y2 m c (y 0) o * (vws m c (ix2 0 o) : EReal) : EReal) * (vw m c (ix2 (y 1) o) : EReal))
        + ∑ k : Fin 16, (c2 * T2 m c (y 0) k : EReal) * A2 m c k (y 1)

theorem arr12 : (dats m 0 c).arrAt 12 cfg0.N = (G12 m c : Buf (Elt Ideal) ((c : Thread nD τ).loc main_v8_4)) :=
  final12 m c _ fun t ht => by
    rw [after0_12 m c t, ht]
    funext y
    exact (congrArg (XA m c 32 : Vec Ideal S16x4096 .f32) (eq_ix2 y)).trans (XA_all m c (y 0) (y 1))

theorem TT_eq : TT m c = TTF (vy m c) (vys m c) (vb m c) := by
  unfold TT
  rw [show iblk m c 2 t0 = vy m c from blk2 m c t0, show iblk m c 3 t0 = vys m c from blk3 m c t0, show iblk m c 7 t0 = vb m c from blk7 m c t0]
  exact ttCanon _ _ _

theorem arr11 : (dats m 0 c).arrAt 11 cfg0.N = (G11 m c : Buf (Elt Ideal) ((c : Thread nD τ).loc main_v8_3)) :=
  final11 m c _ fun t ht => by
    rw [after0_11 m c t]
    exact TT_eq m c

theorem arr10 (hX : ∀ k r, Fin' (XA2 m c k r)) : (dats m 0 c).arrAt 10 cfg0.N
    = (G10 m c : Buf (Elt Ideal) ((c : Thread nD τ).loc main_v8_2)) :=
  final10 m c _ fun t ht => by
    rw [after0_10 m c t]
    unfold DB
    rw [show iblk m c 2 t0 = vy m c from blk2 m c t0, show iblk m c 3 t0 = vys m c from blk3 m c t0]
    funext y
    refine (congrArg (dbOut (vy m c) (pads (vys m c)) (XA m c 32)) (eq_ix2 y)).trans ?_
    refine (dbOut_apply _ _ _ (fun k r => by rw [XA_all]; exact hX k r) (y 0) (y 1)).trans ?_
    exact Finset.sum_congr rfl fun r _ => congrArg (fun v : EReal => (c2 * v : EReal) * Y2 m c r (y 1)) (XA_all m c (y 0) r)

theorem arr9 (hT : ∀ r k, Fin' (T2 m c r k)) : (dats m 0 c).arrAt 9 cfg0.N
    = (G9 m c : Buf (Elt Ideal) ((c : Thread nD τ).loc main_v8_1)) :=
  final9 m c _ fun t k j => by
    rw [after0_9 m c t]
    unfold DAT TT3
    rw [show iblk m c 2 t0 = vy m c from blk2 m c t0, show iblk m c 3 t0 = vys m c from blk3 m c t0, show iblk m c 7 t0 = vb m c from blk7 m c t0,
      tt3Canon _ _ _ hT, fbW_eq]
    refine (datOut_apply (16 * (t.val % 8)) (hfb _) _ _ _ (fun k r => T2 m c r k) (fun a r => rfl) k j).trans ?_
    exact Finset.sum_congr rfl fun r _ => congrArg (fun v : EReal => (c2 * T2 m c r k : EReal) * v) (XW_blk m c t r j)

theorem lhsgA (x2 : Vec Ideal S4096x1024 .fp8e5m2) (x3 : Vec Ideal S4096x32 .f32) (x5 : Vec Ideal S1x1024 .f32) (x7 : Vec Ideal S16x1024 .bf16) (r : Fin 4096) (k : Fin 1152) (o : Fin 1024) (h : k.val = o.val) :
    LHSG x2 x3 x5 x7 r k = (YW x2 x3 r o * (x5 (ix2 0 o) : EReal) : EReal) := by
  unfold LHSG
  rw [dif_pos (show k.val < 1024 by omega)]
  exact congrArg (fun z => (YW x2 x3 r z * (x5 (ix2 0 z) : EReal) : EReal)) (Fin.ext h)

theorem lhsgB (x2 : Vec Ideal S4096x1024 .fp8e5m2) (x3 : Vec Ideal S4096x32 .f32) (x5 : Vec Ideal S1x1024 .f32) (x7 : Vec Ideal S16x1024 .bf16) (r : Fin 4096) (k : Fin 1152) (q : Fin 16) (h : k.val = 1024 + q.val) :
    LHSG x2 x3 x5 x7 r k = (c2 * TF x2 x3 x7 r q : EReal) := by
  unfold LHSG
  rw [dif_neg (show ¬ k.val < 1024 by omega), dif_pos (show k.val - 1024 < 16 by omega)]
  exact congrArg (fun z => (c2 * TF x2 x3 x7 r z : EReal)) (Fin.ext (by show k.val - 1024 = q.val; omega))

theorem lhsgC (x2 : Vec Ideal S4096x1024 .fp8e5m2) (x3 : Vec Ideal S4096x32 .f32) (x5 : Vec Ideal S1x1024 .f32) (x7 : Vec Ideal S16x1024 .bf16) (r : Fin 4096) (k : Fin 1152) (h : 1040 ≤ k.val) :
    LHSG x2 x3 x5 x7 r k = 0 := by
  unfold LHSG
  rw [dif_neg (show ¬ k.val < 1024 by omega), dif_neg (show ¬ k.val - 1024 < 16 by omega)]

theorem arr8 (hT : ∀ r k, Fin' (T2 m c r k)) : (dats m 0 c).arrAt 8 cfg0.N
    = (G8 m c : Buf (Elt Ideal) ((c : Thread nD τ).loc main_v8_0)) :=
  final8 m c _ fun t r j => by
    rw [after0_8 m c t]
    unfold DX LHS
    rw [show iblk m c 2 t0 = vy m c from blk2 m c t0, show iblk m c 3 t0 = vys m c from blk3 m c t0, show iblk m c 5 t0 = vws m c from blk5 m c t0, show iblk m c 7 t0 = vb m c from blk7 m c t0,
      lhsCanon _ _ _ _ hT, dxCanon]
    have ht := tlt t
    show (∑ o : Fin 1024, LHSG _ _ _ _ r ⟨o.val, by omega⟩ * (((iblk m c 4 t : Vec Ideal S512x1024 .fp8e4m3) (ix2 j o) : EReal)) : EReal)
      + ∑ a : Fin (16 + 112), LHSG _ _ _ _ r ⟨1024 + a.val, by omega⟩ * (k0_pay455 (iblk m c 6 t : Vec Ideal S16x512 .bf16) (ix2 (a : Fin 128) j) : EReal) = _
    rw [Fin.sum_univ_add]
    refine congrArg₂ (fun u v : EReal => u + v) (Finset.sum_congr rfl fun o _ => ?_) ((congrArg₂ (fun u v : EReal => u + v) (Finset.sum_congr rfl fun k _ => ?_) (Finset.sum_eq_zero fun a _ => ?_)).trans (add_zero _))
    · exact congrArg₂ (fun u v : EReal => u * v) (lhsgA _ _ _ _ _ _ o rfl) (blk4 m c t j o)
    · exact congrArg₂ (fun u v : EReal => u * v) (lhsgB _ _ _ _ _ _ k rfl) ((pay455_apply _ _ _ (show (Fin.castAdd 112 k).val < 16 from k.isLt)).trans (blk6 m c t k j))
    · refine (congrArg (fun u : EReal => u * _) (lhsgC _ _ _ _ _ _ ?_)).trans (zero_mul _)
      show 1040 ≤ 1024 + (16 + a.val)
      omega

end Cert.KernelIdeal.Gen

end
-- ==== Proof.Maths.lean ====
module

public import proofs.«01_k».proof.Proof.Vals
public import Idealize.ShloMosaic.Lib.Pointwise

@[expose] public section

noncomputable section

/-! The problem's mathematics over plain index functions, the form both programs' results are brought to. -/

namespace Cert.Lora

open Idealize.ShloMosaic
open Cert.KernelIdeal.Gen (Fin' c2 c2_eq)

/-- The activations' codes read as the 8-bit floats they are. -/
def codesX (a : Vec Ideal ⟨3, ![2, 2048, 16384]⟩ .i8) : Vec Ideal ⟨3, ![2, 2048, 16384]⟩ .fp8e4m3 := bitcastToFloat (F := Ideal) .fp8e4m3 a

/-- The upstream gradient's codes read as the 8-bit floats they are. -/
def codesY (a : Vec Ideal ⟨3, ![2, 2048, 1024]⟩ .i8) : Vec Ideal ⟨3, ![2, 2048, 1024]⟩ .fp8e5m2 := bitcastToFloat (F := Ideal) .fp8e5m2 a

variable (x : Fin 2 → Fin 2048 → Fin 16384 → EReal) (xs : Fin 2 → Fin 2048 → Fin 512 → EReal)
variable (y : Fin 2 → Fin 2048 → Fin 1024 → EReal) (ys : Fin 2 → Fin 2048 → Fin 32 → EReal)
variable (w : Fin 16384 → Fin 1024 → EReal) (ws : Fin 1024 → EReal)
variable (la : Fin 16384 → Fin 16 → EReal) (lb : Fin 16 → Fin 1024 → EReal)

/-- The activations, each group of 32 columns times its scale. -/
def MX (b : Fin 2) (s : Fin 2048) (i : Fin 16384) : EReal := x b s i * xs b s ⟨i.val / 32, by omega⟩

/-- The upstream gradient, each group of 32 columns times its scale. -/
def MY (b : Fin 2) (s : Fin 2048) (o : Fin 1024) : EReal := y b s o * ys b s ⟨o.val / 32, by omega⟩

/-- The upstream gradient times `lora_b`. -/
def MT (b : Fin 2) (s : Fin 2048) (k : Fin 16) : EReal := ∑ o, MY y ys b s o * lb k o

/-- The activations times `lora_a`. -/
def MXA (b : Fin 2) (s : Fin 2048) (k : Fin 16) : EReal := ∑ i, MX x xs b s i * la i k

/-- The input gradient. -/
def MDX (b : Fin 2) (s : Fin 2048) (i : Fin 16384) : EReal :=
  (∑ o, MY y ys b s o * (w i o * ws o)) + c2 * ∑ k, MT y ys lb b s k * la i k

/-- The gradient of `lora_a`. -/
def MDA (i : Fin 16384) (k : Fin 16) : EReal := c2 * ∑ b, ∑ s, MX x xs b s i * MT y ys lb b s k

/-- The gradient of `lora_b`. -/
def MDB (k : Fin 16) (o : Fin 1024) : EReal := c2 * ∑ b, ∑ s, MXA x xs la b s k * MY y ys b s o

/-- Twice a sum is the sum of the doubled terms, at infinities too: two is a nonnegative real. -/
theorem c2_sum {ι : Type} (s : Finset ι) (f : ι → EReal) : c2 * ∑ i ∈ s, f i = ∑ i ∈ s, c2 * f i := by
  classical
  induction s using Finset.induction_on with
  | empty => simp
  | insert a s ha ih =>
    rw [Finset.sum_insert ha, Finset.sum_insert ha, ← ih, c2_eq]
    exact EReal.left_distrib_of_nonneg_of_ne_top (by exact_mod_cast (by norm_num : (0:ℝ) ≤ 2)) (EReal.coe_ne_top _) _ _

/-! ## The arguments as plain index functions -/

section
variable {α : Type}

abbrev fx (v : (⟨3, ![2, 2048, 16384]⟩ : Shape).Idx → α) (b : Fin 2) (s : Fin 2048) (i : Fin 16384) : α := v (ix3 b s i)
abbrev fxs (v : (⟨3, ![2, 2048, 512]⟩ : Shape).Idx → α) (b : Fin 2) (s : Fin 2048) (i : Fin 512) : α := v (ix3 b s i)
abbrev fy (v : (⟨3, ![2, 2048, 1024]⟩ : Shape).Idx → α) (b : Fin 2) (s : Fin 2048) (i : Fin 1024) : α := v (ix3 b s i)
abbrev fys (v : (⟨3, ![2, 2048, 32]⟩ : Shape).Idx → α) (b : Fin 2) (s : Fin 2048) (i : Fin 32) : α := v (ix3 b s i)
abbrev fw (v : (⟨2, ![16384, 1024]⟩ : Shape).Idx → α) (i : Fin 16384) (o : Fin 1024) : α := v (ix2 i o)
abbrev fws (v : (⟨1, ![1024]⟩ : Shape).Idx → α) (o : Fin 1024) : α := v (ix1 o)
abbrev fla (v : (⟨2, ![16384, 16]⟩ : Shape).Idx → α) (i : Fin 16384) (k : Fin 16) : α := v (ix2 i k)
abbrev flb (v : (⟨2, ![16, 1024]⟩ : Shape).Idx → α) (k : Fin 16) (o : Fin 1024) : α := v (ix2 k o)

end

/-! ## The results as arrays of the arguments -/

section
variable (a0 : Vec Ideal ⟨3, ![2, 2048, 16384]⟩ .i8) (a1 : Vec Ideal ⟨3, ![2, 2048, 512]⟩ .f32)
variable (a2 : Vec Ideal ⟨3, ![2, 2048, 1024]⟩ .i8) (a3 : Vec Ideal ⟨3, ![2, 2048, 32]⟩ .f32)
variable (a4 : Vec Ideal ⟨2, ![16384, 1024]⟩ .fp8e4m3) (a5 : Vec Ideal ⟨1, ![1024]⟩ .f32)
variable (a6 : Vec Ideal ⟨2, ![16384, 16]⟩ .bf16) (a7 : Vec Ideal ⟨2, ![16, 1024]⟩ .bf16)

/-- The input gradient of the arguments. -/
def RDX : Vec Ideal ⟨3, ![2, 2048, 16384]⟩ .bf16 := fun j => MDX (fy (codesY a2)) (fys a3) (fw a4) (fws a5) (fla a6) (flb a7) (j 0) (j 1) (j 2)
/-- The gradient of `lora_a`. -/
def RDA : Vec Ideal ⟨2, ![16384, 16]⟩ .f32 := fun j => MDA (fx (codesX a0)) (fxs a1) (fy (codesY a2)) (fys a3) (flb a7) (j 0) (j 1)
/-- The gradient of `lora_b`. -/
def RDB : Vec Ideal ⟨2, ![16, 1024]⟩ .f32 := fun j => MDB (fx (codesX a0)) (fxs a1) (fy (codesY a2)) (fys a3) (fla a6) (j 0) (j 1)
/-- The upstream gradient times `lora_b`. -/
def RT : Vec Ideal ⟨3, ![2, 2048, 16]⟩ .f32 := fun j => MT (fy (codesY a2)) (fys a3) (flb a7) (j 0) (j 1) (j 2)
/-- The activations times `lora_a`. -/
def RXA : Vec Ideal ⟨3, ![2, 2048, 16]⟩ .f32 := fun j => MXA (fx (codesX a0)) (fxs a1) (fla a6) (j 0) (j 1) (j 2)

end

end Cert.Lora

end
-- ==== Proof.KRes.lean ====
module

public import proofs.«01_k».proof.Proof.KVal
public import proofs.«01_k».proof.Proof.Maths
public import Idealize.ShloMosaic.Lib.StableHlo.Run
public import Idealize.ShloMosaic.Lib.Pointwise
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lora

variable (m : (ℓ : Loc nD τ sig) → Buf (Elt Ideal) ℓ) (c : Dev nD)

/-! ## The region's arrays before it runs: reshapes and a transpose of the arguments -/

/-- Row `2048 b + s` of the flattened arrays. -/
abbrev row (b : Fin 2) (s : Fin 2048) : Fin 4096 := ⟨2048 * b.val + s.val, by omega⟩

abbrev ka0 : Vec Ideal S2x2048x16384 .i8 := m ((c.tc : Thread nD τ).loc main_arg0)
abbrev ka1 : Vec Ideal S2x2048x512 .f32 := m ((c.tc : Thread nD τ).loc main_arg1)
abbrev ka2 : Vec Ideal S2x2048x1024 .i8 := m ((c.tc : Thread nD τ).loc main_arg2)
abbrev ka3 : Vec Ideal S2x2048x32 .f32 := m ((c.tc : Thread nD τ).loc main_arg3)
abbrev ka4 : Vec Ideal S16384x1024 .fp8e4m3 := m ((c.tc : Thread nD τ).loc main_arg4)
abbrev ka5 : Vec Ideal S1024 .f32 := m ((c.tc : Thread nD τ).loc main_arg5)
abbrev ka6 : Vec Ideal S16384x16 .bf16 := m ((c.tc : Thread nD τ).loc main_arg6)
abbrev ka7 : Vec Ideal S16x1024 .bf16 := m ((c.tc : Thread nD τ).loc main_arg7)

theorem V_v2 : V m c main_v2 = shapeCast S4096x16384 (codesX (ka0 m c)) shapeCasts_S2x2048x16384_S4096x16384 := by
  show StableHlo.after (List.flatten [hostOps0]) _ (Proc.devRef .tc main_v2) = _
  simp only [hostOps0, List.flatten_cons, List.flatten_nil, List.append_nil, List.cons_append, List.nil_append]
  after_results_simp <;> rfl

theorem V_v3 : V m c main_v3 = shapeCast S4096x512 (ka1 m c) shapeCasts_S2x2048x512_S4096x512 := by
  show StableHlo.after (List.flatten [hostOps0]) _ (Proc.devRef .tc main_v3) = _
  simp only [hostOps0, List.flatten_cons, List.flatten_nil, List.append_nil, List.cons_append, List.nil_append]
  after_results_simp <;> rfl

theorem V_v4 : V m c main_v4 = shapeCast S4096x1024 (codesY (ka2 m c)) shapeCasts_S2x2048x1024_S4096x1024 := by
  show StableHlo.after (List.flatten [hostOps0]) _ (Proc.devRef .tc main_v4) = _
  simp only [hostOps0, List.flatten_cons, List.flatten_nil, List.append_nil, List.cons_append, List.nil_append]
  after_results_simp <;> rfl

theorem V_v5 : V m c main_v5 = shapeCast S4096x32 (ka3 m c) shapeCasts_S2x2048x32_S4096x32 := by
  show StableHlo.after (List.flatten [hostOps0]) _ (Proc.devRef .tc main_v5) = _
  simp only [hostOps0, List.flatten_cons, List.flatten_nil, List.append_nil, List.cons_append, List.nil_append]
  after_results_simp <;> rfl

theorem V_v6 : V m c main_v6 = shapeCast S1x1024 (ka5 m c) shapeCasts_S1024_S1x1024 := by
  show StableHlo.after (List.flatten [hostOps0]) _ (Proc.devRef .tc main_v6) = _
  simp only [hostOps0, List.flatten_cons, List.flatten_nil, List.append_nil, List.cons_append, List.nil_append]
  after_results_simp <;> rfl

theorem V_v7 : V m c main_v7 = transpose S16x16384 [1, 0] (ka6 m c) transposes_S16384x16_S16x16384_1_0 := by
  show StableHlo.after (List.flatten [hostOps0]) _ (Proc.devRef .tc main_v7) = _
  simp only [hostOps0, List.flatten_cons, List.flatten_nil, List.append_nil, List.cons_append, List.nil_append]
  after_results_simp <;> rfl

theorem vx_read (b : Fin 2) (s : Fin 2048) (i : Fin 16384) : vx m c (ix2 (row b s) i) = codesX (ka0 m c) (ix3 b s i) := by
  refine (congrFun (V_v2 m c) (ix2 (row b s) i)).trans ?_
  refine shapeCast_apply _ _ _ _ ?_
  rw [Shape.rowMajor_val_three, Shape.rowMajor_val_two]
  show (b.val * 2048 + s.val) * 16384 + i.val = (2048 * b.val + s.val) * 16384 + i.val
  omega

theorem vxs_read (b : Fin 2) (s : Fin 2048) (i : Fin 512) : vxs m c (ix2 (row b s) i) = (ka1 m c) (ix3 b s i) := by
  refine (congrFun (V_v3 m c) (ix2 (row b s) i)).trans ?_
  refine shapeCast_apply _ _ _ _ ?_
  rw [Shape.rowMajor_val_three, Shape.rowMajor_val_two]
  show (b.val * 2048 + s.val) * 512 + i.val = (2048 * b.val + s.val) * 512 + i.val
  omega

theorem vy_read (b : Fin 2) (s : Fin 2048) (i : Fin 1024) : vy m c (ix2 (row b s) i) = codesY (ka2 m c) (ix3 b s i) := by
  refine (congrFun (V_v4 m c) (ix2 (row b s) i)).trans ?_
  refine shapeCast_apply _ _ _ _ ?_
  rw [Shape.rowMajor_val_three, Shape.rowMajor_val_two]
  show (b.val * 2048 + s.val) * 1024 + i.val = (2048 * b.val + s.val) * 1024 + i.val
  omega

theorem vys_read (b : Fin 2) (s : Fin 2048) (i : Fin 32) : vys m c (ix2 (row b s) i) = (ka3 m c) (ix3 b s i) := by
  refine (congrFun (V_v5 m c) (ix2 (row b s) i)).trans ?_
  refine shapeCast_apply _ _ _ _ ?_
  rw [Shape.rowMajor_val_three, Shape.rowMajor_val_two]
  show (b.val * 2048 + s.val) * 32 + i.val = (2048 * b.val + s.val) * 32 + i.val
  omega

theorem vws_read (o : Fin 1024) : vws m c (ix2 0 o) = (ka5 m c) (ix1 o) := by
  refine (congrFun (V_v6 m c) (ix2 0 o)).trans ?_
  refine shapeCast_apply _ _ _ _ ?_
  rw [Shape.rowMajor_val_one, Shape.rowMajor_val_two]
  show o.val = 0 * 1024 + o.val
  omega

theorem va_read (k : Fin 16) (i : Fin 16384) : va m c (ix2 k i) = (ka6 m c) (ix2 i k) := by
  refine (congrFun (V_v7 m c) (ix2 k i)).trans ?_
  pointwise

theorem vw_read : vw m c = (ka4 m c) := V_main_arg4 m c
theorem vb_read : vb m c = (ka7 m c) := V_main_arg7 m c

/-! ## The region's intermediate quantities are the plain formulas -/

theorem X2_eq (b : Fin 2) (s : Fin 2048) (i : Fin 16384) : X2 m c (row b s) i = MX (fx (codesX (ka0 m c))) (fxs (ka1 m c)) b s i :=
  congrArg₂ (fun u v : EReal => u * v) (vx_read m c b s i) (vxs_read m c b s _)

theorem Y2_eq (b : Fin 2) (s : Fin 2048) (o : Fin 1024) : Y2 m c (row b s) o = MY (fy (codesY (ka2 m c))) (fys (ka3 m c)) b s o :=
  congrArg₂ (fun u v : EReal => u * v) (vy_read m c b s o) (vys_read m c b s _)

theorem T2_eq (b : Fin 2) (s : Fin 2048) (k : Fin 16) : T2 m c (row b s) k = MT (fy (codesY (ka2 m c))) (fys (ka3 m c)) (flb (ka7 m c)) b s k :=
  Finset.sum_congr rfl fun o _ => congrArg₂ (fun u v : EReal => u * v) (Y2_eq m c b s o) (congrFun (vb_read m c) (ix2 k o))

theorem XA2_eq (b : Fin 2) (s : Fin 2048) (k : Fin 16) : XA2 m c k (row b s) = MXA (fx (codesX (ka0 m c))) (fxs (ka1 m c)) (fla (ka6 m c)) b s k :=
  Finset.sum_congr rfl fun i _ => congrArg₂ (fun u v : EReal => u * v) (X2_eq m c b s i) (va_read m c k i)

theorem G8_eq (b : Fin 2) (s : Fin 2048) (i : Fin 16384) : (G8 m c (ix2 (row b s) i) : EReal) = MDX (fy (codesY (ka2 m c))) (fys (ka3 m c)) (fw (ka4 m c)) (fws (ka5 m c)) (fla (ka6 m c)) (flb (ka7 m c)) b s i := by
  unfold MDX
  rw [c2_sum]
  refine congrArg₂ (fun u v : EReal => u + v) (Finset.sum_congr rfl fun o _ => ?_) (Finset.sum_congr rfl fun k _ => ?_)
  · refine (congrArg₂ (fun u v : EReal => u * v) (congrArg₂ (fun u v : EReal => u * v) (Y2_eq m c b s o) (vws_read m c o)) (congrFun (vw_read m c) (ix2 i o))).trans ?_
    exact (mul_assoc _ _ _).trans (congrArg (fun u : EReal => MY (fy (codesY (ka2 m c))) (fys (ka3 m c)) b s o * u) (mul_comm _ _))
  · refine (congrArg₂ (fun u v : EReal => (c2 * u) * v) (T2_eq m c b s k) (va_read m c k i)).trans ?_
    exact mul_assoc _ _ _

theorem G9_eq (i : Fin 16384) (k : Fin 16) : (G9 m c (ix2 k i) : EReal) = MDA (fx (codesX (ka0 m c))) (fxs (ka1 m c)) (fy (codesY (ka2 m c))) (fys (ka3 m c)) (flb (ka7 m c)) i k := by
  unfold MDA
  rw [c2_sum]
  refine (sumBlocks 2 2048 rfl _).trans (Finset.sum_congr rfl fun b _ => ?_)
  rw [c2_sum]
  refine Finset.sum_congr rfl fun s _ => ?_
  refine (congrArg₂ (fun u v : EReal => (c2 * u) * v) (T2_eq m c b s k) (X2_eq m c b s i)).trans ?_
  exact (mul_assoc _ _ _).trans (congrArg (fun u : EReal => c2 * u) (mul_comm _ _))

theorem G10_eq (k : Fin 16) (o : Fin 1024) : (G10 m c (ix2 k o) : EReal) = MDB (fx (codesX (ka0 m c))) (fxs (ka1 m c)) (fy (codesY (ka2 m c))) (fys (ka3 m c)) (fla (ka6 m c)) k o := by
  unfold MDB
  rw [c2_sum]
  refine (sumBlocks 2 2048 rfl _).trans (Finset.sum_congr rfl fun b _ => ?_)
  rw [c2_sum]
  refine Finset.sum_congr rfl fun s _ => ?_
  refine (congrArg₂ (fun u v : EReal => (c2 * u) * v) (XA2_eq m c b s k) (Y2_eq m c b s o)).trans ?_
  exact mul_assoc _ _ _

/-! ## The results after the host operations that follow the region -/

/-- The contents the later operations find: the region's arrays, everything else as it was. -/
abbrev exitV : Valuation τ sig (Elt Ideal) :=
  Pipeline.withArrays spec0 c (V0 m c) fun w => (dats m 0 c).arrAt w cfg0.N

theorem tail_main_v9 (W : Valuation τ sig (Elt Ideal)) (G : Vec Ideal S4096x16384 .bf16) (hG : W (Proc.devRef .tc main_v8_0) = G) :
    StableHlo.after (List.flatten [hostOps1]) W (Proc.devRef .tc main_v9) = shapeCast S2x2048x16384 G shapeCasts_S4096x16384_S2x2048x16384 := by
  subst hG
  simp only [hostOps1, List.flatten_cons, List.flatten_nil, List.append_nil, List.cons_append, List.nil_append]
  after_results_simp <;> rfl

theorem exit_main_v8_0 (G : Vec Ideal S4096x16384 .bf16) (hG : (dats m 0 c).arrAt 8 cfg0.N = (G : Buf (Elt Ideal) ((c : Thread nD τ).loc main_v8_0))) :
    exitV m c (Proc.devRef .tc main_v8_0) = G :=
  (Pipeline.withArrays_arr spec0 launch0.win.arr_inj c (V0 m c) _ 8).trans hG

theorem tail_main_v10 (W : Valuation τ sig (Elt Ideal)) (G : Vec Ideal S16x16384 .f32) (hG : W (Proc.devRef .tc main_v8_1) = G) :
    StableHlo.after (List.flatten [hostOps1]) W (Proc.devRef .tc main_v10) = transpose S16384x16 [1, 0] G transposes_S16x16384_S16384x16_1_0 := by
  subst hG
  simp only [hostOps1, List.flatten_cons, List.flatten_nil, List.append_nil, List.cons_append, List.nil_append]
  after_results_simp <;> rfl

theorem exit_main_v8_1 (G : Vec Ideal S16x16384 .f32) (hG : (dats m 0 c).arrAt 9 cfg0.N = (G : Buf (Elt Ideal) ((c : Thread nD τ).loc main_v8_1))) :
    exitV m c (Proc.devRef .tc main_v8_1) = G :=
  (Pipeline.withArrays_arr spec0 launch0.win.arr_inj c (V0 m c) _ 9).trans hG

theorem tail_main_v12 (W : Valuation τ sig (Elt Ideal)) (G : Vec Ideal S16x4096 .f32) (hG : W (Proc.devRef .tc main_v8_3) = G) :
    StableHlo.after (List.flatten [hostOps1]) W (Proc.devRef .tc main_v12) = shapeCast S2x2048x16 (transpose S4096x16 [1, 0] G transposes_S16x4096_S4096x16_1_0) shapeCasts_S4096x16_S2x2048x16 := by
  subst hG
  simp only [hostOps1, List.flatten_cons, List.flatten_nil, List.append_nil, List.cons_append, List.nil_append]
  after_results_simp <;> rfl

theorem exit_main_v8_3 (G : Vec Ideal S16x4096 .f32) (hG : (dats m 0 c).arrAt 11 cfg0.N = (G : Buf (Elt Ideal) ((c : Thread nD τ).loc main_v8_3))) :
    exitV m c (Proc.devRef .tc main_v8_3) = G :=
  (Pipeline.withArrays_arr spec0 launch0.win.arr_inj c (V0 m c) _ 11).trans hG

theorem tail_main_v14 (W : Valuation τ sig (Elt Ideal)) (G : Vec Ideal S16x4096 .f32) (hG : W (Proc.devRef .tc main_v8_4) = G) :
    StableHlo.after (List.flatten [hostOps1]) W (Proc.devRef .tc main_v14) = shapeCast S2x2048x16 (transpose S4096x16 [1, 0] G transposes_S16x4096_S4096x16_1_0) shapeCasts_S4096x16_S2x2048x16 := by
  subst hG
  simp only [hostOps1, List.flatten_cons, List.flatten_nil, List.append_nil, List.cons_append, List.nil_append]
  after_results_simp <;> rfl

theorem exit_main_v8_4 (G : Vec Ideal S16x4096 .f32) (hG : (dats m 0 c).arrAt 12 cfg0.N = (G : Buf (Elt Ideal) ((c : Thread nD τ).loc main_v8_4))) :
    exitV m c (Proc.devRef .tc main_v8_4) = G :=
  (Pipeline.withArrays_arr spec0 launch0.win.arr_inj c (V0 m c) _ 12).trans hG

theorem kres_main_v9 (hT : ∀ r k, Fin' (T2 m c r k)) : Pipeline.afterTail₀ cfgs (dats m) 0 (V0 m) [hostOps1] c main_v9 = RDX (ka2 m c) (ka3 m c) (ka4 m c) (ka5 m c) (ka6 m c) (ka7 m c) := by
  refine (tail_main_v9 (exitV m c) (G8 m c) (exit_main_v8_0 m c _ (arr8 m c hT))).trans ?_
  funext j
  rw [eq_ix3 j]
  refine (shapeCast_apply _ _ _ (ix2 (row (j 0) (j 1)) (j 2)) ?_).trans ?_
  · rw [Shape.rowMajor_val_three, Shape.rowMajor_val_two]
    show (2048 * (j 0).val + (j 1).val) * 16384 + (j 2).val = ((j 0).val * 2048 + (j 1).val) * 16384 + (j 2).val
    omega
  · exact G8_eq m c (j 0) (j 1) (j 2)

theorem kres_main_v12 : Pipeline.afterTail₀ cfgs (dats m) 0 (V0 m) [hostOps1] c main_v12 = RT (ka2 m c) (ka3 m c) (ka7 m c) := by
  refine (tail_main_v12 (exitV m c) (G11 m c) (exit_main_v8_3 m c _ (arr11 m c))).trans ?_
  funext j
  rw [eq_ix3 j]
  refine (shapeCast_apply _ _ _ (ix2 (row (j 0) (j 1)) (j 2)) ?_).trans ?_
  · rw [Shape.rowMajor_val_three, Shape.rowMajor_val_two]
    show (2048 * (j 0).val + (j 1).val) * 16 + (j 2).val = ((j 0).val * 2048 + (j 1).val) * 16 + (j 2).val
    omega
  · refine (?_ : transpose S4096x16 [1, 0] _ transposes_S16x4096_S4096x16_1_0 _ = (G11 m c : Vec Ideal S16x4096 .f32) (ix2 (j 2) (row (j 0) (j 1)))).trans (T2_eq m c (j 0) (j 1) (j 2))
    pointwise

theorem kres_main_v14 : Pipeline.afterTail₀ cfgs (dats m) 0 (V0 m) [hostOps1] c main_v14 = RXA (ka0 m c) (ka1 m c) (ka6 m c) := by
  refine (tail_main_v14 (exitV m c) (G12 m c) (exit_main_v8_4 m c _ (arr12 m c))).trans ?_
  funext j
  rw [eq_ix3 j]
  refine (shapeCast_apply _ _ _ (ix2 (row (j 0) (j 1)) (j 2)) ?_).trans ?_
  · rw [Shape.rowMajor_val_three, Shape.rowMajor_val_two]
    show (2048 * (j 0).val + (j 1).val) * 16 + (j 2).val = ((j 0).val * 2048 + (j 1).val) * 16 + (j 2).val
    omega
  · refine (?_ : transpose S4096x16 [1, 0] _ transposes_S16x4096_S4096x16_1_0 _ = (G12 m c : Vec Ideal S16x4096 .f32) (ix2 (j 2) (row (j 0) (j 1)))).trans (XA2_eq m c (j 0) (j 1) (j 2))
    pointwise

theorem kres_main_v10 (hT : ∀ r k, Fin' (T2 m c r k)) : Pipeline.afterTail₀ cfgs (dats m) 0 (V0 m) [hostOps1] c main_v10 = RDA (ka0 m c) (ka1 m c) (ka2 m c) (ka3 m c) (ka7 m c) := by
  refine (tail_main_v10 (exitV m c) (G9 m c) (exit_main_v8_1 m c _ (arr9 m c hT))).trans ?_
  funext j
  rw [eq_ix2 j]
  refine (?_ : transpose S16384x16 [1, 0] _ transposes_S16x16384_S16384x16_1_0 _ = (G9 m c : Vec Ideal S16x16384 .f32) (ix2 (j 1) (j 0))).trans (G9_eq m c (j 0) (j 1))
  pointwise

theorem kres_main_v8_2 (hX : ∀ k r, Fin' (XA2 m c k r)) : (dats m 0 c).arrAt 10 cfg0.N = RDB (ka0 m c) (ka1 m c) (ka2 m c) (ka3 m c) (ka6 m c) := by
  refine (arr10 m c hX).trans ?_
  funext j
  rw [eq_ix2 j]
  exact G10_eq m c (j 0) (j 1)

end Cert.KernelIdeal.Gen

end
-- ==== Proof.Finite.lean ====
module

public import proofs.«01_k».proof.Proof.KRes
public import proofs.«01_k».proof.Defs
public import Idealize.ShloMosaic.Lib.Pointwise
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Lora

/-- A code the precondition lets through is not the NaN of the 4-bit-exponent format, so it denotes a real. -/
theorem fin_e4m3 (b : BitVec 8) (h : IntOp.cmpi .slt (IntOp.andi (b.signExtend 32) 127#32) 127#32 = 1#1) : Fin' (Ideal.ofBits .fp8e4m3 b) := by
  have key : ∀ n : Fin 256, IntOp.cmpi .slt (IntOp.andi ((BitVec.ofFin n : BitVec 8).signExtend 32) 127#32) 127#32 = 1#1 →
      ¬(((BitVec.ofFin n : BitVec 8).extractLsb' 3 4).toNat = 15 ∧ ((BitVec.ofFin n : BitVec 8).extractLsb' 0 3).toNat = 7) := by
    decide +kernel
  have hk := key b.toFin h
  show Fin' (Ideal.e4m3fn b)
  unfold Ideal.e4m3fn
  dsimp only
  rw [if_neg hk]
  by_cases h0 : (b.extractLsb' 3 4).toNat = 0
  · rw [if_pos h0]; exact ⟨_, rfl⟩
  · rw [if_neg h0]; exact ⟨_, rfl⟩

/-- A code the precondition lets through is below the infinities of the 5-bit-exponent format, so it denotes a real. -/
theorem fin_e5m2 (b : BitVec 8) (h : IntOp.cmpi .slt (IntOp.andi (b.signExtend 32) 127#32) 124#32 = 1#1) : Fin' (Ideal.ofBits .fp8e5m2 b) := by
  have key : ∀ n : Fin 256, IntOp.cmpi .slt (IntOp.andi ((BitVec.ofFin n : BitVec 8).signExtend 32) 127#32) 124#32 = 1#1 →
      ¬(((BitVec.ofFin n : BitVec 8).extractLsb' 2 5).toNat = 2 ^ 5 - 1) := by
    decide +kernel
  have hk := key b.toFin h
  show Fin' (Ideal.ieee 5 2 b)
  unfold Ideal.ieee
  dsimp only
  rw [if_neg hk]
  by_cases h0 : (b.extractLsb' 2 5).toNat = 0
  · rw [if_pos h0]; exact ⟨_, rfl⟩
  · rw [if_neg h0]; exact ⟨_, rfl⟩

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

/-- An extended real whose absolute value is below infinity is a real. -/
theorem fin_abs (v : EReal) (h : Ideal.cmp .olt (max v (-v)) ⊤ = 1#1) : Fin' v := by
  have h' : max v (-v) < ⊤ := by
    by_contra hn
    simp [Ideal.cmp, hn] at h
  induction v with
  | bot => simp at h'
  | top => simp at h'
  | coe q => exact ⟨q, rfl⟩

variable [hPre : Cert.Pre_finite.Facts]
variable (m : (ℓ : Loc nD τ sig) → Buf (Elt Ideal) ℓ) (c : Dev nD)

section
variable (h : Cert.Pre_KernelIdeal_finite m)
include h

theorem fin_x (j) : Fin' (codesX (ka0 m c) j) := fin_e4m3 _ (congrFun (h c).1 j)
theorem fin_xs (j) : Fin' (ka1 m c j) := fin_abs _ ((congrArg (Ideal.cmp .olt (max (ka1 m c j) (-(ka1 m c j)))) inf_f32).symm.trans (congrFun (h c).2.1 j))
theorem fin_y (j) : Fin' (codesY (ka2 m c) j) := fin_e5m2 _ (congrFun (h c).2.2.1 j)
theorem fin_ys (j) : Fin' (ka3 m c j) := fin_abs _ ((congrArg (Ideal.cmp .olt (max (ka3 m c j) (-(ka3 m c j)))) inf_f32).symm.trans (congrFun (h c).2.2.2.1 j))
theorem fin_la (j) : Fin' (ka6 m c j) := fin_abs _ ((congrArg (Ideal.cmp .olt (max (ka6 m c j) (-(ka6 m c j)))) inf_bf16).symm.trans (congrFun (h c).2.2.2.2.1 j))
theorem fin_lb (j) : Fin' (ka7 m c j) := fin_abs _ ((congrArg (Ideal.cmp .olt (max (ka7 m c j) (-(ka7 m c j)))) inf_bf16).symm.trans (congrFun (h c).2.2.2.2.2 j))

theorem row_split (r : Fin 4096) : row ⟨r.val / 2048, by omega⟩ ⟨r.val % 2048, by omega⟩ = r := Fin.ext (by show 2048 * (r.val / 2048) + r.val % 2048 = r.val; omega)

/-- Under the precondition the product with `lora_b` is real at every entry. -/
theorem fin_T2 (r : Fin 4096) (k : Fin 16) : Fin' (T2 m c r k) := by
  rw [← row_split m h r, T2_eq]
  exact Fin'.sum _ _ fun o => ((fin_y m c h _).mul (fin_ys m c h _)).mul (fin_lb m c h _)

/-- Under the precondition the product with `lora_a` is real at every entry. -/
theorem fin_XA2 (k : Fin 16) (r : Fin 4096) : Fin' (XA2 m c k r) := by
  rw [← row_split m h r, XA2_eq]
  exact Fin'.sum _ _ fun i => ((fin_x m c h _).mul (fin_xs m c h _)).mul (fin_la m c h _)

end

end Cert.KernelIdeal.Gen

end
-- ==== Proof.KRun.lean ====
module

public import proofs.«01_k».proof.Proof.Finite
public import Idealize.ShloMosaic.Lib.Pointwise
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lora

variable (m : (ℓ : Loc nD τ sig) → Buf (Elt Ideal) ℓ)

/-- For any memory: the kernel terminates with its arguments unchanged and every counter back at zero. -/
theorem frame_quiescent (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run defs _ _).mono (fun r h' => ⟨fun c => ⟨((h'.1 c).2 main_arg0 (Pipeline.mem_restRefs_of main_arg0 (by decide) (by decide))).trans (W_main_arg0 m (dats m) c),
    ((h'.1 c).2 main_arg1 (Pipeline.mem_restRefs_of main_arg1 (by decide) (by decide))).trans (W_main_arg1 m (dats m) c),
    ((h'.1 c).2 main_arg2 (Pipeline.mem_restRefs_of main_arg2 (by decide) (by decide))).trans (W_main_arg2 m (dats m) c),
    ((h'.1 c).2 main_arg3 (Pipeline.mem_restRefs_of main_arg3 (by decide) (by decide))).trans (W_main_arg3 m (dats m) c),
    ((h'.1 c).1 4).trans (((dats m 0 c).arrAt_in 4 rfl _).trans ((A_eq m c 4).trans (V_main_arg4 m c))),
    ((h'.1 c).2 main_arg5 (Pipeline.mem_restRefs_of main_arg5 (by decide) (by decide))).trans (W_main_arg5 m (dats m) c),
    ((h'.1 c).2 main_arg6 (Pipeline.mem_restRefs_of main_arg6 (by decide) (by decide))).trans (W_main_arg6 m (dats m) c),
    ((h'.1 c).1 7).trans (((dats m 0 c).arrAt_in 7 rfl _).trans ((A_eq m c 7).trans (V_main_arg7 m c)))⟩, h'.2⟩) (run_main_quiescent m ρ)

variable [hPre : Cert.Pre_finite.Facts]

/-- Under the precondition the kernel runs and each result is the plain formula of the arguments, which end unchanged. -/
theorem run_val (h : Cert.Pre_KernelIdeal_finite m) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = RDX (ka2 m c) (ka3 m c) (ka4 m c) (ka5 m c) (ka6 m c) (ka7 m c)
      ∧ r.2.mem ((c.tc : Thread nD τ).loc main_v10) = RDA (ka0 m c) (ka1 m c) (ka2 m c) (ka3 m c) (ka7 m c)
      ∧ r.2.mem ((c.tc : Thread nD τ).loc main_v8_2) = RDB (ka0 m c) (ka1 m c) (ka2 m c) (ka3 m c) (ka6 m c)
      ∧ r.2.mem ((c.tc : Thread nD τ).loc main_v12) = RT (ka2 m c) (ka3 m c) (ka7 m c)
      ∧ r.2.mem ((c.tc : Thread nD τ).loc main_v14) = RXA (ka0 m c) (ka1 m c) (ka6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h' c => ⟨((h'.1 c).2 main_v9 (Pipeline.mem_restRefs_of main_v9 (by decide) (by decide))).trans (kres_main_v9 m c (fin_T2 m c h)),
    ((h'.1 c).2 main_v10 (Pipeline.mem_restRefs_of main_v10 (by decide) (by decide))).trans (kres_main_v10 m c (fin_T2 m c h)),
    ((h'.1 c).1 10).trans (kres_main_v8_2 m c (fin_XA2 m c h)),
    ((h'.1 c).2 main_v12 (Pipeline.mem_restRefs_of main_v12 (by decide) (by decide))).trans (kres_main_v12 m c),
    ((h'.1 c).2 main_v14 (Pipeline.mem_restRefs_of main_v14 (by decide) (by decide))).trans (kres_main_v14 m c),
    ((h'.1 c).2 main_arg0 (Pipeline.mem_restRefs_of main_arg0 (by decide) (by decide))).trans (W_main_arg0 m (dats m) c),
    ((h'.1 c).2 main_arg1 (Pipeline.mem_restRefs_of main_arg1 (by decide) (by decide))).trans (W_main_arg1 m (dats m) c),
    ((h'.1 c).2 main_arg2 (Pipeline.mem_restRefs_of main_arg2 (by decide) (by decide))).trans (W_main_arg2 m (dats m) c),
    ((h'.1 c).2 main_arg3 (Pipeline.mem_restRefs_of main_arg3 (by decide) (by decide))).trans (W_main_arg3 m (dats m) c),
    ((h'.1 c).1 4).trans (((dats m 0 c).arrAt_in 4 rfl _).trans ((A_eq m c 4).trans (V_main_arg4 m c))),
    ((h'.1 c).2 main_arg5 (Pipeline.mem_restRefs_of main_arg5 (by decide) (by decide))).trans (W_main_arg5 m (dats m) c),
    ((h'.1 c).2 main_arg6 (Pipeline.mem_restRefs_of main_arg6 (by decide) (by decide))).trans (W_main_arg6 m (dats m) c),
    ((h'.1 c).1 7).trans (((dats m 0 c).arrAt_in 7 rfl _).trans ((A_eq m c 7).trans (V_main_arg7 m c)))⟩) (run_main_quiescent m ρ)

end Cert.KernelIdeal.Gen

end
-- ==== Proof.OrigSplit.lean ====
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first scale block of the grid point's tile of `x`, as the body computes it. -/
def fbW (i : grid0.Coords) : BitVec 32 :=
  let arg0 : BitVec 32 := BitVec.ofNat 32 (i 0).val
  let v7 : BitVec 1 := Scalar.cmpi .eq 8#32 0#32
  let v8 : BitVec 32 := Scalar.select v7 1#32 8#32
  let v9 : BitVec 32 := Scalar.remsi arg0 v8
  let v10 : BitVec 1 := Scalar.cmpi .ne v9 0#32
  let v11 : BitVec 1 := Scalar.cmpi .slt v9 0#32
  let v12 : BitVec 1 := Scalar.cmpi .slt v8 0#32
  let v13 : BitVec 1 := Scalar.xori v11 v12
  let v14 : BitVec 1 := Scalar.andi v13 v10
  let v15 : BitVec 32 := Scalar.addi v9 v8
  let v16 : BitVec 32 := Scalar.select v14 v15 v9
  let v17 : BitVec 32 := Scalar.muli v16 16#32
  v17

/-- What the body does at the first grid point only: the upstream gradient widened and stored, with its products by `lora_b`. -/
noncomputable def initG (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) : Prog (TpuEff nD τ sig (Elt F) Λ₀ .tc) PUnit := do
  let ⟨v1454, v3985, v3986, v3987, v4025, v4063, v4101, v4139, c32_i32_1336, v4141, v4144, v4146⟩ : Σ' (v1454 : FVec F S1x1024 .bf16) (v3985 : FVec F S512x1024 .fp8e5m2) (v3986 : Vec F S512x128 .f32) (v3987 : IVec S512x128 32) (v4025 : FVec F S512x128 .bf16) (v4063 : FVec F S512x128 .bf16) (v4101 : FVec F S512x128 .bf16) (v4139 : FVec F S512x128 .bf16) (c32_i32_1336 : BitVec 32) (v4141 : IVec S512x128 32) (v4144 : IVec S512x128 32), IVec S512x128 1 ← k0_part65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let ⟨v4177, v4179, v4193, v4194⟩ : Σ' (v4177 : FVec F S512x128 .bf16) (v4179 : IVec S512x128 32) (v4193 : IVec S512x128 1), IVec S512x128 32 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3985 v3986 v3987 c32_i32_1336 v4141 v4144 v4146
  let ⟨v4215, v4241⟩ : Σ' (v4215 : FVec F S512x128 .bf16), IVec S512x128 32 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3985 v3986 v3987 v4179 v4193 v4194
  let ⟨v4253, v4288, v4289⟩ : Σ' (v4253 : FVec F S512x128 .bf16) (v4288 : FVec F S512x128 .bf16), FVec F S512x128 .fp8e5m2 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3985 v3986 v3987 v4241
  let ⟨v4325, v4329⟩ : Σ' (v4325 : FVec F S512x48 .bf16), FVec F S512x128 .bf16 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1454 v4025 v4063 v4101 v4139 v4177 v4215 v4253 v4288 v4289
  Prog.lift (.store arg14 (Rect.unit (s := S4096x1152) ![3584, 1024] S512x128.size inb_S4096x1152_S512x128_3584_1024) v4329 Finset.univ (View.stores_vmem h_S512x128 (harg14.storeExact_slice rfl _ packedbf16_S4096x1152_S512x128_3584_1024) (fun _ => rfl)) (.inl rfl))
  let v4330 : Vec F S512x48 .bf16 ← Prog.lift (.load arg14 (Rect.unit (s := S4096x1152) ![3584, 1024] S512x48.size inb_S4096x1152_S512x48_3584_1024).toLoadRect (View.loadsAt_vmem h_S512x48))
  Prog.lift (.store arg14 (Rect.unit (s := S4096x1152) ![3584, 1024] S512x48.size inb_S4096x1152_S512x48_3584_1024) (k0_pay452 v4325) Finset.univ (View.stores_vmem h_S512x48 (harg14.storeExact_slice rfl _ packedbf16_S4096x1152_S512x48_3584_1024) (fun _ => rfl)) (.inl rfl))
  let v4334 : Vec F S16x512 .f32 ← Prog.lift (.load arg13 (Rect.unit (s := S16x4096) ![0, 3584] S16x512.size inb_S16x4096_S16x512_0_3584).toLoadRect (View.loadsAt_vmem h_S16x512))
  Prog.lift (.store arg13 (Rect.unit (s := S16x4096) ![0, 3584] S16x512.size inb_S16x4096_S16x512_0_3584) (k0_pay453 (F := F)) Finset.univ (View.stores_vmem_bits_univ h_S16x512 rfl) (.inl rfl))
  pure ⟨⟩

/-- What the body does at every grid point. -/
noncomputable def commonG (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) (next : Prog (TpuEff nD τ sig (Elt F) Λ₀ .tc) PUnit) : Prog (TpuEff nD τ sig (Elt F) Λ₀ .tc) PUnit := do
  let v3 : Vec F S16x512 .bf16 ← Prog.lift (.load arg7 (Rect.unit (s := S16x512) ![0, 0] S16x512.size inb_S16x512_S16x512_0_0).toLoadRect (View.loadsAt_vmem h_S16x512))
  let v17 : BitVec 32 := fbW i
  let v19 : Vec F S512x1024 .bf16 ← Prog.lift (.load arg14 (Rect.unit (s := S4096x1152) ![0, 0] S512x1024.size inb_S4096x1152_S512x1024_0_0).toLoadRect (View.loadsAt_vmem h_S512x1024))
  let v20 : Vec F S512x1024 .fp8e4m3 ← Prog.lift (.load arg5 (Rect.unit (s := S512x1024) ![0, 0] S512x1024.size inb_S512x1024_S512x1024_0_0).toLoadRect (View.loadsAt_vmem h_S512x1024))
  let v22 : Vec F S512x128 .bf16 ← Prog.lift (.load arg14 (Rect.unit (s := S4096x1152) ![0, 1024] S512x128.size inb_S4096x1152_S512x128_0_1024).toLoadRect (View.loadsAt_vmem h_S512x128))
  let v26 : Vec F S512x512 .bf16 ← Prog.lift (.load arg9 (Rect.unit (s := S4096x512) ![0, 0] S512x512.size inb_S4096x512_S512x512_0_0).toLoadRect (View.loadsAt_vmem h_S512x512))
  Prog.lift (.store arg9 (Rect.unit (s := S4096x512) ![0, 0] S512x512.size inb_S4096x512_S512x512_0_0) (k0_pay457 v3 v19 v20 v22) Finset.univ (View.stores_vmem h_S512x512 (harg9.storeExact_slice rfl _ packedbf16_S4096x512_S512x512_0_0) (fun _ => rfl)) (.inl rfl))
  let v27 : Vec F S512x512 .fp8e4m3 ← Prog.lift (.load arg1 (Rect.unit (s := S4096x512) ![0, 0] S512x512.size inb_S4096x512_S512x512_0_0).toLoadRect (View.loadsAt_vmem h_S512x512))
  let v29 : Vec F S512x128 .f32 ← Prog.lift (.load arg2 (Rect.unit (s := S4096x128) ![0, 0] S512x128.size inb_S4096x128_S512x128_0_0).toLoadRect (View.loadsAt_vmem h_S512x128))
  let v4 := k0_pay454 v3
  let v6 := k0_pay455 v3
  let v18 := k0_pay456 (F := F)
  let v28 := k0_pay458 v27
  let ⟨v30, v31, v70, c32_i32_28, v72, v75, v76⟩ : Σ' (v30 : FVec F S512x128 .f32) (v31 : IVec S512x128 32) (v70 : FVec F S512x128 .bf16) (c32_i32_28 : BitVec 32) (v72 : IVec S512x128 32) (v75 : IVec S512x128 32), IVec S512x128 32 ← k0_part125 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v28 v29
  let ⟨v109, c32_i32_37, v111, v118, v124⟩ : Σ' (v109 : FVec F S512x128 .bf16) (c32_i32_37 : BitVec 32) (v111 : IVec S512x128 32) (v118 : IVec S512x128 32), IVec S512x128 32 ← k0_part126 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v28 v30 v31 c32_i32_28 v72 v75 v76
  let ⟨v148, v172⟩ : Σ' (v148 : FVec F S512x128 .bf16), IVec S512x128 32 ← k0_part127 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v28 v30 v31 c32_i32_37 v111 v118 v124
  let ⟨v191, v206⟩ : Σ' (v191 : FVec F S48x512 .f32), FVec F S512x512 .fp8e4m3 ← k0_part128 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v17 v18 v28 v30 v70 v109 v148 v172
  let ⟨v208, v209, v248, c32_i32_87, v250, v253⟩ : Σ' (v208 : FVec F S512x128 .f32) (v209 : IVec S512x128 32) (v248 : FVec F S512x128 .bf16) (c32_i32_87 : BitVec 32) (v250 : IVec S512x128 32), IVec S512x128 32 ← k0_part129 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v206
  let ⟨v287, c32_i32_97, v289, v296, v298, v300⟩ : Σ' (v287 : FVec F S512x128 .bf16) (c32_i32_97 : BitVec 32) (v289 : IVec S512x128 32) (v296 : IVec S512x128 32) (v298 : BitVec 32), BitVec 32 ← k0_part130 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v206 v208 v209 c32_i32_87 v250 v253
  let ⟨v326, v328, v347, v348⟩ : Σ' (v326 : FVec F S512x128 .bf16) (v328 : IVec S512x128 32) (v347 : IVec S512x128 1), IVec S512x128 32 ← k0_part131 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v206 v208 v209 c32_i32_97 v289 v296 v298 v300
  let ⟨v369, v383⟩ : Σ' (v369 : FVec F S48x512 .f32), Vec F S512x512 .fp8e4m3 ← k0_part132 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v17 v191 v206 v208 v248 v287 v326 v328 v347 v348
  let ⟨v384, v386, v387, v426, c32_i32_149, v428, v429⟩ : Σ' (v384 : FVec F S512x512 .fp8e4m3) (v386 : FVec F S512x128 .f32) (v387 : IVec S512x128 32) (v426 : FVec F S512x128 .bf16) (c32_i32_149 : BitVec 32) (v428 : IVec S512x128 32), IVec S512x128 32 ← k0_part133 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v383
  let ⟨v465, c32_i32_159, v467, v474, v476, c0_i32_163⟩ : Σ' (v465 : FVec F S512x128 .bf16) (c32_i32_159 : BitVec 32) (v467 : IVec S512x128 32) (v474 : IVec S512x128 32) (v476 : BitVec 32), BitVec 32 ← k0_part134 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v384 v386 v387 c32_i32_149 v428 v429
  let ⟨v504, v506, v525⟩ : Σ' (v504 : FVec F S512x128 .bf16) (v506 : IVec S512x128 32), IVec S512x128 1 ← k0_part135 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v384 v386 v387 c32_i32_159 v467 v474 v476 c0_i32_163
  let v547 : FVec F S48x512 .f32 ← k0_part136 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v17 v369 v384 v386 v426 v465 v504 v506 v525
  let ⟨v562, v564, v565, v604, c32_i32_210, v606⟩ : Σ' (v562 : FVec F S512x512 .fp8e4m3) (v564 : FVec F S512x128 .f32) (v565 : IVec S512x128 32) (v604 : FVec F S512x128 .bf16) (c32_i32_210 : BitVec 32), IVec S512x128 32 ← k0_part137 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17
  let ⟨v643, c32_i32_220, v645, v652, v653⟩ : Σ' (v643 : FVec F S512x128 .bf16) (c32_i32_220 : BitVec 32) (v645 : IVec S512x128 32) (v652 : IVec S512x128 32), BitVec 1 ← k0_part138 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v562 v564 v565 c32_i32_210 v606
  let ⟨v682, v684, v698, v700, v701⟩ : Σ' (v682 : FVec F S512x128 .bf16) (v684 : IVec S512x128 32) (v698 : IVec S512x128 1) (v700 : IVec S512x128 32), IVec S512x128 32 ← k0_part139 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v562 v564 v565 c32_i32_220 v645 v652 v653
  let ⟨v725, v737⟩ : Σ' (v725 : FVec F S48x512 .f32), FVec F S512x512 .bf16 ← k0_part140 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v17 v547 v562 v564 v604 v643 v682 v684 v698 v700 v701
  let ⟨v740, v742, v743, v782, c32_i32_271⟩ : Σ' (v740 : FVec F S512x512 .fp8e4m3) (v742 : FVec F S512x128 .f32) (v743 : IVec S512x128 32) (v782 : FVec F S512x128 .bf16), BitVec 32 ← k0_part141 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v737
  let ⟨v821, c32_i32_281, v823, v830⟩ : Σ' (v821 : FVec F S512x128 .bf16) (c32_i32_281 : BitVec 32) (v823 : IVec S512x128 32), IVec S512x128 32 ← k0_part142 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v740 v742 v743 c32_i32_271
  let ⟨v860, v862, v876, v878⟩ : Σ' (v860 : FVec F S512x128 .bf16) (v862 : IVec S512x128 32) (v876 : IVec S512x128 1), IVec S512x128 32 ← k0_part143 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v740 v742 v743 c32_i32_281 v823 v830
  let ⟨v903, v915⟩ : Σ' (v903 : FVec F S48x512 .f32), FVec F S512x512 .bf16 ← k0_part144 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v17 v725 v740 v742 v782 v821 v860 v862 v876 v878
  let ⟨v918, v920, v921, v957, v959⟩ : Σ' (v918 : FVec F S512x512 .fp8e4m3) (v920 : FVec F S512x128 .f32) (v921 : IVec S512x128 32) (v957 : FVec F S512x128 .bf16), FVec F S512x128 .bf16 ← k0_part145 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v915
  let ⟨v960, v999, c32_i32_342, v1001, v1004, v1006⟩ : Σ' (v960 : FVec F S512x128 .bf16) (v999 : FVec F S512x128 .bf16) (c32_i32_342 : BitVec 32) (v1001 : IVec S512x128 32) (v1004 : IVec S512x128 32), IVec S512x128 1 ← k0_part146 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v918 v920 v921 v957 v959
  let ⟨v1038, c32_i32_352, v1040, v1054⟩ : Σ' (v1038 : FVec F S512x128 .bf16) (c32_i32_352 : BitVec 32) (v1040 : IVec S512x128 32), IVec S512x128 1 ← k0_part147 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v918 v920 v921 c32_i32_342 v1001 v1004 v1006
  let ⟨v1081, v1092⟩ : Σ' (v1081 : FVec F S48x512 .f32), FVec F S512x512 .f32 ← k0_part148 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 v17 v903 v918 v920 v921 v960 v999 v1038 c32_i32_352 v1040 v1054
  let ⟨v1096, v1098, v1099, v1135⟩ : Σ' (v1096 : FVec F S512x512 .fp8e4m3) (v1098 : FVec F S512x128 .f32) (v1099 : IVec S512x128 32), FVec F S512x128 .bf16 ← k0_part149 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v1092
  let ⟨v1138, v1177, c32_i32_403, v1179, v1182, c0_i32_405⟩ : Σ' (v1138 : FVec F S512x128 .bf16) (v1177 : FVec F S512x128 .bf16) (c32_i32_403 : BitVec 32) (v1179 : IVec S512x128 32) (v1182 : IVec S512x128 32), BitVec 32 ← k0_part150 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v1096 v1098 v1099 v1135
  let ⟨v1216, c32_i32_413, v1218, v1225, v1230⟩ : Σ' (v1216 : FVec F S512x128 .bf16) (c32_i32_413 : BitVec 32) (v1218 : IVec S512x128 32) (v1225 : IVec S512x128 32), BitVec 32 ← k0_part151 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v1096 v1098 v1099 c32_i32_403 v1179 v1182 c0_i32_405
  let ⟨v1259, v1267, v1268, cst_437⟩ : Σ' (v1259 : FVec F S48x512 .f32) (v1267 : FVec F S512x512 .f32) (v1268 : Vec F S512x128 .bf16), FVec F S512x512 .f32 ← k0_part152 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v17 v1081 v1096 v1098 v1099 v1138 v1177 v1216 c32_i32_413 v1218 v1225 v1230
  let ⟨v1274, v1276, v1277, v1311⟩ : Σ' (v1274 : FVec F S512x512 .fp8e4m3) (v1276 : FVec F S512x128 .f32) (v1277 : IVec S512x128 32), IVec S512x128 32 ← k0_part153 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v6 v17 v1267 v1268 cst_437
  let ⟨v1316, v1355, c32_i32_464, v1357, v1359⟩ : Σ' (v1316 : FVec F S512x128 .bf16) (v1355 : FVec F S512x128 .bf16) (c32_i32_464 : BitVec 32) (v1357 : IVec S512x128 32), IVec S512x128 1 ← k0_part154 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v1274 v1276 v1277 v1311
  let ⟨v1394, c32_i32_474, v1396, v1403, v1405, v1406⟩ : Σ' (v1394 : FVec F S512x128 .bf16) (c32_i32_474 : BitVec 32) (v1396 : IVec S512x128 32) (v1403 : IVec S512x128 32) (v1405 : BitVec 32), BitVec 1 ← k0_part155 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v17 v1274 v1276 v1277 c32_i32_464 v1357 v1359
  let c31_i32 : BitVec 32 ← k0_part156 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v17 v1259 v1274 v1276 v1277 v1316 v1355 v1394 c32_i32_474 v1396 v1403 v1405 v1406
  next

/-- What the body does at the last grid point only: the gradient of `lora_b`. -/
noncomputable def finG (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) : Prog (TpuEff nD τ sig (Elt F) Λ₀ .tc) PUnit := do
  let ⟨v3776, v4094, v4098⟩ : Σ' (v3776 : FVec F S48x1024 .f32) (v4094 : FVec F S512x1024 .bf16), FVec F S16x512 .f32 ← k0_part123 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
  let v4114 : Vec F S16x1024 .f32 ← Prog.lift (.load arg11 (Rect.unit (s := S16x1024) ![0, 0] S16x1024.size inb_S16x1024_S16x1024_0_0).toLoadRect (View.loadsAt_vmem h_S16x1024))
  Prog.lift (.store arg11 (Rect.unit (s := S16x1024) ![0, 0] S16x1024.size inb_S16x1024_S16x1024_0_0) (k0_pay1 v3776 v4094 v4098) Finset.univ (View.stores_vmem_bits_univ h_S16x1024 rfl) (.inl rfl))
  pure ⟨⟩

/-- The body, its conditionals decided (case A). -/
theorem body_A (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) (hc0 : k0_cond1 i = 1#1) (hc1 : ¬ k0_cond2 i = 1#1) :
    cc0_lora_fp8_backward (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = (initG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 >>= fun _ => commonG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (pure ⟨⟩)) := by
  rw [cc0_lora_fp8_backward_eq_skeleton]; unfold cc0_lora_fp8_backward_skel
  rw [k0_part124_eq_skeleton]; unfold k0_part124_skel commonG fbW initG
  simp only [dif_pos hc0, dif_neg hc1, bind_assoc, pure_bind]

/-- The body, its conditionals decided (case B). -/
theorem body_B (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) (hc0 : ¬ k0_cond1 i = 1#1) (hc1 : ¬ k0_cond2 i = 1#1) :
    cc0_lora_fp8_backward (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = (commonG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (pure ⟨⟩)) := by
  rw [cc0_lora_fp8_backward_eq_skeleton]; unfold cc0_lora_fp8_backward_skel
  rw [k0_part124_eq_skeleton]; unfold k0_part124_skel commonG fbW
  simp only [dif_neg hc0, dif_neg hc1, bind_assoc, pure_bind]

/-- The body, its conditionals decided (case C). -/
theorem body_C (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) (hc0 : ¬ k0_cond1 i = 1#1) (hc1 : k0_cond2 i = 1#1) :
    cc0_lora_fp8_backward (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = (commonG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (finG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)) := by
  rw [cc0_lora_fp8_backward_eq_skeleton]; unfold cc0_lora_fp8_backward_skel
  rw [k0_part124_eq_skeleton]; unfold k0_part124_skel commonG fbW finG
  simp only [dif_neg hc0, dif_pos hc1, bind_assoc, pure_bind]

end Cert.Kernel.Gen

end
-- ==== Proof.OrigCanon.lean ====
module

public import proofs.«01_k».proof.Proof.Gen.Kernel.Launch
public import proofs.«01_k».proof.Proof.Gen.Kernel.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid axis position of lane `j` counted in scale blocks, `j / 32`. -/
def laneDiv : IVec S512x128 32 := k0_pay469 (iota .tc S512x128 32 [1] iota_S512x128_d1_w32)

/-- The scales of 128 columns, one per block of 32 of them from block `off` on, rounded to bf16. -/
def gatherCol (off : BitVec 32) (scale : FVec F S512x128 .f32) : FVec F S512x128 .bf16 :=
  truncf .bf16 (dynamicGather 1 scale (shapeCast S512x128 (shapeCast S512x128x1
    (select (cmpi .slt (addi laneDiv (broadcast S512x128 off)) (broadcast S512x128 0#32))
      (addi (addi laneDiv (broadcast S512x128 off)) (broadcast S512x128 128#32)) (addi laneDiv (broadcast S512x128 off)))
    shapeCasts_S512x128_S512x128x1) shapeCasts_S512x128x1_S512x128)) bitsLt_bf16_f32

/-- One chunk of `x` widened: its codes times the scales from block `w` on. -/
def widenX (w : BitVec 32) (codes : Vec F S512x512 .fp8e4m3) (scale : Vec F S512x128 .f32) : FVec F S512x512 .bf16 :=
  concatenate S512x512 1 [
    ⟨S512x128, mulf (extf .bf16 (extractStridedSlice S512x128 ![0, 0] (k0_pay458 codes) slices_S512x512_o0_0_S512x128) bitsLt_fp8e4m3_bf16) (gatherCol (Scalar.addi w 0#32) (k0_pay459 scale))⟩,
    ⟨S512x128, mulf (extf .bf16 (extractStridedSlice S512x128 ![0, 128] (k0_pay458 codes) slices_S512x512_o0_128_S512x128) bitsLt_fp8e4m3_bf16) (gatherCol (Scalar.addi w 4#32) (k0_pay459 scale))⟩,
    ⟨S512x128, mulf (extf .bf16 (extractStridedSlice S512x128 ![0, 256] (k0_pay458 codes) slices_S512x512_o0_256_S512x128) bitsLt_fp8e4m3_bf16) (gatherCol (Scalar.addi w 8#32) (k0_pay459 scale))⟩,
    ⟨S512x128, mulf (extf .bf16 (extractStridedSlice S512x128 ![0, 384] (k0_pay458 codes) slices_S512x512_o0_384_S512x128) bitsLt_fp8e4m3_bf16) (gatherCol (Scalar.addi w 12#32) (k0_pay459 scale))⟩]
    concatenates_S512x128_S512x128_S512x128_S512x128_S512x512_d1

/-- A chunk's product with the transposed `lora_a`, added to the partial sum. -/
def xatStep (w : BitVec 32) (codes : Vec F S512x512 .fp8e4m3) (scale : Vec F S512x128 .f32) (at_ : Vec F S16x512 .bf16) (old : Vec F S16x512 .f32) : FVec F S16x512 .f32 :=
  addf (shapeCast S16x512 old shapeCasts_S16x512_S16x512)
    (matmul dot_S16x512_S512x512_S16x512_1_1_0_0_n_n none (k0_pay454 at_) (widenX w codes scale) (constant S16x512 .f32 0x00000000#32))

/-- A chunk's contribution to the split `lora_a` gradient, added to the running sum. -/
def datAcc (w : BitVec 32) (acc : FVec F S48x512 .f32) (codes : Vec F S512x512 .fp8e4m3) (scale : Vec F S512x128 .f32) (t3 : Vec F S48x512 .bf16) : FVec F S48x512 .f32 :=
  addf acc (matmul dot_S48x512_S512x512_S48x512_1_0_0_1_n_n none t3 (widenX w codes scale) (constant S48x512 .f32 0x00000000#32))

/-- The three parts of the split gradient, summed. -/
def datSum (v : FVec F S48x512 .f32) : FVec F S16x512 .f32 :=
  addf (addf (extractStridedSlice S16x512 ![0, 0] v slices_S48x512_o0_0_S16x512) (extractStridedSlice S16x512 ![16, 0] v slices_S48x512_o16_0_S16x512))
    (extractStridedSlice S16x512 ![32, 0] v slices_S48x512_o32_0_S16x512)

/-- The pieces the body stores into its tile of the input gradient. -/
def dxPieces (x4 : Vec F S512x1024 .fp8e4m3) (x6 : Vec F S16x512 .bf16) (y14 : Vec F S4096x1152 .bf16) : List (View.Piece (Elt F) S4096x512 .bf16) :=
  [⟨Rect.unit (s := S4096x512) ![3584, 0] S512x512.size inb_S4096x512_S512x512_3584_0, k0_pay457 (View.ld x6 (Rect.unit (s := S16x512) ![0, 0] S16x512.size inb_S16x512_S16x512_0_0)) (View.ld y14 (Rect.unit (s := S4096x1152) ![3584, 0] S512x1024.size inb_S4096x1152_S512x1024_3584_0)) (View.ld x4 (Rect.unit (s := S512x1024) ![0, 0] S512x1024.size inb_S512x1024_S512x1024_0_0)) (View.ld y14 (Rect.unit (s := S4096x1152) ![3584, 1024] S512x128.size inb_S4096x1152_S512x128_3584_1024))⟩,
   ⟨Rect.unit (s := S4096x512) ![3072, 0] S512x512.size inb_S4096x512_S512x512_3072_0, k0_pay457 (View.ld x6 (Rect.unit (s := S16x512) ![0, 0] S16x512.size inb_S16x512_S16x512_0_0)) (View.ld y14 (Rect.unit (s := S4096x1152) ![3072, 0] S512x1024.size inb_S4096x1152_S512x1024_3072_0)) (View.ld x4 (Rect.unit (s := S512x1024) ![0, 0] S512x1024.size inb_S512x1024_S512x1024_0_0)) (View.ld y14 (Rect.unit (s := S4096x1152) ![3072, 1024] S512x128.size inb_S4096x1152_S512x128_3072_1024))⟩,
   ⟨Rect.unit (s := S4096x512) ![2560, 0] S512x512.size inb_S4096x512_S512x512_2560_0, k0_pay457 (View.ld x6 (Rect.unit (s := S16x512) ![0, 0] S16x512.size inb_S16x512_S16x512_0_0)) (View.ld y14 (Rect.unit (s := S4096x1152) ![2560, 0] S512x1024.size inb_S4096x1152_S512x1024_2560_0)) (View.ld x4 (Rect.unit (s := S512x1024) ![0, 0] S512x1024.size inb_S512x1024_S512x1024_0_0)) (View.ld y14 (Rect.unit (s := S4096x1152) ![2560, 1024] S512x128.size inb_S4096x1152_S512x128_2560_1024))⟩,
   ⟨Rect.unit (s := S4096x512) ![2048, 0] S512x512.size inb_S4096x512_S512x512_2048_0, k0_pay457 (View.ld x6 (Rect.unit (s := S16x512) ![0, 0] S16x512.size inb_S16x512_S16x512_0_0)) (View.ld y14 (Rect.unit (s := S4096x1152) ![2048, 0] S512x1024.size inb_S4096x1152_S512x1024_2048_0)) (View.ld x4 (Rect.unit (s := S512x1024) ![0, 0] S512x1024.size inb_S512x1024_S512x1024_0_0)) (View.ld y14 (Rect.unit (s := S4096x1152) ![2048, 1024] S512x128.size inb_S4096x1152_S512x128_2048_1024))⟩,
   ⟨Rect.unit (s := S4096x512) ![1536, 0] S512x512.size inb_S4096x512_S512x512_1536_0, k0_pay457 (View.ld x6 (Rect.unit (s := S16x512) ![0, 0] S16x512.size inb_S16x512_S16x512_0_0)) (View.ld y14 (Rect.unit (s := S4096x1152) ![1536, 0] S512x1024.size inb_S4096x1152_S512x1024_1536_0)) (View.ld x4 (Rect.unit (s := S512x1024) ![0, 0] S512x1024.size inb_S512x1024_S512x1024_0_0)) (View.ld y14 (Rect.unit (s := S4096x1152) ![1536, 1024] S512x128.size inb_S4096x1152_S512x128_1536_1024))⟩,
   ⟨Rect.unit (s := S4096x512) ![1024, 0] S512x512.size inb_S4096x512_S512x512_1024_0, k0_pay457 (View.ld x6 (Rect.unit (s := S16x512) ![0, 0] S16x512.size inb_S16x512_S16x512_0_0)) (View.ld y14 (Rect.unit (s := S4096x1152) ![1024, 0] S512x1024.size inb_S4096x1152_S512x1024_1024_0)) (View.ld x4 (Rect.unit (s := S512x1024) ![0, 0] S512x1024.size inb_S512x1024_S512x1024_0_0)) (View.ld y14 (Rect.unit (s := S4096x1152) ![1024, 1024] S512x128.size inb_S4096x1152_S512x128_1024_1024))⟩,
   ⟨Rect.unit (s := S4096x512) ![512, 0] S512x512.size inb_S4096x512_S512x512_512_0, k0_pay457 (View.ld x6 (Rect.unit (s := S16x512) ![0, 0] S16x512.size inb_S16x512_S16x512_0_0)) (View.ld y14 (Rect.unit (s := S4096x1152) ![512, 0] S512x1024.size inb_S4096x1152_S512x1024_512_0)) (View.ld x4 (Rect.unit (s := S512x1024) ![0, 0] S512x1024.size inb_S512x1024_S512x1024_0_0)) (View.ld y14 (Rect.unit (s := S4096x1152) ![512, 1024] S512x128.size inb_S4096x1152_S512x128_512_1024))⟩,
   ⟨Rect.unit (s := S4096x512) ![0, 0] S512x512.size inb_S4096x512_S512x512_0_0, k0_pay457 (View.ld x6 (Rect.unit (s := S16x512) ![0, 0] S16x512.size inb_S16x512_S16x512_0_0)) (View.ld y14 (Rect.unit (s := S4096x1152) ![0, 0] S512x1024.size inb_S4096x1152_S512x1024_0_0)) (View.ld x4 (Rect.unit (s := S512x1024) ![0, 0] S512x1024.size inb_S512x1024_S512x1024_0_0)) (View.ld y14 (Rect.unit (s := S4096x1152) ![0, 1024] S512x128.size inb_S4096x1152_S512x128_0_1024))⟩]

/-- The pieces the body stores into the partial sums of `x · lora_a`. -/
def xatPieces (w : BitVec 32) (x0 : Vec F S4096x512 .fp8e4m3) (x1 : Vec F S4096x128 .f32) (x6 : Vec F S16x512 .bf16) (y13 : Vec F S16x4096 .f32) : List (View.Piece (Elt F) S16x4096 .f32) :=
  [⟨Rect.unit (s := S16x4096) ![0, 3584] S16x512.size inb_S16x4096_S16x512_0_3584, xatStep w (View.ld x0 (Rect.unit (s := S4096x512) ![3584, 0] S512x512.size inb_S4096x512_S512x512_3584_0)) (View.ld x1 (Rect.unit (s := S4096x128) ![3584, 0] S512x128.size inb_S4096x128_S512x128_3584_0)) (View.ld x6 (Rect.unit (s := S16x512) ![0, 0] S16x512.size inb_S16x512_S16x512_0_0)) (View.ld y13 (Rect.unit (s := S16x4096) ![0, 3584] S16x512.size inb_S16x4096_S16x512_0_3584))⟩,
   ⟨Rect.unit (s := S16x4096) ![0, 3072] S16x512.size inb_S16x4096_S16x512_0_3072, xatStep w (View.ld x0 (Rect.unit (s := S4096x512) ![3072, 0] S512x512.size inb_S4096x512_S512x512_3072_0)) (View.ld x1 (Rect.unit (s := S4096x128) ![3072, 0] S512x128.size inb_S4096x128_S512x128_3072_0)) (View.ld x6 (Rect.unit (s := S16x512) ![0, 0] S16x512.size inb_S16x512_S16x512_0_0)) (View.ld y13 (Rect.unit (s := S16x4096) ![0, 3072] S16x512.size inb_S16x4096_S16x512_0_3072))⟩,
   ⟨Rect.unit (s := S16x4096) ![0, 2560] S16x512.size inb_S16x4096_S16x512_0_2560, xatStep w (View.ld x0 (Rect.unit (s := S4096x512) ![2560, 0] S512x512.size inb_S4096x512_S512x512_2560_0)) (View.ld x1 (Rect.unit (s := S4096x128) ![2560, 0] S512x128.size inb_S4096x128_S512x128_2560_0)) (View.ld x6 (Rect.unit (s := S16x512) ![0, 0] S16x512.size inb_S16x512_S16x512_0_0)) (View.ld y13 (Rect.unit (s := S16x4096) ![0, 2560] S16x512.size inb_S16x4096_S16x512_0_2560))⟩,
   ⟨Rect.unit (s := S16x4096) ![0, 2048] S16x512.size inb_S16x4096_S16x512_0_2048, xatStep w (View.ld x0 (Rect.unit (s := S4096x512) ![2048, 0] S512x512.size inb_S4096x512_S512x512_2048_0)) (View.ld x1 (Rect.unit (s := S4096x128) ![2048, 0] S512x128.size inb_S4096x128_S512x128_2048_0)) (View.ld x6 (Rect.unit (s := S16x512) ![0, 0] S16x512.size inb_S16x512_S16x512_0_0)) (View.ld y13 (Rect.unit (s := S16x4096) ![0, 2048] S16x512.size inb_S16x4096_S16x512_0_2048))⟩,
   ⟨Rect.unit (s := S16x4096) ![0, 1536] S16x512.size inb_S16x4096_S16x512_0_1536, xatStep w (View.ld x0 (Rect.unit (s := S4096x512) ![1536, 0] S512x512.size inb_S4096x512_S512x512_1536_0)) (View.ld x1 (Rect.unit (s := S4096x128) ![1536, 0] S512x128.size inb_S4096x128_S512x128_1536_0)) (View.ld x6 (Rect.unit (s := S16x512) ![0, 0] S16x512.size inb_S16x512_S16x512_0_0)) (View.ld y13 (Rect.unit (s := S16x4096) ![0, 1536] S16x512.size inb_S16x4096_S16x512_0_1536))⟩,
   ⟨Rect.unit (s := S16x4096) ![0, 1024] S16x512.size inb_S16x4096_S16x512_0_1024, xatStep w (View.ld x0 (Rect.unit (s := S4096x512) ![1024, 0] S512x512.size inb_S4096x512_S512x512_1024_0)) (View.ld x1 (Rect.unit (s := S4096x128) ![1024, 0] S512x128.size inb_S4096x128_S512x128_1024_0)) (View.ld x6 (Rect.unit (s := S16x512) ![0, 0] S16x512.size inb_S16x512_S16x512_0_0)) (View.ld y13 (Rect.unit (s := S16x4096) ![0, 1024] S16x512.size inb_S16x4096_S16x512_0_1024))⟩,
   ⟨Rect.unit (s := S16x4096) ![0, 512] S16x512.size inb_S16x4096_S16x512_0_512, xatStep w (View.ld x0 (Rect.unit (s := S4096x512) ![512, 0] S512x512.size inb_S4096x512_S512x512_512_0)) (View.ld x1 (Rect.unit (s := S4096x128) ![512, 0] S512x128.size inb_S4096x128_S512x128_512_0)) (View.ld x6 (Rect.unit (s := S16x512) ![0, 0] S16x512.size inb_S16x512_S16x512_0_0)) (View.ld y13 (Rect.unit (s := S16x4096) ![0, 512] S16x512.size inb_S16x4096_S16x512_0_512))⟩,
   ⟨Rect.unit (s := S16x4096) ![0, 0] S16x512.size inb_S16x4096_S16x512_0_0, xatStep w (View.ld x0 (Rect.unit (s := S4096x512) ![0, 0] S512x512.size inb_S4096x512_S512x512_0_0)) (View.ld x1 (Rect.unit (s := S4096x128) ![0, 0] S512x128.size inb_S4096x128_S512x128_0_0)) (View.ld x6 (Rect.unit (s := S16x512) ![0, 0] S16x512.size inb_S16x512_S16x512_0_0)) (View.ld y13 (Rect.unit (s := S16x4096) ![0, 0] S16x512.size inb_S16x4096_S16x512_0_0))⟩]

/-- The tile of the `lora_a` gradient the body stores. -/
def datOut (w : BitVec 32) (x0 : Vec F S4096x512 .fp8e4m3) (x1 : Vec F S4096x128 .f32) (y15 : Vec F S48x4096 .bf16) : FVec F S16x512 .f32 :=
  let a1 := datAcc w (k0_pay456 (F := F)) (View.ld x0 (Rect.unit (s := S4096x512) ![0, 0] S512x512.size inb_S4096x512_S512x512_0_0)) (View.ld x1 (Rect.unit (s := S4096x128) ![0, 0] S512x128.size inb_S4096x128_S512x128_0_0)) (View.ld y15 (Rect.unit (s := S48x4096) ![0, 0] S48x512.size inb_S48x4096_S48x512_0_0))
  let a2 := datAcc w a1 (View.ld x0 (Rect.unit (s := S4096x512) ![512, 0] S512x512.size inb_S4096x512_S512x512_512_0)) (View.ld x1 (Rect.unit (s := S4096x128) ![512, 0] S512x128.size inb_S4096x128_S512x128_512_0)) (View.ld y15 (Rect.unit (s := S48x4096) ![0, 512] S48x512.size inb_S48x4096_S48x512_0_512))
  let a3 := datAcc w a2 (View.ld x0 (Rect.unit (s := S4096x512) ![1024, 0] S512x512.size inb_S4096x512_S512x512_1024_0)) (View.ld x1 (Rect.unit (s := S4096x128) ![1024, 0] S512x128.size inb_S4096x128_S512x128_1024_0)) (View.ld y15 (Rect.unit (s := S48x4096) ![0, 1024] S48x512.size inb_S48x4096_S48x512_0_1024))
  let a4 := datAcc w a3 (View.ld x0 (Rect.unit (s := S4096x512) ![1536, 0] S512x512.size inb_S4096x512_S512x512_1536_0)) (View.ld x1 (Rect.unit (s := S4096x128) ![1536, 0] S512x128.size inb_S4096x128_S512x128_1536_0)) (View.ld y15 (Rect.unit (s := S48x4096) ![0, 1536] S48x512.size inb_S48x4096_S48x512_0_1536))
  let a5 := datAcc w a4 (View.ld x0 (Rect.unit (s := S4096x512) ![2048, 0] S512x512.size inb_S4096x512_S512x512_2048_0)) (View.ld x1 (Rect.unit (s := S4096x128) ![2048, 0] S512x128.size inb_S4096x128_S512x128_2048_0)) (View.ld y15 (Rect.unit (s := S48x4096) ![0, 2048] S48x512.size inb_S48x4096_S48x512_0_2048))
  let a6 := datAcc w a5 (View.ld x0 (Rect.unit (s := S4096x512) ![2560, 0] S512x512.size inb_S4096x512_S512x512_2560_0)) (View.ld x1 (Rect.unit (s := S4096x128) ![2560, 0] S512x128.size inb_S4096x128_S512x128_2560_0)) (View.ld y15 (Rect.unit (s := S48x4096) ![0, 2560] S48x512.size inb_S48x4096_S48x512_0_2560))
  let a7 := datAcc w a6 (View.ld x0 (Rect.unit (s := S4096x512) ![3072, 0] S512x512.size inb_S4096x512_S512x512_3072_0)) (View.ld x1 (Rect.unit (s := S4096x128) ![3072, 0] S512x128.size inb_S4096x128_S512x128_3072_0)) (View.ld y15 (Rect.unit (s := S48x4096) ![0, 3072] S48x512.size inb_S48x4096_S48x512_0_3072))
  let a8 := datAcc w a7 (View.ld x0 (Rect.unit (s := S4096x512) ![3584, 0] S512x512.size inb_S4096x512_S512x512_3584_0)) (View.ld x1 (Rect.unit (s := S4096x128) ![3584, 0] S512x128.size inb_S4096x128_S512x128_3584_0)) (View.ld y15 (Rect.unit (s := S48x4096) ![0, 3584] S48x512.size inb_S48x4096_S48x512_0_3584))
  datSum a8

/-- The scales of a chunk of the upstream gradient, padded with zeros to 128 columns. -/
def padY (dys : Vec F S512x32 .f32) : Vec F S512x128 .f32 :=
  View.canon [⟨Rect.unit (s := S512x128) ![0, 0] S512x32.size inb_S512x128_S512x32_0_0, k0_pay4 dys⟩, ⟨Rect.unit (s := S512x128) ![0, 0] S512x128.size inb_S512x128_S512x128_0_0, k0_pay3⟩]

/-- One chunk of the upstream gradient widened: its codes times their padded scales. -/
def widenY (codes : Vec F S512x1024 .fp8e5m2) (pad : Vec F S512x128 .f32) : FVec F S512x1024 .bf16 :=
  concatenate S512x1024 1 [
    ⟨S512x128, mulf (extf .bf16 (extractStridedSlice S512x128 ![0, 0] (k0_pay5 codes) slices_S512x1024_o0_0_S512x128) bitsLt_fp8e5m2_bf16) (gatherCol 0#32 pad)⟩,
    ⟨S512x128, mulf (extf .bf16 (extractStridedSlice S512x128 ![0, 128] (k0_pay5 codes) slices_S512x1024_o0_128_S512x128) bitsLt_fp8e5m2_bf16) (gatherCol 4#32 pad)⟩,
    ⟨S512x128, mulf (extf .bf16 (extractStridedSlice S512x128 ![0, 256] (k0_pay5 codes) slices_S512x1024_o0_256_S512x128) bitsLt_fp8e5m2_bf16) (gatherCol 8#32 pad)⟩,
    ⟨S512x128, mulf (extf .bf16 (extractStridedSlice S512x128 ![0, 384] (k0_pay5 codes) slices_S512x1024_o0_384_S512x128) bitsLt_fp8e5m2_bf16) (gatherCol 12#32 pad)⟩,
    ⟨S512x128, mulf (extf .bf16 (extractStridedSlice S512x128 ![0, 512] (k0_pay5 codes) slices_S512x1024_o0_512_S512x128) bitsLt_fp8e5m2_bf16) (gatherCol 16#32 pad)⟩,
    ⟨S512x128, mulf (extf .bf16 (extractStridedSlice S512x128 ![0, 640] (k0_pay5 codes) slices_S512x1024_o0_640_S512x128) bitsLt_fp8e5m2_bf16) (gatherCol 20#32 pad)⟩,
    ⟨S512x128, mulf (extf .bf16 (extractStridedSlice S512x128 ![0, 768] (k0_pay5 codes) slices_S512x1024_o0_768_S512x128) bitsLt_fp8e5m2_bf16) (gatherCol 24#32 pad)⟩,
    ⟨S512x128, mulf (extf .bf16 (extractStridedSlice S512x128 ![0, 896] (k0_pay5 codes) slices_S512x1024_o0_896_S512x128) bitsLt_fp8e5m2_bf16) (gatherCol 28#32 pad)⟩]
    concatenates_S512x128_S512x128_S512x128_S512x128_S512x128_S512x128_S512x128_S512x128_S512x1024_d1

/-- A chunk of the widened gradient with the column scales of the base weight folded in. -/
def lhsMain (ws : Vec F S1x1024 .f32) (yb : FVec F S512x1024 .bf16) : FVec F S512x1024 .bf16 :=
  k0_pay26 (mulf yb (broadcastTo S512x1024 (k0_pay2 ws) broadcasts_S1x1024_S512x1024))

/-- The padded scales of chunk `c` of the upstream gradient. -/
def pads (x3 : Vec F S4096x32 .f32) : ℕ → Vec F S512x128 .f32
  | 0 => padY (View.ld x3 (Rect.unit (s := S4096x32) ![0, 0] S512x32.size inb_S4096x32_S512x32_0_0))
  | 1 => padY (View.ld x3 (Rect.unit (s := S4096x32) ![512, 0] S512x32.size inb_S4096x32_S512x32_512_0))
  | 2 => padY (View.ld x3 (Rect.unit (s := S4096x32) ![1024, 0] S512x32.size inb_S4096x32_S512x32_1024_0))
  | 3 => padY (View.ld x3 (Rect.unit (s := S4096x32) ![1536, 0] S512x32.size inb_S4096x32_S512x32_1536_0))
  | 4 => padY (View.ld x3 (Rect.unit (s := S4096x32) ![2048, 0] S512x32.size inb_S4096x32_S512x32_2048_0))
  | 5 => padY (View.ld x3 (Rect.unit (s := S4096x32) ![2560, 0] S512x32.size inb_S4096x32_S512x32_2560_0))
  | 6 => padY (View.ld x3 (Rect.unit (s := S4096x32) ![3072, 0] S512x32.size inb_S4096x32_S512x32_3072_0))
  | _ => padY (View.ld x3 (Rect.unit (s := S4096x32) ![3584, 0] S512x32.size inb_S4096x32_S512x32_3584_0))

/-- A list without the first of every three of its entries. -/
def dropThird {α : Type} : List α → List α
  | _ :: b :: c :: l => b :: c :: dropThird l
  | _ => []

/-- Its entries are entries of the list. -/
theorem mem_of_dropThird {α : Type} : ∀ (l : List α) {p : α}, p ∈ dropThird l → p ∈ l
  | a :: b :: c :: l, p, h => by
      simp only [dropThird, List.mem_cons] at h
      rcases h with h | h | h
      · simp [h]
      · simp [h]
      · simp [mem_of_dropThird l h]
  | [], _, h => by simp [dropThird] at h
  | [_], _, h => by simp [dropThird] at h
  | [_, _], _, h => by simp [dropThird] at h

/-- Pieces cover when those left after `dropThird` tile. -/
theorem cover_of_dropThird {S : Shape} {e : EltTy} (L : List (View.Piece (Elt F) S e)) (g : Fin S.rank → ℕ)
    (h : View.Piece.tiledBy (dropThird L) g = true) : ∀ y : S.Idx, ∃ p ∈ L, y ∈ p.1.set := fun y => by
  obtain ⟨p, hp, hy⟩ := View.cover_of_tiledBy (dropThird L) g h y
  exact ⟨p, mem_of_dropThird L hp, hy⟩

/-- A load of a whole buffer whose last store but one was a whole one reads the last two stores. -/
theorem readCov_two {S : Shape} {e : EltTy} {κ : Kind} {sp : Space} (v : View sig κ sp S e) {off : Fin S.rank → ℕ} (h : off = fun _ => 0)
    (inb : ∀ a, off a + S.size a ≤ S.size a) (r : Rect S) (w : r.shape.Idx → Elt F e) (z : S.Idx → Elt F e) (rest : List (View.Piece (Elt F) S e)) :
    v.readCov (⟨r, w⟩ :: ⟨Rect.unit off S.size inb, z⟩ :: rest) (Rect.unit off S.size inb).toLoadRect
      = View.canon (Val := Elt F) [⟨r, w⟩, ⟨Rect.unit off S.size inb, z⟩] := by
  refine (View.readCov_eq_canon' v _ _).trans ((View.ld_unit_zero h inb _).trans ?_)
  rw [View.canon_cons, View.canon_cons_unit_zero h, View.canon_cons ⟨r, w⟩, View.canon_cons_unit_zero h]

/-- What a load of the padded scales reads after its two stores, whatever was stored before them. -/
theorem readPad {κ : Kind} {sp : Space} (v : View sig κ sp S512x128 .f32) (d : Vec F S512x32 .f32) (rest : List (View.Piece (Elt F) S512x128 .f32)) :
    v.readCov (⟨Rect.unit (s := S512x128) ![0, 0] S512x32.size inb_S512x128_S512x32_0_0, k0_pay4 d⟩ :: ⟨Rect.unit (s := S512x128) ![0, 0] S512x128.size inb_S512x128_S512x128_0_0, k0_pay3⟩ :: rest)
      (Rect.unit (s := S512x128) ![0, 0] S512x128.size inb_S512x128_S512x128_0_0).toLoadRect = padY d :=
  readCov_two v (by funext a; fin_cases a <;> rfl) inb_S512x128_S512x128_0_0 _ _ _ rest

/-- The pieces the first grid point stores into the left operand of the input-gradient product. -/
def lhsPieces (x2 : Vec F S4096x1024 .fp8e5m2) (P : ℕ → Vec F S512x128 .f32) (x5 : Vec F S1x1024 .f32) (x7 : Vec F S16x1024 .bf16) : List (View.Piece (Elt F) S4096x1152 .bf16) :=
  [⟨Rect.unit (s := S4096x1152) ![3584, 1024] S512x48.size inb_S4096x1152_S512x48_3584_1024, k0_pay30 (widenY (View.ld x2 (Rect.unit (s := S4096x1024) ![3584, 0] S512x1024.size inb_S4096x1024_S512x1024_3584_0)) (P 7)) (View.ld x7 (Rect.unit (s := S16x1024) ![0, 0] S16x1024.size inb_S16x1024_S16x1024_0_0))⟩,
   ⟨Rect.unit (s := S4096x1152) ![3584, 1024] S512x128.size inb_S4096x1152_S512x128_3584_1024, k0_pay29⟩,
   ⟨Rect.unit (s := S4096x1152) ![3584, 0] S512x1024.size inb_S4096x1152_S512x1024_3584_0, lhsMain (View.ld x5 (Rect.unit (s := S1x1024) ![0, 0] S1x1024.size inb_S1x1024_S1x1024_0_0)) (widenY (View.ld x2 (Rect.unit (s := S4096x1024) ![3584, 0] S512x1024.size inb_S4096x1024_S512x1024_3584_0)) (P 7))⟩,
   ⟨Rect.unit (s := S4096x1152) ![3072, 1024] S512x48.size inb_S4096x1152_S512x48_3072_1024, k0_pay30 (widenY (View.ld x2 (Rect.unit (s := S4096x1024) ![3072, 0] S512x1024.size inb_S4096x1024_S512x1024_3072_0)) (P 6)) (View.ld x7 (Rect.unit (s := S16x1024) ![0, 0] S16x1024.size inb_S16x1024_S16x1024_0_0))⟩,
   ⟨Rect.unit (s := S4096x1152) ![3072, 1024] S512x128.size inb_S4096x1152_S512x128_3072_1024, k0_pay29⟩,
   ⟨Rect.unit (s := S4096x1152) ![3072, 0] S512x1024.size inb_S4096x1152_S512x1024_3072_0, lhsMain (View.ld x5 (Rect.unit (s := S1x1024) ![0, 0] S1x1024.size inb_S1x1024_S1x1024_0_0)) (widenY (View.ld x2 (Rect.unit (s := S4096x1024) ![3072, 0] S512x1024.size inb_S4096x1024_S512x1024_3072_0)) (P 6))⟩,
   ⟨Rect.unit (s := S4096x1152) ![2560, 1024] S512x48.size inb_S4096x1152_S512x48_2560_1024, k0_pay30 (widenY (View.ld x2 (Rect.unit (s := S4096x1024) ![2560, 0] S512x1024.size inb_S4096x1024_S512x1024_2560_0)) (P 5)) (View.ld x7 (Rect.unit (s := S16x1024) ![0, 0] S16x1024.size inb_S16x1024_S16x1024_0_0))⟩,
   ⟨Rect.unit (s := S4096x1152) ![2560, 1024] S512x128.size inb_S4096x1152_S512x128_2560_1024, k0_pay29⟩,
   ⟨Rect.unit (s := S4096x1152) ![2560, 0] S512x1024.size inb_S4096x1152_S512x1024_2560_0, lhsMain (View.ld x5 (Rect.unit (s := S1x1024) ![0, 0] S1x1024.size inb_S1x1024_S1x1024_0_0)) (widenY (View.ld x2 (Rect.unit (s := S4096x1024) ![2560, 0] S512x1024.size inb_S4096x1024_S512x1024_2560_0)) (P 5))⟩,
   ⟨Rect.unit (s := S4096x1152) ![2048, 1024] S512x48.size inb_S4096x1152_S512x48_2048_1024, k0_pay30 (widenY (View.ld x2 (Rect.unit (s := S4096x1024) ![2048, 0] S512x1024.size inb_S4096x1024_S512x1024_2048_0)) (P 4)) (View.ld x7 (Rect.unit (s := S16x1024) ![0, 0] S16x1024.size inb_S16x1024_S16x1024_0_0))⟩,
   ⟨Rect.unit (s := S4096x1152) ![2048, 1024] S512x128.size inb_S4096x1152_S512x128_2048_1024, k0_pay29⟩,
   ⟨Rect.unit (s := S4096x1152) ![2048, 0] S512x1024.size inb_S4096x1152_S512x1024_2048_0, lhsMain (View.ld x5 (Rect.unit (s := S1x1024) ![0, 0] S1x1024.size inb_S1x1024_S1x1024_0_0)) (widenY (View.ld x2 (Rect.unit (s := S4096x1024) ![2048, 0] S512x1024.size inb_S4096x1024_S512x1024_2048_0)) (P 4))⟩,
   ⟨Rect.unit (s := S4096x1152) ![1536, 1024] S512x48.size inb_S4096x1152_S512x48_1536_1024, k0_pay30 (widenY (View.ld x2 (Rect.unit (s := S4096x1024) ![1536, 0] S512x1024.size inb_S4096x1024_S512x1024_1536_0)) (P 3)) (View.ld x7 (Rect.unit (s := S16x1024) ![0, 0] S16x1024.size inb_S16x1024_S16x1024_0_0))⟩,
   ⟨Rect.unit (s := S4096x1152) ![1536, 1024] S512x128.size inb_S4096x1152_S512x128_1536_1024, k0_pay29⟩,
   ⟨Rect.unit (s := S4096x1152) ![1536, 0] S512x1024.size inb_S4096x1152_S512x1024_1536_0, lhsMain (View.ld x5 (Rect.unit (s := S1x1024) ![0, 0] S1x1024.size inb_S1x1024_S1x1024_0_0)) (widenY (View.ld x2 (Rect.unit (s := S4096x1024) ![1536, 0] S512x1024.size inb_S4096x1024_S512x1024_1536_0)) (P 3))⟩,
   ⟨Rect.unit (s := S4096x1152) ![1024, 1024] S512x48.size inb_S4096x1152_S512x48_1024_1024, k0_pay30 (widenY (View.ld x2 (Rect.unit (s := S4096x1024) ![1024, 0] S512x1024.size inb_S4096x1024_S512x1024_1024_0)) (P 2)) (View.ld x7 (Rect.unit (s := S16x1024) ![0, 0] S16x1024.size inb_S16x1024_S16x1024_0_0))⟩,
   ⟨Rect.unit (s := S4096x1152) ![1024, 1024] S512x128.size inb_S4096x1152_S512x128_1024_1024, k0_pay29⟩,
   ⟨Rect.unit (s := S4096x1152) ![1024, 0] S512x1024.size inb_S4096x1152_S512x1024_1024_0, lhsMain (View.ld x5 (Rect.unit (s := S1x1024) ![0, 0] S1x1024.size inb_S1x1024_S1x1024_0_0)) (widenY (View.ld x2 (Rect.unit (s := S4096x1024) ![1024, 0] S512x1024.size inb_S4096x1024_S512x1024_1024_0)) (P 2))⟩,
   ⟨Rect.unit (s := S4096x1152) ![512, 1024] S512x48.size inb_S4096x1152_S512x48_512_1024, k0_pay30 (widenY (View.ld x2 (Rect.unit (s := S4096x1024) ![512, 0] S512x1024.size inb_S4096x1024_S512x1024_512_0)) (P 1)) (View.ld x7 (Rect.unit (s := S16x1024) ![0, 0] S16x1024.size inb_S16x1024_S16x1024_0_0))⟩,
   ⟨Rect.unit (s := S4096x1152) ![512, 1024] S512x128.size inb_S4096x1152_S512x128_512_1024, k0_pay29⟩,
   ⟨Rect.unit (s := S4096x1152) ![512, 0] S512x1024.size inb_S4096x1152_S512x1024_512_0, lhsMain (View.ld x5 (Rect.unit (s := S1x1024) ![0, 0] S1x1024.size inb_S1x1024_S1x1024_0_0)) (widenY (View.ld x2 (Rect.unit (s := S4096x1024) ![512, 0] S512x1024.size inb_S4096x1024_S512x1024_512_0)) (P 1))⟩,
   ⟨Rect.unit (s := S4096x1152) ![0, 1024] S512x48.size inb_S4096x1152_S512x48_0_1024, k0_pay30 (widenY (View.ld x2 (Rect.unit (s := S4096x1024) ![0, 0] S512x1024.size inb_S4096x1024_S512x1024_0_0)) (P 0)) (View.ld x7 (Rect.unit (s := S16x1024) ![0, 0] S16x1024.size inb_S16x1024_S16x1024_0_0))⟩,
   ⟨Rect.unit (s := S4096x1152) ![0, 1024] S512x128.size inb_S4096x1152_S512x128_0_1024, k0_pay29⟩,
   ⟨Rect.unit (s := S4096x1152) ![0, 0] S512x1024.size inb_S4096x1152_S512x1024_0_0, lhsMain (View.ld x5 (Rect.unit (s := S1x1024) ![0, 0] S1x1024.size inb_S1x1024_S1x1024_0_0)) (widenY (View.ld x2 (Rect.unit (s := S4096x1024) ![0, 0] S512x1024.size inb_S4096x1024_S512x1024_0_0)) (P 0))⟩]

/-- The pieces the first grid point stores into the transposed product `dy · lora_bᵀ`. -/
def ttPieces (x2 : Vec F S4096x1024 .fp8e5m2) (P : ℕ → Vec F S512x128 .f32) (x7 : Vec F S16x1024 .bf16) : List (View.Piece (Elt F) S16x4096 .f32) :=
  [⟨Rect.unit (s := S16x4096) ![0, 3584] S16x512.size inb_S16x4096_S16x512_0_3584, k0_pay27 (widenY (View.ld x2 (Rect.unit (s := S4096x1024) ![3584, 0] S512x1024.size inb_S4096x1024_S512x1024_3584_0)) (P 7)) (View.ld x7 (Rect.unit (s := S16x1024) ![0, 0] S16x1024.size inb_S16x1024_S16x1024_0_0))⟩,
   ⟨Rect.unit (s := S16x4096) ![0, 3072] S16x512.size inb_S16x4096_S16x512_0_3072, k0_pay27 (widenY (View.ld x2 (Rect.unit (s := S4096x1024) ![3072, 0] S512x1024.size inb_S4096x1024_S512x1024_3072_0)) (P 6)) (View.ld x7 (Rect.unit (s := S16x1024) ![0, 0] S16x1024.size inb_S16x1024_S16x1024_0_0))⟩,
   ⟨Rect.unit (s := S16x4096) ![0, 2560] S16x512.size inb_S16x4096_S16x512_0_2560, k0_pay27 (widenY (View.ld x2 (Rect.unit (s := S4096x1024) ![2560, 0] S512x1024.size inb_S4096x1024_S512x1024_2560_0)) (P 5)) (View.ld x7 (Rect.unit (s := S16x1024) ![0, 0] S16x1024.size inb_S16x1024_S16x1024_0_0))⟩,
   ⟨Rect.unit (s := S16x4096) ![0, 2048] S16x512.size inb_S16x4096_S16x512_0_2048, k0_pay27 (widenY (View.ld x2 (Rect.unit (s := S4096x1024) ![2048, 0] S512x1024.size inb_S4096x1024_S512x1024_2048_0)) (P 4)) (View.ld x7 (Rect.unit (s := S16x1024) ![0, 0] S16x1024.size inb_S16x1024_S16x1024_0_0))⟩,
   ⟨Rect.unit (s := S16x4096) ![0, 1536] S16x512.size inb_S16x4096_S16x512_0_1536, k0_pay27 (widenY (View.ld x2 (Rect.unit (s := S4096x1024) ![1536, 0] S512x1024.size inb_S4096x1024_S512x1024_1536_0)) (P 3)) (View.ld x7 (Rect.unit (s := S16x1024) ![0, 0] S16x1024.size inb_S16x1024_S16x1024_0_0))⟩,
   ⟨Rect.unit (s := S16x4096) ![0, 1024] S16x512.size inb_S16x4096_S16x512_0_1024, k0_pay27 (widenY (View.ld x2 (Rect.unit (s := S4096x1024) ![1024, 0] S512x1024.size inb_S4096x1024_S512x1024_1024_0)) (P 2)) (View.ld x7 (Rect.unit (s := S16x1024) ![0, 0] S16x1024.size inb_S16x1024_S16x1024_0_0))⟩,
   ⟨Rect.unit (s := S16x4096) ![0, 512] S16x512.size inb_S16x4096_S16x512_0_512, k0_pay27 (widenY (View.ld x2 (Rect.unit (s := S4096x1024) ![512, 0] S512x1024.size inb_S4096x1024_S512x1024_512_0)) (P 1)) (View.ld x7 (Rect.unit (s := S16x1024) ![0, 0] S16x1024.size inb_S16x1024_S16x1024_0_0))⟩,
   ⟨Rect.unit (s := S16x4096) ![0, 0] S16x512.size inb_S16x4096_S16x512_0_0, k0_pay27 (widenY (View.ld x2 (Rect.unit (s := S4096x1024) ![0, 0] S512x1024.size inb_S4096x1024_S512x1024_0_0)) (P 0)) (View.ld x7 (Rect.unit (s := S16x1024) ![0, 0] S16x1024.size inb_S16x1024_S16x1024_0_0))⟩]

/-- The pieces the first grid point stores into the split transposed product. -/
def tt3Pieces (x2 : Vec F S4096x1024 .fp8e5m2) (P : ℕ → Vec F S512x128 .f32) (x7 : Vec F S16x1024 .bf16) : List (View.Piece (Elt F) S48x4096 .bf16) :=
  [⟨Rect.unit (s := S48x4096) ![0, 3584] S48x512.size inb_S48x4096_S48x512_0_3584, k0_pay28 (widenY (View.ld x2 (Rect.unit (s := S4096x1024) ![3584, 0] S512x1024.size inb_S4096x1024_S512x1024_3584_0)) (P 7)) (View.ld x7 (Rect.unit (s := S16x1024) ![0, 0] S16x1024.size inb_S16x1024_S16x1024_0_0))⟩,
   ⟨Rect.unit (s := S48x4096) ![0, 3072] S48x512.size inb_S48x4096_S48x512_0_3072, k0_pay28 (widenY (View.ld x2 (Rect.unit (s := S4096x1024) ![3072, 0] S512x1024.size inb_S4096x1024_S512x1024_3072_0)) (P 6)) (View.ld x7 (Rect.unit (s := S16x1024) ![0, 0] S16x1024.size inb_S16x1024_S16x1024_0_0))⟩,
   ⟨Rect.unit (s := S48x4096) ![0, 2560] S48x512.size inb_S48x4096_S48x512_0_2560, k0_pay28 (widenY (View.ld x2 (Rect.unit (s := S4096x1024) ![2560, 0] S512x1024.size inb_S4096x1024_S512x1024_2560_0)) (P 5)) (View.ld x7 (Rect.unit (s := S16x1024) ![0, 0] S16x1024.size inb_S16x1024_S16x1024_0_0))⟩,
   ⟨Rect.unit (s := S48x4096) ![0, 2048] S48x512.size inb_S48x4096_S48x512_0_2048, k0_pay28 (widenY (View.ld x2 (Rect.unit (s := S4096x1024) ![2048, 0] S512x1024.size inb_S4096x1024_S512x1024_2048_0)) (P 4)) (View.ld x7 (Rect.unit (s := S16x1024) ![0, 0] S16x1024.size inb_S16x1024_S16x1024_0_0))⟩,
   ⟨Rect.unit (s := S48x4096) ![0, 1536] S48x512.size inb_S48x4096_S48x512_0_1536, k0_pay28 (widenY (View.ld x2 (Rect.unit (s := S4096x1024) ![1536, 0] S512x1024.size inb_S4096x1024_S512x1024_1536_0)) (P 3)) (View.ld x7 (Rect.unit (s := S16x1024) ![0, 0] S16x1024.size inb_S16x1024_S16x1024_0_0))⟩,
   ⟨Rect.unit (s := S48x4096) ![0, 1024] S48x512.size inb_S48x4096_S48x512_0_1024, k0_pay28 (widenY (View.ld x2 (Rect.unit (s := S4096x1024) ![1024, 0] S512x1024.size inb_S4096x1024_S512x1024_1024_0)) (P 2)) (View.ld x7 (Rect.unit (s := S16x1024) ![0, 0] S16x1024.size inb_S16x1024_S16x1024_0_0))⟩,
   ⟨Rect.unit (s := S48x4096) ![0, 512] S48x512.size inb_S48x4096_S48x512_0_512, k0_pay28 (widenY (View.ld x2 (Rect.unit (s := S4096x1024) ![512, 0] S512x1024.size inb_S4096x1024_S512x1024_512_0)) (P 1)) (View.ld x7 (Rect.unit (s := S16x1024) ![0, 0] S16x1024.size inb_S16x1024_S16x1024_0_0))⟩,
   ⟨Rect.unit (s := S48x4096) ![0, 0] S48x512.size inb_S48x4096_S48x512_0_0, k0_pay28 (widenY (View.ld x2 (Rect.unit (s := S4096x1024) ![0, 0] S512x1024.size inb_S4096x1024_S512x1024_0_0)) (P 0)) (View.ld x7 (Rect.unit (s := S16x1024) ![0, 0] S16x1024.size inb_S16x1024_S16x1024_0_0))⟩]

/-- The zeros the first grid point stores into the partial sums. -/
def zPieces : List (View.Piece (Elt F) S16x4096 .f32) :=
  [⟨Rect.unit (s := S16x4096) ![0, 3584] S16x512.size inb_S16x4096_S16x512_0_3584, k0_pay31⟩,
   ⟨Rect.unit (s := S16x4096) ![0, 3072] S16x512.size inb_S16x4096_S16x512_0_3072, k0_pay31⟩,
   ⟨Rect.unit (s := S16x4096) ![0, 2560] S16x512.size inb_S16x4096_S16x512_0_2560, k0_pay31⟩,
   ⟨Rect.unit (s := S16x4096) ![0, 2048] S16x512.size inb_S16x4096_S16x512_0_2048, k0_pay31⟩,
   ⟨Rect.unit (s := S16x4096) ![0, 1536] S16x512.size inb_S16x4096_S16x512_0_1536, k0_pay31⟩,
   ⟨Rect.unit (s := S16x4096) ![0, 1024] S16x512.size inb_S16x4096_S16x512_0_1024, k0_pay31⟩,
   ⟨Rect.unit (s := S16x4096) ![0, 512] S16x512.size inb_S16x4096_S16x512_0_512, k0_pay31⟩,
   ⟨Rect.unit (s := S16x4096) ![0, 0] S16x512.size inb_S16x4096_S16x512_0_0, k0_pay31⟩]

/-- One chunk of twice the sums of `x · lora_a`, split in three parts stacked. -/
def split2 (xa : Vec F S16x512 .f32) : FVec F S48x512 .bf16 :=
  let v : FVec F S16x512 .f32 := mulf (broadcast S16x512 (Scalar.ofBits .f32 0x40000000#32)) (shapeCast S16x512 xa shapeCasts_S16x512_S16x512)
  let a : FVec F S16x512 .bf16 := truncf .bf16 v bitsLt_bf16_f32
  let r : FVec F S16x512 .f32 := subf v (extf .f32 a bitsLt_bf16_f32)
  let b : FVec F S16x512 .bf16 := truncf .bf16 r bitsLt_bf16_f32
  let q : FVec F S16x512 .f32 := subf r (extf .f32 b bitsLt_bf16_f32)
  concatenate S48x512 0 [⟨S16x512, a⟩, ⟨S16x512, b⟩, ⟨S16x512, truncf .bf16 q bitsLt_bf16_f32⟩] concatenates_S16x512_S16x512_S16x512_S48x512_d0

/-- A chunk's contribution to the split `lora_b` gradient, added to the running sum. -/
def dbAcc (acc : FVec F S48x1024 .f32) (xa : Vec F S16x512 .f32) (yb : FVec F S512x1024 .bf16) : FVec F S48x1024 .f32 :=
  addf acc (matmul dot_S48x512_S512x1024_S48x1024_1_0_0_1_n_n none (split2 xa) yb (constant S48x1024 .f32 0x00000000#32))

/-- The gradient of `lora_b` the last grid point stores. -/
def dbOut (x2 : Vec F S4096x1024 .fp8e5m2) (P : ℕ → Vec F S512x128 .f32) (y13 : Vec F S16x4096 .f32) : FVec F S16x1024 .f32 :=
  let a1 := dbAcc (broadcast S48x1024 (Scalar.ofBits .f32 0x00000000#32)) (View.ld y13 (Rect.unit (s := S16x4096) ![0, 0] S16x512.size inb_S16x4096_S16x512_0_0)) (widenY (View.ld x2 (Rect.unit (s := S4096x1024) ![0, 0] S512x1024.size inb_S4096x1024_S512x1024_0_0)) (P 0))
  let a2 := dbAcc a1 (View.ld y13 (Rect.unit (s := S16x4096) ![0, 512] S16x512.size inb_S16x4096_S16x512_0_512)) (widenY (View.ld x2 (Rect.unit (s := S4096x1024) ![512, 0] S512x1024.size inb_S4096x1024_S512x1024_512_0)) (P 1))
  let a3 := dbAcc a2 (View.ld y13 (Rect.unit (s := S16x4096) ![0, 1024] S16x512.size inb_S16x4096_S16x512_0_1024)) (widenY (View.ld x2 (Rect.unit (s := S4096x1024) ![1024, 0] S512x1024.size inb_S4096x1024_S512x1024_1024_0)) (P 2))
  let a4 := dbAcc a3 (View.ld y13 (Rect.unit (s := S16x4096) ![0, 1536] S16x512.size inb_S16x4096_S16x512_0_1536)) (widenY (View.ld x2 (Rect.unit (s := S4096x1024) ![1536, 0] S512x1024.size inb_S4096x1024_S512x1024_1536_0)) (P 3))
  let a5 := dbAcc a4 (View.ld y13 (Rect.unit (s := S16x4096) ![0, 2048] S16x512.size inb_S16x4096_S16x512_0_2048)) (widenY (View.ld x2 (Rect.unit (s := S4096x1024) ![2048, 0] S512x1024.size inb_S4096x1024_S512x1024_2048_0)) (P 4))
  let a6 := dbAcc a5 (View.ld y13 (Rect.unit (s := S16x4096) ![0, 2560] S16x512.size inb_S16x4096_S16x512_0_2560)) (widenY (View.ld x2 (Rect.unit (s := S4096x1024) ![2560, 0] S512x1024.size inb_S4096x1024_S512x1024_2560_0)) (P 5))
  let a7 := dbAcc a6 (View.ld y13 (Rect.unit (s := S16x4096) ![0, 3072] S16x512.size inb_S16x4096_S16x512_0_3072)) (widenY (View.ld x2 (Rect.unit (s := S4096x1024) ![3072, 0] S512x1024.size inb_S4096x1024_S512x1024_3072_0)) (P 6))
  let a8 := dbAcc a7 (View.ld y13 (Rect.unit (s := S16x4096) ![0, 3584] S16x512.size inb_S16x4096_S16x512_0_3584)) (widenY (View.ld x2 (Rect.unit (s := S4096x1024) ![3584, 0] S512x1024.size inb_S4096x1024_S512x1024_3584_0)) (P 7))
  addf (addf (extractStridedSlice S16x1024 ![0, 0] a8 slices_S48x1024_o0_0_S16x1024) (extractStridedSlice S16x1024 ![16, 0] a8 slices_S48x1024_o16_0_S16x1024))
    (extractStridedSlice S16x1024 ![32, 0] a8 slices_S48x1024_o32_0_S16x1024)

end Cert.Kernel.Gen

end
-- ==== Proof.OrigInit.lean ====
module

public import proofs.«01_k».proof.Proof.OrigSplit
public import proofs.«01_k».proof.Proof.OrigCanon
public import Idealize.ShloMosaic.Lib.Pipeline.Value

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem initG_run (c : Dev nD) (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole)
    (x2 : Vec F S4096x1024 .fp8e5m2) (x3 : Vec F S4096x32 .f32) (x5 : Vec F S1x1024 .f32) (x7 : Vec F S16x1024 .bf16)
    (E : Set ℕ) (K : PUnit → sProp 𝕄) :
    iprop(owns (c : Thread nD τ) arg3 fullShare x2 ∗ owns (c : Thread nD τ) arg4 fullShare x3 ∗ owns (c : Thread nD τ) arg6 fullShare x5 ∗ owns (c : Thread nD τ) arg8 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg3 fullShare x2 ∗ owns (c : Thread nD τ) arg4 fullShare x3 ∗ owns (c : Thread nD τ) arg6 fullShare x5 ∗ owns (c : Thread nD τ) arg8 fullShare x7 ∗ owns (c : Thread nD τ) arg12 fullShare (View.canon (ttPieces x2 (pads x3) x7)) ∗ owns (c : Thread nD τ) arg13 fullShare (View.canon zPieces) ∗ owns (c : Thread nD τ) arg14 fullShare (View.canon (lhsPieces x2 (pads x3) x5 x7)) ∗ owns (c : Thread nD τ) arg15 fullShare (View.canon (tt3Pieces x2 (pads x3) x7)) ∗ (∃ d, owns (c : Thread nD τ) arg16 fullShare d)) -∗ K ⟨⟩))
      ⊢ wp frame (wpE (defs₀ (F := F)) Variants.none c none) E (initG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold initG
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton]
  unfold owns
  iintro ⟨⟨%f3, %hf3, H2⟩, ⟨%f4, %hf4, H3⟩, ⟨%f6, %hf6, H5⟩, ⟨%f8, %hf8, H7⟩, ⟨%d12, %f12, -, H11⟩, ⟨%d13, %f13, -, H12⟩, ⟨%d14, %f14, -, HS0⟩, ⟨%d15, %f15, -, HS1⟩, ⟨%d16, %f16, -, HS2⟩, Hk⟩
  subst hf3 hf4 hf6 hf8
  sl_exec
  have hP : pads (View.read (Elt F) arg4.view f4) = (fun n => match n with
    | 0 => initG_run.sl.v1466 c arg4 arg16 f4
    | 1 => initG_run.sl.v1826 c arg4 arg16 f4
    | 2 => initG_run.sl.v2186 c arg4 arg16 f4
    | 3 => initG_run.sl.v2546 c arg4 arg16 f4
    | 4 => initG_run.sl.v2906 c arg4 arg16 f4
    | 5 => initG_run.sl.v3266 c arg4 arg16 f4
    | 6 => initG_run.sl.v3626 c arg4 arg16 f4
    | _ => initG_run.sl.v3986 c arg4 arg16 f4) := by
    funext n
    rcases n with _ | _ | _ | _ | _ | _ | _ | n <;> exact (readPad _ _ _).symm
  rw [hP]
  simp only [wp_ret]
  imodintro
  iapply Hk
  isplitl [H2]
  · iexists _; isplitr; swap; · iexact H2
    ipureintro; rfl
  isplitl [H3]
  · iexists _; isplitr; swap; · iexact H3
    ipureintro; rfl
  isplitl [H5]
  · iexists _; isplitr; swap; · iexact H5
    ipureintro; rfl
  isplitl [H7]
  · iexists _; isplitr; swap; · iexact H7
    ipureintro; rfl
  isplitl [H11]
  · iexists _; isplitr; swap; · iexact H11
    ipureintro; exact (View.read_writes_eq_canon _ _ _ (View.cover_of_tiled _ S16x512.size (by rfl)))
  isplitl [H12]
  · iexists _; isplitr; swap; · iexact H12
    ipureintro; exact (View.read_writes_eq_canon _ _ _ (View.cover_of_tiled _ S16x512.size (by rfl)))
  isplitl [HS0]
  · iexists _; isplitr; swap; · iexact HS0
    ipureintro; exact (View.read_writes_eq_canon _ _ _ (cover_of_dropThird _ ![512, 128] (by sl_kernel_rfl)))
  isplitl [HS1]
  · iexists _; isplitr; swap; · iexact HS1
    ipureintro; exact (View.read_writes_eq_canon _ _ _ (View.cover_of_tiled _ S48x512.size (by rfl)))
  iexists _; iexists _; isplitr; swap; · iexact HS2
  ipureintro; rfl

end Cert.Kernel.Gen

end
-- ==== Proof.OrigFin.lean ====
module

public import proofs.«01_k».proof.Proof.OrigSplit
public import proofs.«01_k».proof.Proof.OrigCanon
public import Idealize.ShloMosaic.Lib.Pipeline.Value

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem finG_run (c : Dev nD) (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole)
    (x2 : Vec F S4096x1024 .fp8e5m2) (x3 : Vec F S4096x32 .f32) (y13 : Vec F S16x4096 .f32)
    (E : Set ℕ) (K : PUnit → sProp 𝕄) :
    iprop(owns (c : Thread nD τ) arg3 fullShare x2 ∗ owns (c : Thread nD τ) arg4 fullShare x3 ∗ (∃ d, owns (c : Thread nD τ) arg11 fullShare d) ∗ owns (c : Thread nD τ) arg13 fullShare y13 ∗ (∃ d, owns (c : Thread nD τ) arg16 fullShare d)
        ∗ (iprop(owns (c : Thread nD τ) arg3 fullShare x2 ∗ owns (c : Thread nD τ) arg4 fullShare x3 ∗ owns (c : Thread nD τ) arg11 fullShare (dbOut x2 (pads x3) y13) ∗ owns (c : Thread nD τ) arg13 fullShare y13 ∗ (∃ d, owns (c : Thread nD τ) arg16 fullShare d)) -∗ K ⟨⟩))
      ⊢ wp frame (wpE (defs₀ (F := F)) Variants.none c none) E (finG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold finG
  simp only [k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton]
  unfold owns
  iintro ⟨⟨%f3, %hf3, H2⟩, ⟨%f4, %hf4, H3⟩, ⟨%d11, %f11, -, H10⟩, ⟨%f13, %hf13, H12⟩, ⟨%d16, %f16, -, HS2⟩, Hk⟩
  subst hf3 hf4 hf13
  sl_exec
  have hP : pads (View.read (Elt F) arg4.view f4) = (fun n => match n with
    | 0 => finG_run.sl.v1464 c arg4 arg16 f4
    | 1 => finG_run.sl.v1796 c arg4 arg16 f4
    | 2 => finG_run.sl.v2128 c arg4 arg16 f4
    | 3 => finG_run.sl.v2460 c arg4 arg16 f4
    | 4 => finG_run.sl.v2792 c arg4 arg16 f4
    | 5 => finG_run.sl.v3124 c arg4 arg16 f4
    | 6 => finG_run.sl.v3456 c arg4 arg16 f4
    | _ => finG_run.sl.v3788 c arg4 arg16 f4) := by
    funext n
    rcases n with _ | _ | _ | _ | _ | _ | _ | n <;> exact (readPad _ _ _).symm
  rw [hP]
  simp only [wp_ret]
  imodintro
  iapply Hk
  isplitl [H2]
  · iexists _; isplitr; swap; · iexact H2
    ipureintro; rfl
  isplitl [H3]
  · iexists _; isplitr; swap; · iexact H3
    ipureintro; rfl
  isplitl [H10]
  · iexists _; isplitr; swap; · iexact H10
    ipureintro; exact (View.read_writes_eq_canon _ _ _ (View.cover_of_tiled _ S16x1024.size (by rfl))).trans (View.canon_unit_zero (by funext a; fin_cases a <;> rfl) _ _)
  isplitl [H12]
  · iexists _; isplitr; swap; · iexact H12
    ipureintro; rfl
  iexists _; iexists _; isplitr; swap; · iexact HS2
  ipureintro; rfl

end Cert.Kernel.Gen

end
-- ==== Proof.OrigCommon.lean ====
module

public import proofs.«01_k».proof.Proof.OrigSplit
public import proofs.«01_k».proof.Proof.OrigCanon
public import Idealize.ShloMosaic.Lib.Pipeline.Value

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem commonG_run (c : Dev nD) (i : grid0.Coords) (arg1 : Memref sig .tc .vmem S4096x512 .fp8e4m3) (harg1 : arg1.IsWhole) (arg2 : Memref sig .tc .vmem S4096x128 .f32) (harg2 : arg2.IsWhole) (arg3 : Memref sig .tc .vmem S4096x1024 .fp8e5m2) (harg3 : arg3.IsWhole) (arg4 : Memref sig .tc .vmem S4096x32 .f32) (harg4 : arg4.IsWhole) (arg5 : Memref sig .tc .vmem S512x1024 .fp8e4m3) (harg5 : arg5.IsWhole) (arg6 : Memref sig .tc .vmem S1x1024 .f32) (harg6 : arg6.IsWhole) (arg7 : Memref sig .tc .vmem S16x512 .bf16) (harg7 : arg7.IsWhole) (arg8 : Memref sig .tc .vmem S16x1024 .bf16) (harg8 : arg8.IsWhole) (arg9 : Memref sig .tc .vmem S4096x512 .bf16) (harg9 : arg9.IsWhole) (arg10 : Memref sig .tc .vmem S16x512 .f32) (harg10 : arg10.IsWhole) (arg11 : Memref sig .tc .vmem S16x1024 .f32) (harg11 : arg11.IsWhole) (arg12 : Memref sig .tc .vmem S16x4096 .f32) (harg12 : arg12.IsWhole) (arg13 : Memref sig .tc .vmem S16x4096 .f32) (harg13 : arg13.IsWhole) (arg14 : Memref sig .tc .vmem S4096x1152 .bf16) (harg14 : arg14.IsWhole) (arg15 : Memref sig .tc .vmem S48x4096 .bf16) (harg15 : arg15.IsWhole) (arg16 : Memref sig .tc .vmem S512x128 .f32) (harg16 : arg16.IsWhole) (next : Prog (TpuEff nD τ sig (Elt F) Λ₀ .tc) PUnit)
    (x0 : Vec F S4096x512 .fp8e4m3) (x1 : Vec F S4096x128 .f32) (x4 : Vec F S512x1024 .fp8e4m3) (x6 : Vec F S16x512 .bf16) (y13 : Vec F S16x4096 .f32) (y14 : Vec F S4096x1152 .bf16) (y15 : Vec F S48x4096 .bf16)
    (E : Set ℕ) (K : PUnit → sProp 𝕄) :
    iprop(owns (c : Thread nD τ) arg1 fullShare x0 ∗ owns (c : Thread nD τ) arg2 fullShare x1 ∗ owns (c : Thread nD τ) arg5 fullShare x4 ∗ owns (c : Thread nD τ) arg7 fullShare x6 ∗ (∃ d, owns (c : Thread nD τ) arg9 fullShare d) ∗ (∃ d, owns (c : Thread nD τ) arg10 fullShare d) ∗ owns (c : Thread nD τ) arg13 fullShare y13 ∗ owns (c : Thread nD τ) arg14 fullShare y14 ∗ owns (c : Thread nD τ) arg15 fullShare y15
        ∗ (iprop(owns (c : Thread nD τ) arg1 fullShare x0 ∗ owns (c : Thread nD τ) arg2 fullShare x1 ∗ owns (c : Thread nD τ) arg5 fullShare x4 ∗ owns (c : Thread nD τ) arg7 fullShare x6 ∗ owns (c : Thread nD τ) arg9 fullShare (View.canon (dxPieces x4 x6 y14)) ∗ owns (c : Thread nD τ) arg10 fullShare (datOut (fbW i) x0 x1 y15) ∗ owns (c : Thread nD τ) arg13 fullShare (View.canon (xatPieces (fbW i) x0 x1 x6 y13)) ∗ owns (c : Thread nD τ) arg14 fullShare y14 ∗ owns (c : Thread nD τ) arg15 fullShare y15) -∗ wp frame (wpE (defs₀ (F := F)) Variants.none c none) E next K))
      ⊢ wp frame (wpE (defs₀ (F := F)) Variants.none c none) E (commonG i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 next) K := by
  unfold commonG
  simp only [k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton]
  unfold owns
  iintro ⟨⟨%f0, %hf0, H0⟩, ⟨%f1, %hf1, H1⟩, ⟨%f4, %hf4, H4⟩, ⟨%f6, %hf6, H6⟩, ⟨%d8, %f8, -, H8⟩, ⟨%d9, %f9, -, H9⟩, ⟨%f12, %hf12, H12⟩, ⟨%fs0, %hfs0, HS0⟩, ⟨%fs1, %hfs1, HS1⟩, Hk⟩
  subst hf0 hf1 hf4 hf6 hf12 hfs0 hfs1
  sl_exec
  iapply Hk
  isplitl [H0]
  · iexists _; isplitr; swap; · iexact H0
    ipureintro; rfl
  isplitl [H1]
  · iexists _; isplitr; swap; · iexact H1
    ipureintro; rfl
  isplitl [H4]
  · iexists _; isplitr; swap; · iexact H4
    ipureintro; rfl
  isplitl [H6]
  · iexists _; isplitr; swap; · iexact H6
    ipureintro; rfl
  isplitl [H8]
  · iexists _; isplitr; swap; · iexact H8
    ipureintro; exact View.read_writes_eq_canon _ _ _ (View.cover_of_tiled _ S512x512.size (by rfl))
  isplitl [H9]
  · iexists _; isplitr; swap; · iexact H9
    ipureintro; exact (View.read_writes_eq_canon _ _ _ (View.cover_of_tiled _ S16x512.size (by rfl))).trans (View.canon_unit_zero (by funext a; fin_cases a <;> rfl) _ _)
  isplitl [H12]
  · iexists _; isplitr; swap; · iexact H12
    ipureintro; exact View.read_writes_eq_canon _ _ _ (View.cover_of_tiled _ S16x512.size (by rfl))
  isplitl [HS0]
  · iexists _; isplitr; swap; · iexact HS0
    ipureintro; rfl
  iexists _; isplitr; swap; · iexact HS1
  ipureintro; rfl

end Cert.Kernel.Gen

end
-- ==== Proof.OrigRuns.lean ====
/- What the runs of the idealized kernel's body share: the branch conditions as facts about the grid point, the
   staging and scratch buffers by name, the invariant the scratch buffers are kept under. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond2, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S4096x512 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1024 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x4096 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x4096 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S4096x1152 .bf16 := Memref.whole cc0_scratch0
abbrev scM0_1 : Memref sig .tc .vmem S48x4096 .bf16 := Memref.whole cc0_scratch1
abbrev scM0_2 : Memref sig .tc .vmem S512x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.OrigPipe.lean ====
module

public import proofs.«01_k».proof.Proof.OrigInit
public import proofs.«01_k».proof.Proof.OrigFin
public import proofs.«01_k».proof.Proof.OrigCommon
public import proofs.«01_k».proof.Proof.OrigRuns
public import Idealize.ShloMosaic.Lib.Pipeline.FrameSuffix

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The first grid point. -/
def t0 : Fin cfg0.N := ⟨0, by rw [show cfg0.N = 32 from N_0]; decide⟩

/-- The left operand of the input-gradient product, as the first grid point leaves it. -/
def LHS (c : Dev nD) : Vec F S4096x1152 .bf16 := View.canon (lhsPieces (iblk m c 2 t0) (pads (iblk m c 3 t0)) (iblk m c 5 t0) (iblk m c 7 t0))
/-- The split product `lora_b · dyᵀ`, as the first grid point leaves it. -/
def TT3 (c : Dev nD) : Vec F S48x4096 .bf16 := View.canon (tt3Pieces (iblk m c 2 t0) (pads (iblk m c 3 t0)) (iblk m c 7 t0))
/-- The product `lora_b · dyᵀ`, as the first grid point leaves it. -/
def TT (c : Dev nD) : Vec F S16x4096 .f32 := View.canon (ttPieces (iblk m c 2 t0) (pads (iblk m c 3 t0)) (iblk m c 7 t0))
/-- The partial sums of `x · lora_a` before grid point `n`. -/
def XA (c : Dev nD) : ℕ → Vec F S16x4096 .f32
  | 0 => View.canon zPieces
  | n + 1 => if h : n < cfg0.N then View.canon (xatPieces (fbW (grid0.coords ⟨n, h⟩)) (iblk m c 0 ⟨n, h⟩) (iblk m c 1 ⟨n, h⟩) (iblk m c 6 ⟨n, h⟩) (XA c n)) else XA c n
/-- The gradient of `lora_b`. -/
def DB (c : Dev nD) : Vec F S16x1024 .f32 := dbOut (iblk m c 2 t0) (pads (iblk m c 3 t0)) (XA m c 32)
/-- The tile of the input gradient of grid point `t`. -/
def DX (c : Dev nD) (t : Fin cfg0.N) : Vec F S4096x512 .bf16 := View.canon (dxPieces (iblk m c 4 t) (iblk m c 6 t) (LHS m c))
/-- The tile of the `lora_a` gradient of grid point `t`. -/
def DAT (c : Dev nD) (t : Fin cfg0.N) : Vec F S16x512 .f32 := datOut (fbW (grid0.coords t)) (iblk m c 0 t) (iblk m c 1 t) (TT3 m c)

/-- The invariant before point `n`: nothing kept at the start; then the two operands the first point built. -/
def PhiS (c : Dev nD) : ℕ → sProp 𝕄
  | 0 => Pipeline.ΦA spec0 c
  | _ + 1 => iprop(iprop(owns (c : Thread nD τ) scM0_0 fullShare (LHS m c) ∗ owns (c : Thread nD τ) scM0_1 fullShare (TT3 m c) ∗ (∃ d, owns (c : Thread nD τ) scM0_2 fullShare d)) ∗ (∃ r, prngReg c r))

/-- The proof data of the pipeline on core `c`: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => DX m c t
    | ⟨9, _⟩ => DAT m c t
    | ⟨10, _⟩ => DB m c
    | ⟨11, _⟩ => TT m c
    | ⟨12, _⟩ => XA m c (t.val + 1)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = DX m c t := by dsimp only [dats]
theorem after0_9 (c : Dev nD) (t : Fin cfg0.N) : (dats m 0 c).after 9 t = DAT m c t := by dsimp only [dats]
theorem after0_10 (c : Dev nD) (t : Fin cfg0.N) : (dats m 0 c).after 10 t = DB m c := by dsimp only [dats]
theorem after0_11 (c : Dev nD) (t : Fin cfg0.N) : (dats m 0 c).after 11 t = TT m c := by dsimp only [dats]
theorem after0_12 (c : Dev nD) (t : Fin cfg0.N) : (dats m 0 c).after 12 t = XA m c (t.val + 1) := by dsimp only [dats]
theorem before0_0 (c : Dev nD) (t : Fin cfg0.N) (d) : (dats m 0 c).before 0 t d = iblk m c 0 t :=
  before0_0_of m (dats m 0 c) (A_eq m c 0) (fun t => after0_0 m c t) t d
theorem before0_1 (c : Dev nD) (t : Fin cfg0.N) (d) : (dats m 0 c).before 1 t d = iblk m c 1 t :=
  before0_1_of m (dats m 0 c) (A_eq m c 1) (fun t => after0_1 m c t) t d
theorem before0_2 (c : Dev nD) (t : Fin cfg0.N) (d) : (dats m 0 c).before 2 t d = iblk m c 2 t :=
  before0_2_of m (dats m 0 c) (A_eq m c 2) (fun t => after0_2 m c t) t d
theorem before0_3 (c : Dev nD) (t : Fin cfg0.N) (d) : (dats m 0 c).before 3 t d = iblk m c 3 t :=
  before0_3_of m (dats m 0 c) (A_eq m c 3) (fun t => after0_3 m c t) t d
theorem before0_4 (c : Dev nD) (t : Fin cfg0.N) (d) : (dats m 0 c).before 4 t d = iblk m c 4 t :=
  before0_4_of m (dats m 0 c) (A_eq m c 4) (fun t => after0_4 m c t) t d
theorem before0_5 (c : Dev nD) (t : Fin cfg0.N) (d) : (dats m 0 c).before 5 t d = iblk m c 5 t :=
  before0_5_of m (dats m 0 c) (A_eq m c 5) (fun t => after0_5 m c t) t d
theorem before0_6 (c : Dev nD) (t : Fin cfg0.N) (d) : (dats m 0 c).before 6 t d = iblk m c 6 t :=
  before0_6_of m (dats m 0 c) (A_eq m c 6) (fun t => after0_6 m c t) t d
theorem before0_7 (c : Dev nD) (t : Fin cfg0.N) (d) : (dats m 0 c).before 7 t d = iblk m c 7 t :=
  before0_7_of m (dats m 0 c) (A_eq m c 7) (fun t => after0_7 m c t) t d
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_12 : ∀ t : Fin cfg0.N, cfg0.idle 12 (grid0.coords t) = false := fun _ => rfl
theorem lv0_0 (c : Dev nD) (t : Fin cfg0.N) : (dats m 0 c).leavesExact 0 t = owns (c : Thread nD τ) (ms0_0 t) fullShare (iblk m c 0 t) := by
  unfold Dat.leavesExact; rw [liveAt0_0 t, after0_0]
theorem lv0_1 (c : Dev nD) (t : Fin cfg0.N) : (dats m 0 c).leavesExact 1 t = owns (c : Thread nD τ) (ms0_1 t) fullShare (iblk m c 1 t) := by
  unfold Dat.leavesExact; rw [liveAt0_1 t, after0_1]
theorem lv0_2 (c : Dev nD) (t : Fin cfg0.N) : (dats m 0 c).leavesExact 2 t = owns (c : Thread nD τ) (ms0_2 t) fullShare (iblk m c 2 t) := by
  unfold Dat.leavesExact; rw [liveAt0_2 t, after0_2]
theorem lv0_3 (c : Dev nD) (t : Fin cfg0.N) : (dats m 0 c).leavesExact 3 t = owns (c : Thread nD τ) (ms0_3 t) fullShare (iblk m c 3 t) := by
  unfold Dat.leavesExact; rw [liveAt0_3 t, after0_3]
theorem lv0_4 (c : Dev nD) (t : Fin cfg0.N) : (dats m 0 c).leavesExact 4 t = owns (c : Thread nD τ) (ms0_4 t) fullShare (iblk m c 4 t) := by
  unfold Dat.leavesExact; rw [liveAt0_4 t, after0_4]
theorem lv0_5 (c : Dev nD) (t : Fin cfg0.N) : (dats m 0 c).leavesExact 5 t = owns (c : Thread nD τ) (ms0_5 t) fullShare (iblk m c 5 t) := by
  unfold Dat.leavesExact; rw [liveAt0_5 t, after0_5]
theorem lv0_6 (c : Dev nD) (t : Fin cfg0.N) : (dats m 0 c).leavesExact 6 t = owns (c : Thread nD τ) (ms0_6 t) fullShare (iblk m c 6 t) := by
  unfold Dat.leavesExact; rw [liveAt0_6 t, after0_6]
theorem lv0_7 (c : Dev nD) (t : Fin cfg0.N) : (dats m 0 c).leavesExact 7 t = owns (c : Thread nD τ) (ms0_7 t) fullShare (iblk m c 7 t) := by
  unfold Dat.leavesExact; rw [liveAt0_7 t, after0_7]
theorem lv0_8 (c : Dev nD) (t : Fin cfg0.N) : (dats m 0 c).leavesExact 8 t = owns (c : Thread nD τ) (ms0_8 t) fullShare (DX m c t) := by
  unfold Dat.leavesExact; rw [liveAt0_8 t, after0_8]
theorem lv0_9 (c : Dev nD) (t : Fin cfg0.N) : (dats m 0 c).leavesExact 9 t = owns (c : Thread nD τ) (ms0_9 t) fullShare (DAT m c t) := by
  unfold Dat.leavesExact; rw [liveAt0_9 t, after0_9]
theorem lv0_12 (c : Dev nD) (t : Fin cfg0.N) : (dats m 0 c).leavesExact 12 t = owns (c : Thread nD τ) (ms0_12 t) fullShare (XA m c (t.val + 1)) := by
  unfold Dat.leavesExact; rw [liveAt0_12 t, after0_12]
theorem iblk_const_2 (c : Dev nD) (t : Fin cfg0.N) : iblk m c 2 t = iblk m c 2 t0 := rfl
theorem iblk_const_3 (c : Dev nD) (t : Fin cfg0.N) : iblk m c 3 t = iblk m c 3 t0 := rfl
theorem iblk_const_5 (c : Dev nD) (t : Fin cfg0.N) : iblk m c 5 t = iblk m c 5 t0 := rfl
theorem iblk_const_7 (c : Dev nD) (t : Fin cfg0.N) : iblk m c 7 t = iblk m c 7 t0 := rfl

theorem idle10 (t : Fin cfg0.N) (h : ¬ k0_cond2 (grid0.coords t) = 1#1) : cfg0.idle 10 (grid0.coords t) = true := by
  show (!(k0_cond2 (grid0.coords t) == 1#1)) = true
  simp [h]
theorem live10 (t : Fin cfg0.N) (h : k0_cond2 (grid0.coords t) = 1#1) : cfg0.idle 10 (grid0.coords t) = false := by
  show (!(k0_cond2 (grid0.coords t) == 1#1)) = false
  simp [h]
theorem idle11 (t : Fin cfg0.N) (h : ¬ k0_cond1 (grid0.coords t) = 1#1) : cfg0.idle 11 (grid0.coords t) = true := by
  show (!(k0_cond1 (grid0.coords t) == 1#1)) = true
  simp [h]
theorem live11 (t : Fin cfg0.N) (h : k0_cond1 (grid0.coords t) = 1#1) : cfg0.idle 11 (grid0.coords t) = false := by
  show (!(k0_cond1 (grid0.coords t) == 1#1)) = false
  simp [h]
theorem noflush10 (t : Fin cfg0.N) (h : ¬ t.val % 32 = 31) : (cfg0.win 10).flush t = false :=
  Bool.eq_false_iff.mpr fun e => h ((flush0_10 t).mp e)
theorem noflush11 (t : Fin cfg0.N) (h : ¬ t.val % 32 = 31) : (cfg0.win 11).flush t = false :=
  Bool.eq_false_iff.mpr fun e => h ((flush0_11 t).mp e)
theorem noflush12 (t : Fin cfg0.N) (h : ¬ t.val % 32 = 31) : (cfg0.win 12).flush t = false :=
  Bool.eq_false_iff.mpr fun e => h ((flush0_12 t).mp e)

theorem lv0_10_idle (c : Dev nD) (t : Fin cfg0.N) (h : ¬ t.val % 32 = 31) :
    (dats m 0 c).leavesExact 10 t = iprop(∃ d, owns (c : Thread nD τ) (ms0_10 t) fullShare ((dats m 0 c).before 10 t d)) := by
  unfold Dat.leavesExact; rw [idle10 t (fun e => h ((hcond0_1 t).mp e)), noflush10 t h]
theorem lv0_10_last (c : Dev nD) (t : Fin cfg0.N) (h : t.val % 32 = 31) :
    (dats m 0 c).leavesExact 10 t = owns (c : Thread nD τ) (ms0_10 t) fullShare (DB m c) := by
  unfold Dat.leavesExact; rw [live10 t ((hcond0_1 t).mpr h), after0_10]
theorem lv0_11_first (c : Dev nD) (t : Fin cfg0.N) (h : t.val % 32 = 0) :
    (dats m 0 c).leavesExact 11 t = owns (c : Thread nD τ) (ms0_11 t) fullShare (TT m c) := by
  unfold Dat.leavesExact; rw [live11 t ((hcond0_0 t).mpr h), after0_11]
theorem lv0_11_idle (c : Dev nD) (t : Fin cfg0.N) (h0 : ¬ t.val % 32 = 0) (h : ¬ t.val % 32 = 31) :
    (dats m 0 c).leavesExact 11 t = iprop(∃ d, owns (c : Thread nD τ) (ms0_11 t) fullShare ((dats m 0 c).before 11 t d)) := by
  unfold Dat.leavesExact; rw [idle11 t (fun e => h0 ((hcond0_0 t).mp e)), noflush11 t h]
theorem lv0_11_last (c : Dev nD) (t : Fin cfg0.N) (h : t.val % 32 = 31) :
    (dats m 0 c).leavesExact 11 t = owns (c : Thread nD τ) (ms0_11 t) fullShare (TT m c) := by
  unfold Dat.leavesExact; rw [idle11 t (fun e => by have := (hcond0_0 t).mp e; omega), (flush0_11 t).mpr h, after0_11]

/-- Before a later point window 12 holds the partial sums the point before left. -/
theorem before0_12 (c : Dev nD) (t : Fin cfg0.N) (ht : t.val ≠ 0) (d) : (dats m 0 c).before 12 t d = XA m c t.val := by
  have hN : t.val < 32 := lt_of_lt_of_eq t.isLt (show cfg0.N = 32 from N_0)
  rw [Dat.before_of_pos _ _ t ht rfl, noflush12 _ (by show ¬ (t.val - 1) % 32 = 31; omega)]
  show (dats m 0 c).after 12 _ = _
  rw [after0_12]
  show XA m c (t.val - 1 + 1) = _
  rw [Nat.sub_add_cancel (by omega)]

/-- Before a later point window 11 holds what the first point left. -/
theorem before0_11 (c : Dev nD) : ∀ (n : ℕ) (t : Fin cfg0.N), t.val = n + 1 → ∀ d, (dats m 0 c).before 11 t d = TT m c := by
  intro n
  induction n with
  | zero =>
    intro t ht d
    rw [Dat.before_of_pos _ _ t (by omega) rfl, noflush11 _ (by show ¬ (t.val - 1) % 32 = 31; omega)]
    show Dat.left _ _ _ d = _
    unfold Dat.left
    rw [live11 _ ((hcond0_0 _).mpr (by show (t.val - 1) % 32 = 0; omega))]
    show (dats m 0 c).after 11 _ = _
    rw [after0_11]
  | succ n ih =>
    intro t ht d
    have hN : t.val < 32 := lt_of_lt_of_eq t.isLt (show cfg0.N = 32 from N_0)
    rw [Dat.before_of_pos _ _ t (by omega) rfl, noflush11 _ (by show ¬ (t.val - 1) % 32 = 31; omega)]
    show Dat.left _ _ _ d = _
    unfold Dat.left
    rw [idle11 _ (fun e => by have h : (t.val - 1) % 32 = 0 := (hcond0_0 _).mp e; omega)]
    exact ih _ (by show t.val - 1 = n + 1; omega) d

theorem XA_succ (c : Dev nD) (t : Fin cfg0.N) :
    XA m c (t.val + 1) = View.canon (xatPieces (fbW (grid0.coords t)) (iblk m c 0 t) (iblk m c 1 t) (iblk m c 6 t) (XA m c t.val)) := by
  rw [XA, dif_pos t.isLt]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem Phi_start (c : Dev nD) (t : Fin cfg0.N) : (dats m 0 c).Φ t.castSucc = PhiS m c t.val := by
  dsimp only [dats]; exact Pipeline.Dat.Φ_castSucc (fun n _ => PhiS m c n) t
theorem Phi_next (c : Dev nD) (t : Fin cfg0.N) : (dats m 0 c).Φ t.succ = PhiS m c (t.val + 1) := by
  dsimp only [dats]; rfl

set_option maxHeartbeats 4800000 in
/-- The body at the first point. -/
theorem sound_A (c : Dev nD) (t : Fin cfg0.N) (h0 : t.val % 32 = 0) (h1 : ¬ t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have ht : t.val = 0 := by omega
  unfold bodyPre bodyPost bodyAt0
  simp only [before0_0, before0_1, before0_2, before0_3, before0_4, before0_5, before0_6, before0_7, lv0_0, lv0_1, lv0_2, lv0_3, lv0_4, lv0_5, lv0_6, lv0_7, lv0_8, lv0_9, lv0_12]
  rw [Phi_start, Phi_next, ht, show (dats m 0 c).owesAt () t.succ = (dats m 0 c).owesAt () t.castSucc from rfl, lv0_10_idle m c t h1, lv0_11_first m c t h0]
  rw [show PhiS m c 0 = Pipeline.ΦA spec0 c from rfl, PhiA0_eq, PhiS]
  rw [body_A _ _ _ _ _ _ _ _ _ _ _ _ _ _ _ _ _ _ _ _ _ _ _ _ _ _ _ _ _ _ _ _ _ ((hcond0_0 t).mpr h0) (fun h => h1 ((hcond0_1 t).mp h)), wp_bind]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (initG_run c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (Memref.isWhole_whole _) _ (Memref.isWhole_whole _) _ (Memref.isWhole_whole _) (iblk m c 2 t) (iblk m c 3 t) (iblk m c 5 t) (iblk m c 7 t) Set.univ _)
  isplitl [H2]; · iexact H2
  isplitl [H3]; · iexact H3
  isplitl [H5]; · iexact H5
  isplitl [H7]; · iexact H7
  isplitl [H11]; · iexists _; iexact H11
  isplitl [H12]; · iexists _; iexact H12
  isplitl [HS0]; · iexact HS0
  isplitl [HS1]; · iexact HS1
  isplitl [HS2]; · iexact HS2
  iintro ⟨H2, H3, H5, H7, H11, H12, HS0, HS1, HS2⟩
  iapply (commonG_run c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (Memref.isWhole_whole _) _ (Memref.isWhole_whole _) _ (Memref.isWhole_whole _) _ (iblk m c 0 t) (iblk m c 1 t) (iblk m c 4 t) (iblk m c 6 t) _ _ _ Set.univ _)
  isplitl [H0]; · iexact H0
  isplitl [H1]; · iexact H1
  isplitl [H4]; · iexact H4
  isplitl [H6]; · iexact H6
  isplitl [H8]; · iexists _; iexact H8
  isplitl [H9]; · iexists _; iexact H9
  isplitl [H12]; · iexact H12
  isplitl [HS0]; · iexact HS0
  isplitl [HS1]; · iexact HS1
  iintro ⟨H0, H1, H4, H6, H8, H9, H12, HS0, HS1⟩
  simp only [wp_pure]
  imodintro
  rw [show XA m c (0 + 1) = _ from ht ▸ XA_succ m c t, show XA m c 0 = View.canon zPieces from rfl]
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  iexact H12

set_option maxHeartbeats 4800000 in
/-- The body between the first point and the last. -/
theorem sound_B (c : Dev nD) (t : Fin cfg0.N) (h0 : ¬ t.val % 32 = 0) (h1 : ¬ t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  obtain ⟨n, hn⟩ : ∃ n, t.val = n + 1 := ⟨t.val - 1, by omega⟩
  unfold bodyPre bodyPost bodyAt0
  simp only [before0_0, before0_1, before0_2, before0_3, before0_4, before0_5, before0_6, before0_7, lv0_0, lv0_1, lv0_2, lv0_3, lv0_4, lv0_5, lv0_6, lv0_7, lv0_8, lv0_9, lv0_12, before0_12 m c t (by omega)]
  rw [Phi_start, Phi_next, show (dats m 0 c).owesAt () t.succ = (dats m 0 c).owesAt () t.castSucc from rfl, lv0_10_idle m c t h1, lv0_11_idle m c t h0 h1, XA_succ m c t]
  rw [show PhiS m c t.val = PhiS m c (n + 1) from congrArg _ hn]
  unfold PhiS
  rw [body_B _ _ _ _ _ _ _ _ _ _ _ _ _ _ _ _ _ _ _ _ _ _ _ _ _ _ _ _ _ _ _ _ _ (fun h => h0 ((hcond0_0 t).mp h)) (fun h => h1 ((hcond0_1 t).mp h))]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (commonG_run c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (Memref.isWhole_whole _) _ (Memref.isWhole_whole _) _ (Memref.isWhole_whole _) _ (iblk m c 0 t) (iblk m c 1 t) (iblk m c 4 t) (iblk m c 6 t) (XA m c t.val) (LHS m c) (TT3 m c) Set.univ _)
  isplitl [H0]; · iexact H0
  isplitl [H1]; · iexact H1
  isplitl [H4]; · iexact H4
  isplitl [H6]; · iexact H6
  isplitl [H8]; · iexists _; iexact H8
  isplitl [H9]; · iexists _; iexact H9
  isplitl [H12]; · iexact H12
  isplitl [HS0]; · iexact HS0
  isplitl [HS1]; · iexact HS1
  iintro ⟨H0, H1, H4, H6, H8, H9, H12, HS0, HS1⟩
  simp only [wp_pure]
  imodintro
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexact H12

set_option maxHeartbeats 4800000 in
/-- The body at the last point. -/
theorem sound_C (c : Dev nD) (t : Fin cfg0.N) (h0 : ¬ t.val % 32 = 0) (h1 : t.val % 32 = 31) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  obtain ⟨n, hn⟩ : ∃ n, t.val = n + 1 := ⟨t.val - 1, by omega⟩
  have h31 : t.val + 1 = 32 := by omega
  unfold bodyPre bodyPost bodyAt0
  simp only [before0_0, before0_1, before0_2, before0_3, before0_4, before0_5, before0_6, before0_7, lv0_0, lv0_1, lv0_2, lv0_3, lv0_4, lv0_5, lv0_6, lv0_7, lv0_8, lv0_9, lv0_12, before0_12 m c t (by omega), before0_11 m c n t hn]
  rw [Phi_start, Phi_next, show (dats m 0 c).owesAt () t.succ = (dats m 0 c).owesAt () t.castSucc from rfl, lv0_10_last m c t h1, lv0_11_last m c t h1]
  rw [show PhiS m c t.val = PhiS m c (n + 1) from congrArg _ hn]
  unfold PhiS DB
  rw [← h31, XA_succ m c t]
  rw [body_C _ _ _ _ _ _ _ _ _ _ _ _ _ _ _ _ _ _ _ _ _ _ _ _ _ _ _ _ _ _ _ _ _ (fun h => h0 ((hcond0_0 t).mp h)) ((hcond0_1 t).mpr h1)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (commonG_run c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (Memref.isWhole_whole _) _ (Memref.isWhole_whole _) _ (Memref.isWhole_whole _) _ (iblk m c 0 t) (iblk m c 1 t) (iblk m c 4 t) (iblk m c 6 t) (XA m c t.val) (LHS m c) (TT3 m c) Set.univ _)
  isplitl [H0]; · iexact H0
  isplitl [H1]; · iexact H1
  isplitl [H4]; · iexact H4
  isplitl [H6]; · iexact H6
  isplitl [H8]; · iexists _; iexact H8
  isplitl [H9]; · iexists _; iexact H9
  isplitl [H12]; · iexact H12
  isplitl [HS0]; · iexact HS0
  isplitl [HS1]; · iexact HS1
  iintro ⟨H0, H1, H4, H6, H8, H9, H12, HS0, HS1⟩
  iapply (finG_run c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (Memref.isWhole_whole _) _ (Memref.isWhole_whole _) _ (Memref.isWhole_whole _) (iblk m c 2 t) (iblk m c 3 t) _ Set.univ _)
  isplitl [H2]; · iexact H2
  isplitl [H3]; · iexact H3
  isplitl [H10]; · iexists _; iexact H10
  isplitl [H12]; · iexact H12
  isplitl [HS2]; · iexact HS2
  iintro ⟨H2, H3, H10, H12, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact sound_A m c t h0 (by omega)
  · by_cases h1 : t.val % 32 = 31
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant after the last point gives back the scratch buffers at some contents. -/
theorem hout (c : Dev nD) : (dats m 0 c).Φ (Fin.last cfg0.N) ⊢ Pipeline.ΦA spec0 c := by
  rw [PhiA0_eq, show (dats m 0 c).Φ (Fin.last cfg0.N) = PhiS m c (31 + 1) from by dsimp only [dats]; exact congrArg (PhiS m c) (show (Fin.last cfg0.N).val = 32 from N_0), PhiS]
  iintro ⟨⟨HS0, HS1, HS2⟩, Hg⟩
  isplitl [HS0 HS1 HS2]
  · isplitl [HS0]; · iexists _; iexact HS0
    isplitl [HS1]; · iexists _; iexact HS1
    iexact HS2
  iexact Hg

set_option backward.isDefEq.respectTransparency.types false in
set_option maxHeartbeats 800000 in
/-- THE RUN: from any memory with zero counters every execution ends with each windowed array as the proof data say, and
    the host lines after the region run over them; every counter of the machine is zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := hout m)

/-- The run, without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.Kernel.Gen

end
-- ==== Proof.OrigRun.lean ====
module

public import proofs.«01_k».proof.Proof.OrigPipe
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- For any memory: the kernel terminates with its arguments unchanged and every counter back at zero. -/
theorem frame_quiescent (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run defs _ _).mono (fun r h' => ⟨fun c => ⟨((h'.1 c).2 main_arg0 (Pipeline.mem_restRefs_of main_arg0 (by decide) (by decide))).trans (W_main_arg0 m (dats m) c),
    ((h'.1 c).2 main_arg1 (Pipeline.mem_restRefs_of main_arg1 (by decide) (by decide))).trans (W_main_arg1 m (dats m) c),
    ((h'.1 c).2 main_arg2 (Pipeline.mem_restRefs_of main_arg2 (by decide) (by decide))).trans (W_main_arg2 m (dats m) c),
    ((h'.1 c).2 main_arg3 (Pipeline.mem_restRefs_of main_arg3 (by decide) (by decide))).trans (W_main_arg3 m (dats m) c),
    ((h'.1 c).1 4).trans (((dats m 0 c).arrAt_in 4 rfl _).trans ((A_eq m c 4).trans (V_main_arg4 m c))),
    ((h'.1 c).2 main_arg5 (Pipeline.mem_restRefs_of main_arg5 (by decide) (by decide))).trans (W_main_arg5 m (dats m) c),
    ((h'.1 c).2 main_arg6 (Pipeline.mem_restRefs_of main_arg6 (by decide) (by decide))).trans (W_main_arg6 m (dats m) c),
    ((h'.1 c).1 7).trans (((dats m 0 c).arrAt_in 7 rfl _).trans ((A_eq m c 7).trans (V_main_arg7 m c)))⟩, h'.2⟩) (run_main_quiescent m ρ)

end Cert.Kernel.Gen

end
-- ==== Proof.RRead.lean ====
module

public import proofs.«01_k».proof.Proof.Maths
public import proofs.«01_k».proof.Proof.Gen.ReferenceIdeal.Run
public import Idealize.ShloMosaic.Lib.Pointwise
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Tactic

@[expose] public section

set_option maxRecDepth 16384

noncomputable section

namespace Cert.ReferenceIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lora Cert.ReferenceIdeal.Gen
open Cert.KernelIdeal.Gen (c2 c2_eq)

variable (v0 : FVec Ideal S2x2048x16384 .bf16) (v1 : FVec Ideal S2x2048x1024 .bf16) (v2 : FVec Ideal S16384x1024 .bf16) (a1 : FVec Ideal S2x2048x512 .f32) (a3 : FVec Ideal S2x2048x32 .f32) (a5 : FVec Ideal S1024 .f32) (a6 : FVec Ideal S16384x16 .bf16) (a7 : FVec Ideal S16x1024 .bf16)

/-! ## The host operations' composed terms -/

/-- The product with `lora_b`, as the host operations after the region compute it from the region's arrays. -/
def H15 : FVec Ideal S2x2048x16 .f32 := Host.dotGeneral dot_S2x2048x1024_S16x1024_S2x2048x16_2_1_01_0_n_n none (shapeCast _ (mulf (shapeCast _ v1 shapeCasts_S2x2048x1024_S2x2048x32x32) (broadcastInDim S2x2048x32x32 ![0, 1, 2, 3] bcast_S2x2048x32x1_S2x2048x32x32_0_1_2_3 (broadcastInDim S2x2048x32x1 ![0, 1, 2] bcast_S2x2048x32_S2x2048x32x1_0_1_2 (truncf .bf16 a3 bitsLt_bf16_f32)))) shapeCasts_S2x2048x32x32_S2x2048x1024) a7

/-- The product with `lora_b` at an index is the plain formula. -/
theorem H15_read (b : Fin 2) (s : Fin 2048) (k : Fin 16) : H15 v1 a3 a7 (ix3 b s k) = MT (fy v1) (fys a3) (flb a7) b s k := by
  unfold H15
  pointwise
  rfl

/-- The product with `lora_a`, as the host operations after the region compute it from the region's arrays. -/
def H16 : FVec Ideal S2x2048x16 .f32 := Host.dotGeneral dot_S2x2048x16384_S16384x16_S2x2048x16_2_0_01_1_n_n none (shapeCast _ (mulf (shapeCast _ v0 shapeCasts_S2x2048x16384_S2x2048x512x32) (broadcastInDim S2x2048x512x32 ![0, 1, 2, 3] bcast_S2x2048x512x1_S2x2048x512x32_0_1_2_3 (broadcastInDim S2x2048x512x1 ![0, 1, 2] bcast_S2x2048x512_S2x2048x512x1_0_1_2 (truncf .bf16 a1 bitsLt_bf16_f32)))) shapeCasts_S2x2048x512x32_S2x2048x16384) a6

/-- The product with `lora_a` at an index is the plain formula. -/
theorem H16_read (b : Fin 2) (s : Fin 2048) (k : Fin 16) : H16 v0 a1 a6 (ix3 b s k) = MXA (fx v0) (fxs a1) (fla a6) b s k := by
  unfold H16
  pointwise
  rfl

/-- The input gradient, as the host operations after the region compute it from the region's arrays. -/
def H27 : FVec Ideal S2x2048x16384 .bf16 := truncf .bf16 (addf (Host.dotGeneral dot_S2x2048x1024_S16384x1024_S2x2048x16384_2_1_01_0_n_n none (shapeCast _ (mulf (shapeCast _ v1 shapeCasts_S2x2048x1024_S2x2048x32x32) (broadcastInDim S2x2048x32x32 ![0, 1, 2, 3] bcast_S2x2048x32x1_S2x2048x32x32_0_1_2_3 (broadcastInDim S2x2048x32x1 ![0, 1, 2] bcast_S2x2048x32_S2x2048x32x1_0_1_2 (truncf .bf16 a3 bitsLt_bf16_f32)))) shapeCasts_S2x2048x32x32_S2x2048x1024) (mulf v2 (broadcastInDim S16384x1024 ![0, 1] bcast_S1x1024_S16384x1024_0_1 (broadcastInDim S1x1024 ![1] bcast_S1024_S1x1024_1 (truncf .bf16 a5 bitsLt_bf16_f32))))) (mulf (broadcastInDim S2x2048x16384 ![] bcast_S_S2x2048x16384 (constant S_ .f32 0x40000000#32)) (Host.dotGeneral dot_S2x2048x16_S16384x16_S2x2048x16384_2_1_01_0_n_n (some .fp32) (Host.dotGeneral dot_S2x2048x1024_S16x1024_S2x2048x16_2_1_01_0_n_n none (shapeCast _ (mulf (shapeCast _ v1 shapeCasts_S2x2048x1024_S2x2048x32x32) (broadcastInDim S2x2048x32x32 ![0, 1, 2, 3] bcast_S2x2048x32x1_S2x2048x32x32_0_1_2_3 (broadcastInDim S2x2048x32x1 ![0, 1, 2] bcast_S2x2048x32_S2x2048x32x1_0_1_2 (truncf .bf16 a3 bitsLt_bf16_f32)))) shapeCasts_S2x2048x32x32_S2x2048x1024) a7) (extf .f32 a6 bitsLt_bf16_f32)))) bitsLt_bf16_f32

/-- The input gradient at an index is the plain formula. -/
theorem H27_read (b : Fin 2) (s : Fin 2048) (i : Fin 16384) : H27 v1 v2 a3 a5 a6 a7 (ix3 b s i) = MDX (fy v1) (fys a3) (fw v2) (fws a5) (fla a6) (flb a7) b s i := by
  unfold H27
  pointwise
  rfl

/-- The gradient of `lora_a`, as the host operations after the region compute it from the region's arrays. -/
def H42 : FVec Ideal S16384x16 .f32 := mulf (broadcastInDim S16384x16 ![] bcast_S_S16384x16 (constant S_ .f32 0x40000000#32)) (Host.dotGeneral dot_S2x2048x16384_S2x2048x16_S16384x16_01_01_2_2_n_n (some .fp32) (shapeCast _ (mulf (shapeCast _ (extf .f32 v0 bitsLt_bf16_f32) shapeCasts_S2x2048x16384_S2x2048x512x32) (broadcastInDim S2x2048x512x32 ![0, 1, 2, 3] bcast_S2x2048x512x1_S2x2048x512x32_0_1_2_3 (broadcastInDim S2x2048x512x1 ![0, 1, 2] bcast_S2x2048x512_S2x2048x512x1_0_1_2 a1))) shapeCasts_S2x2048x512x32_S2x2048x16384) (Host.dotGeneral dot_S2x2048x1024_S16x1024_S2x2048x16_2_1_01_0_n_n none (shapeCast _ (mulf (shapeCast _ v1 shapeCasts_S2x2048x1024_S2x2048x32x32) (broadcastInDim S2x2048x32x32 ![0, 1, 2, 3] bcast_S2x2048x32x1_S2x2048x32x32_0_1_2_3 (broadcastInDim S2x2048x32x1 ![0, 1, 2] bcast_S2x2048x32_S2x2048x32x1_0_1_2 (truncf .bf16 a3 bitsLt_bf16_f32)))) shapeCasts_S2x2048x32x32_S2x2048x1024) a7))

/-- The gradient of `lora_a` at an index is the plain formula. -/
theorem H42_read (i : Fin 16384) (k : Fin 16) : H42 v0 v1 a1 a3 a7 (ix2 i k) = MDA (fx v0) (fxs a1) (fy v1) (fys a3) (flb a7) i k := by
  unfold H42
  pointwise
  rfl

/-- The gradient of `lora_b`, as the host operations after the region compute it from the region's arrays. -/
def H45 : FVec Ideal S16x1024 .f32 := mulf (broadcastInDim S16x1024 ![] bcast_S_S16x1024 (constant S_ .f32 0x40000000#32)) (Host.dotGeneral dot_S2x2048x16_S2x2048x1024_S16x1024_01_01_2_2_n_n (some .fp32) (Host.dotGeneral dot_S2x2048x16384_S16384x16_S2x2048x16_2_0_01_1_n_n none (shapeCast _ (mulf (shapeCast _ v0 shapeCasts_S2x2048x16384_S2x2048x512x32) (broadcastInDim S2x2048x512x32 ![0, 1, 2, 3] bcast_S2x2048x512x1_S2x2048x512x32_0_1_2_3 (broadcastInDim S2x2048x512x1 ![0, 1, 2] bcast_S2x2048x512_S2x2048x512x1_0_1_2 (truncf .bf16 a1 bitsLt_bf16_f32)))) shapeCasts_S2x2048x512x32_S2x2048x16384) a6) (shapeCast _ (mulf (shapeCast _ (extf .f32 v1 bitsLt_bf16_f32) shapeCasts_S2x2048x1024_S2x2048x32x32) (broadcastInDim S2x2048x32x32 ![0, 1, 2, 3] bcast_S2x2048x32x1_S2x2048x32x32_0_1_2_3 (broadcastInDim S2x2048x32x1 ![0, 1, 2] bcast_S2x2048x32_S2x2048x32x1_0_1_2 a3))) shapeCasts_S2x2048x32x32_S2x2048x1024))

/-- The gradient of `lora_b` at an index is the plain formula. -/
theorem H45_read (k : Fin 16) (o : Fin 1024) : H45 v0 v1 a1 a3 a6 (ix2 k o) = MDB (fx v0) (fxs a1) (fy v1) (fys a3) (fla a6) k o := by
  unfold H45
  pointwise
  rfl

end Cert.ReferenceIdeal.Value

end
-- ==== Proof.RReg.lean ====
module

public import proofs.«01_k».proof.Proof.Maths
public import proofs.«01_k».proof.Proof.Gen.ReferenceIdeal.Run
public import Idealize.ShloMosaic.Lib.StableHlo.Run
public import Idealize.ShloMosaic.Lib.Pointwise
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Tactic

@[expose] public section

set_option maxRecDepth 16384

noncomputable section

namespace Cert.ReferenceIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen Cert.Lora
open Cert.KernelIdeal.Gen (c2 c2_eq)

variable (m : (ℓ : Loc nD τ sig) → Buf (Elt Ideal) ℓ) (c : Dev nD)

/-! ## What the cast region leaves: its three inputs, unchanged at exact values -/

theorem idx0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)

theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

theorem blk0 (t : Fin cfg0.N) : (iblk m c 0 t : Vec Ideal S2x2048x16384 .fp8e4m3) = V m c main_v0 := by
  funext x
  unfold iblk
  rw [View.read_apply]
  show V m c main_v0 _ = V m c main_v0 _
  refine congrArg (V m c main_v0) (funext fun a => Fin.ext ?_)
  match a with
  | ⟨0, _⟩ => show win0_0.index t 0 * 2 + 1 * (x 0).val = (x 0).val; rw [(idx0 t).1]; omega
  | ⟨1, _⟩ => show win0_0.index t 1 * 2048 + 1 * (x 1).val = (x 1).val; rw [(idx0 t).2.1]; omega
  | ⟨2, _⟩ => show win0_0.index t 2 * 16384 + 1 * (x 2).val = (x 2).val; rw [(idx0 t).2.2]; omega

/-- The same extended reals at the wider type. -/
def as0 (x : Vec Ideal S2x2048x16384 .fp8e4m3) : Vec Ideal S2x2048x16384 .bf16 := fun y => x y

/-- A whole-array cast stored whole is the array itself. -/
theorem out0 (x0 : Vec Ideal S2x2048x16384 .fp8e4m3) (x1 : Vec Ideal S2x2048x1024 .fp8e5m2) (x2 : Vec Ideal S16384x1024 .fp8e4m3) :
    out0_3 x0 x1 x2 = as0 x0 := by
  unfold out0_3
  generalize hp0 : k0_pay1 (View.ld x0 r0_0) = p0
  funext y
  refine View.canon_apply_of_pieces (as0 x0) _ ?_ y (cover0_3 (F := Ideal) p0 y)
  intro p hp
  simp only [List.mem_cons, List.not_mem_nil, or_false] at hp
  rcases hp with rfl
  intro z
  subst hp0
  unfold k0_pay1
  dsimp only
  try rw [shapeCast_self]
  rfl

theorem final3 (G : Vec Ideal S2x2048x16384 .bf16) (h : ∀ t : Fin cfg0.N, ((dats m 0 c).after 3 t : Vec Ideal S2x2048x16384 .bf16) = G) :
    (dats m 0 c).arrAt 3 cfg0.N = (G : Buf (Elt Ideal) ((c : Thread nD τ).loc main_v2_0)) :=
  (dats m 0 c).arrAt_eq_of_cover 3 _ (fun t hf => by
    show (cfg0.win 3).cut (grid0.coords t) ((dats m 0 c).after 3 t) = _
    rw [h t]
    funext x
    rw [View.read_apply]
    refine (congrArg G (funext fun a => Fin.ext ?_) : G x = G _)
    match a with
    | ⟨0, _⟩ => show (x 0).val = win0_3.index t 0 * 2 + 1 * (x 0).val; rw [(idx3 t).1]; omega
    | ⟨1, _⟩ => show (x 1).val = win0_3.index t 1 * 2048 + 1 * (x 1).val; rw [(idx3 t).2.1]; omega
    | ⟨2, _⟩ => show (x 2).val = win0_3.index t 2 * 16384 + 1 * (x 2).val; rw [(idx3 t).2.2]; omega) fun i => by
    have h0 : (i 0 : Nat) < 2 := (i 0).isLt
    have h1 : (i 1 : Nat) < 2048 := (i 1).isLt
    have h2 : (i 2 : Nat) < 16384 := (i 2).isLt
    refine ⟨t0_0, flush0_3 _, ?_⟩
    show i ∈ ((View.whole main_v2_0).slice (win0_3.rect t0_0)).set
    rw [View.set_slice_whole, Rect.mem_set_unit]
    intro a
    match a with
    | ⟨0, _⟩ => show win0_3.index t0_0 0 * 2 ≤ (i 0 : Nat) ∧ (i 0 : Nat) < win0_3.index t0_0 0 * 2 + 2
                rw [(idx3 t0_0).1]; omega
    | ⟨1, _⟩ => show win0_3.index t0_0 1 * 2048 ≤ (i 1 : Nat) ∧ (i 1 : Nat) < win0_3.index t0_0 1 * 2048 + 2048
                rw [(idx3 t0_0).2.1]; omega
    | ⟨2, _⟩ => show win0_3.index t0_0 2 * 16384 ≤ (i 2 : Nat) ∧ (i 2 : Nat) < win0_3.index t0_0 2 * 16384 + 16384
                rw [(idx3 t0_0).2.2]; omega

theorem reg0 : (reg_main_v2_0 m c : Vec Ideal S2x2048x16384 .bf16) = as0 (V m c main_v0) := by
  unfold reg_main_v2_0
  refine final3 m c _ fun t => ?_
  rw [after0_3 m c t]
  refine (out0 _ _ _).trans ?_
  exact congrArg as0 (blk0 m c t)

theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)

theorem idx4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

theorem blk1 (t : Fin cfg0.N) : (iblk m c 1 t : Vec Ideal S2x2048x1024 .fp8e5m2) = V m c main_v1 := by
  funext x
  unfold iblk
  rw [View.read_apply]
  show V m c main_v1 _ = V m c main_v1 _
  refine congrArg (V m c main_v1) (funext fun a => Fin.ext ?_)
  match a with
  | ⟨0, _⟩ => show win0_1.index t 0 * 2 + 1 * (x 0).val = (x 0).val; rw [(idx1 t).1]; omega
  | ⟨1, _⟩ => show win0_1.index t 1 * 2048 + 1 * (x 1).val = (x 1).val; rw [(idx1 t).2.1]; omega
  | ⟨2, _⟩ => show win0_1.index t 2 * 1024 + 1 * (x 2).val = (x 2).val; rw [(idx1 t).2.2]; omega

/-- The same extended reals at the wider type. -/
def as1 (x : Vec Ideal S2x2048x1024 .fp8e5m2) : Vec Ideal S2x2048x1024 .bf16 := fun y => x y

/-- A whole-array cast stored whole is the array itself. -/
theorem out1 (x0 : Vec Ideal S2x2048x16384 .fp8e4m3) (x1 : Vec Ideal S2x2048x1024 .fp8e5m2) (x2 : Vec Ideal S16384x1024 .fp8e4m3) :
    out0_4 x0 x1 x2 = as1 x1 := by
  unfold out0_4
  generalize hp0 : k0_pay2 (View.ld x1 r0_1) = p0
  funext y
  refine View.canon_apply_of_pieces (as1 x1) _ ?_ y (cover0_4 (F := Ideal) p0 y)
  intro p hp
  simp only [List.mem_cons, List.not_mem_nil, or_false] at hp
  rcases hp with rfl
  intro z
  subst hp0
  unfold k0_pay2
  dsimp only
  try rw [shapeCast_self]
  rfl

theorem final4 (G : Vec Ideal S2x2048x1024 .bf16) (h : ∀ t : Fin cfg0.N, ((dats m 0 c).after 4 t : Vec Ideal S2x2048x1024 .bf16) = G) :
    (dats m 0 c).arrAt 4 cfg0.N = (G : Buf (Elt Ideal) ((c : Thread nD τ).loc main_v2_1)) :=
  (dats m 0 c).arrAt_eq_of_cover 4 _ (fun t hf => by
    show (cfg0.win 4).cut (grid0.coords t) ((dats m 0 c).after 4 t) = _
    rw [h t]
    funext x
    rw [View.read_apply]
    refine (congrArg G (funext fun a => Fin.ext ?_) : G x = G _)
    match a with
    | ⟨0, _⟩ => show (x 0).val = win0_4.index t 0 * 2 + 1 * (x 0).val; rw [(idx4 t).1]; omega
    | ⟨1, _⟩ => show (x 1).val = win0_4.index t 1 * 2048 + 1 * (x 1).val; rw [(idx4 t).2.1]; omega
    | ⟨2, _⟩ => show (x 2).val = win0_4.index t 2 * 1024 + 1 * (x 2).val; rw [(idx4 t).2.2]; omega) fun i => by
    have h0 : (i 0 : Nat) < 2 := (i 0).isLt
    have h1 : (i 1 : Nat) < 2048 := (i 1).isLt
    have h2 : (i 2 : Nat) < 1024 := (i 2).isLt
    refine ⟨t0_0, flush0_4 _, ?_⟩
    show i ∈ ((View.whole main_v2_1).slice (win0_4.rect t0_0)).set
    rw [View.set_slice_whole, Rect.mem_set_unit]
    intro a
    match a with
    | ⟨0, _⟩ => show win0_4.index t0_0 0 * 2 ≤ (i 0 : Nat) ∧ (i 0 : Nat) < win0_4.index t0_0 0 * 2 + 2
                rw [(idx4 t0_0).1]; omega
    | ⟨1, _⟩ => show win0_4.index t0_0 1 * 2048 ≤ (i 1 : Nat) ∧ (i 1 : Nat) < win0_4.index t0_0 1 * 2048 + 2048
                rw [(idx4 t0_0).2.1]; omega
    | ⟨2, _⟩ => show win0_4.index t0_0 2 * 1024 ≤ (i 2 : Nat) ∧ (i 2 : Nat) < win0_4.index t0_0 2 * 1024 + 1024
                rw [(idx4 t0_0).2.2]; omega

theorem reg1 : (reg_main_v2_1 m c : Vec Ideal S2x2048x1024 .bf16) = as1 (V m c main_v1) := by
  unfold reg_main_v2_1
  refine final4 m c _ fun t => ?_
  rw [after0_4 m c t]
  refine (out1 _ _ _).trans ?_
  exact congrArg as1 (blk1 m c t)

theorem idx2 : ∀ t : Fin cfg0.N, win0_2.index t 0 = 0 ∧ win0_2.index t 1 = 0 :=
  (by decide +kernel : ∀ t : Fin grid0.N, win0_2.index t 0 = 0 ∧ win0_2.index t 1 = 0)

theorem idx5 : ∀ t : Fin cfg0.N, win0_5.index t 0 = 0 ∧ win0_5.index t 1 = 0 :=
  (by decide +kernel : ∀ t : Fin grid0.N, win0_5.index t 0 = 0 ∧ win0_5.index t 1 = 0)

theorem blk2 (t : Fin cfg0.N) : (iblk m c 2 t : Vec Ideal S16384x1024 .fp8e4m3) = V m c main_arg4 := by
  funext x
  unfold iblk
  rw [View.read_apply]
  show V m c main_arg4 _ = V m c main_arg4 _
  refine congrArg (V m c main_arg4) (funext fun a => Fin.ext ?_)
  match a with
  | ⟨0, _⟩ => show win0_2.index t 0 * 16384 + 1 * (x 0).val = (x 0).val; rw [(idx2 t).1]; omega
  | ⟨1, _⟩ => show win0_2.index t 1 * 1024 + 1 * (x 1).val = (x 1).val; rw [(idx2 t).2]; omega

/-- The same extended reals at the wider type. -/
def as2 (x : Vec Ideal S16384x1024 .fp8e4m3) : Vec Ideal S16384x1024 .bf16 := fun y => x y

/-- A whole-array cast stored whole is the array itself. -/
theorem out2 (x0 : Vec Ideal S2x2048x16384 .fp8e4m3) (x1 : Vec Ideal S2x2048x1024 .fp8e5m2) (x2 : Vec Ideal S16384x1024 .fp8e4m3) :
    out0_5 x0 x1 x2 = as2 x2 := by
  unfold out0_5
  generalize hp0 : k0_pay3 (View.ld x2 r0_2) = p0
  funext y
  refine View.canon_apply_of_pieces (as2 x2) _ ?_ y (cover0_5 (F := Ideal) p0 y)
  intro p hp
  simp only [List.mem_cons, List.not_mem_nil, or_false] at hp
  rcases hp with rfl
  intro z
  subst hp0
  unfold k0_pay3
  dsimp only
  try rw [shapeCast_self]
  rfl

theorem final5 (G : Vec Ideal S16384x1024 .bf16) (h : ∀ t : Fin cfg0.N, ((dats m 0 c).after 5 t : Vec Ideal S16384x1024 .bf16) = G) :
    (dats m 0 c).arrAt 5 cfg0.N = (G : Buf (Elt Ideal) ((c : Thread nD τ).loc main_v2_2)) :=
  (dats m 0 c).arrAt_eq_of_cover 5 _ (fun t hf => by
    show (cfg0.win 5).cut (grid0.coords t) ((dats m 0 c).after 5 t) = _
    rw [h t]
    funext x
    rw [View.read_apply]
    refine (congrArg G (funext fun a => Fin.ext ?_) : G x = G _)
    match a with
    | ⟨0, _⟩ => show (x 0).val = win0_5.index t 0 * 16384 + 1 * (x 0).val; rw [(idx5 t).1]; omega
    | ⟨1, _⟩ => show (x 1).val = win0_5.index t 1 * 1024 + 1 * (x 1).val; rw [(idx5 t).2]; omega) fun i => by
    have h0 : (i 0 : Nat) < 16384 := (i 0).isLt
    have h1 : (i 1 : Nat) < 1024 := (i 1).isLt
    refine ⟨t0_0, flush0_5 _, ?_⟩
    show i ∈ ((View.whole main_v2_2).slice (win0_5.rect t0_0)).set
    rw [View.set_slice_whole, Rect.mem_set_unit]
    intro a
    match a with
    | ⟨0, _⟩ => show win0_5.index t0_0 0 * 16384 ≤ (i 0 : Nat) ∧ (i 0 : Nat) < win0_5.index t0_0 0 * 16384 + 16384
                rw [(idx5 t0_0).1]; omega
    | ⟨1, _⟩ => show win0_5.index t0_0 1 * 1024 ≤ (i 1 : Nat) ∧ (i 1 : Nat) < win0_5.index t0_0 1 * 1024 + 1024
                rw [(idx5 t0_0).2]; omega

theorem reg2 : (reg_main_v2_2 m c : Vec Ideal S16384x1024 .bf16) = as2 (V m c main_arg4) := by
  unfold reg_main_v2_2
  refine final5 m c _ fun t => ?_
  rw [after0_5 m c t]
  refine (out2 _ _ _).trans ?_
  exact congrArg as2 (blk2 m c t)

theorem V_v0 : (V m c main_v0 : Vec Ideal S2x2048x16384 .fp8e4m3) = codesX (m ((c : Thread nD τ).loc main_arg0)) := by
  show StableHlo.after (List.flatten [hostOps0]) _ (Proc.devRef .tc main_v0) = _
  simp only [hostOps0, List.flatten_cons, List.flatten_nil, List.append_nil, List.cons_append, List.nil_append]
  after_results_simp <;> rfl

theorem V_v1 : (V m c main_v1 : Vec Ideal S2x2048x1024 .fp8e5m2) = codesY (m ((c : Thread nD τ).loc main_arg2)) := by
  show StableHlo.after (List.flatten [hostOps0]) _ (Proc.devRef .tc main_v1) = _
  simp only [hostOps0, List.flatten_cons, List.flatten_nil, List.append_nil, List.cons_append, List.nil_append]
  after_results_simp <;> rfl

end Cert.ReferenceIdeal.Value

end
-- ==== Proof.RVal.lean ====
module

public import proofs.«01_k».proof.Proof.RRead
public import proofs.«01_k».proof.Proof.RReg
public import Idealize.ShloMosaic.Lib.Pointwise
public import Idealize.ShloMosaic.Lib.ValueIdx
public import Idealize.ShloMosaic.Lib.ValueLayout
public import Idealize.ShloMosaic.Lib.MatmulPlain
public import Idealize.ShloMosaic.Lib.Pipeline.Value
public import Idealize.ShloMosaic.Lib.Tactic

@[expose] public section

set_option maxRecDepth 16384

noncomputable section

namespace Cert.ReferenceIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen Cert.Lora
open Cert.KernelIdeal.Gen (c2 c2_eq)

variable (m : (ℓ : Loc nD τ sig) → Buf (Elt Ideal) ℓ) (c : Dev nD)

theorem res27 : H27 (reg_main_v2_1 m c) (reg_main_v2_2 m c) (m ((c.tc : Thread nD τ).loc main_arg3)) (m ((c.tc : Thread nD τ).loc main_arg5)) (m ((c.tc : Thread nD τ).loc main_arg6)) (m ((c.tc : Thread nD τ).loc main_arg7)) = RDX (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [reg1 m c, V_v1 m c, reg2 m c, V_main_arg4 m c]
  funext j
  rw [eq_ix3 j]
  exact H27_read _ _ _ _ _ _ (j 0) (j 1) (j 2)

theorem res42 : H42 (reg_main_v2_0 m c) (reg_main_v2_1 m c) (m ((c.tc : Thread nD τ).loc main_arg1)) (m ((c.tc : Thread nD τ).loc main_arg3)) (m ((c.tc : Thread nD τ).loc main_arg7)) = RDA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7)) := by
  rw [reg0 m c, V_v0 m c, reg1 m c, V_v1 m c]
  funext j
  rw [eq_ix2 j]
  exact H42_read _ _ _ _ _ (j 0) (j 1)

theorem res45 : H45 (reg_main_v2_0 m c) (reg_main_v2_1 m c) (m ((c.tc : Thread nD τ).loc main_arg1)) (m ((c.tc : Thread nD τ).loc main_arg3)) (m ((c.tc : Thread nD τ).loc main_arg6)) = RDB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) := by
  rw [reg0 m c, V_v0 m c, reg1 m c, V_v1 m c]
  funext j
  rw [eq_ix2 j]
  exact H45_read _ _ _ _ _ (j 0) (j 1)

theorem res15 : H15 (reg_main_v2_1 m c) (m ((c.tc : Thread nD τ).loc main_arg3)) (m ((c.tc : Thread nD τ).loc main_arg7)) = RT (m ((c.tc : Thread nD τ).loc main_arg2)) (m ((c.tc : Thread nD τ).loc main_arg3)) (m ((c.tc : Thread nD τ).loc main_arg7)) := by
  rw [reg1 m c, V_v1 m c]
  funext j
  rw [eq_ix3 j]
  exact H15_read _ _ _ (j 0) (j 1) (j 2)

theorem res16 : H16 (reg_main_v2_0 m c) (m ((c.tc : Thread nD τ).loc main_arg1)) (m ((c.tc : Thread nD τ).loc main_arg6)) = RXA (m ((c.tc : Thread nD τ).loc main_arg0)) (m ((c.tc : Thread nD τ).loc main_arg1)) (m ((c.tc : Thread nD τ).loc main_arg6)) := by
  rw [reg0 m c, V_v0 m c]
  funext j
  rw [eq_ix3 j]
  exact H16_read _ _ _ (j 0) (j 1) (j 2)

/-- The reference runs and each result is the plain formula of the arguments, which end unchanged. -/
theorem run_val (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = RDX (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v42) = RDA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg7))
      ∧ r.2.mem ((c.tc : Thread nD τ).loc main_v45) = RDB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_v15) = RT (m ((c.tc : Thread nD τ).loc main_arg2)) (m ((c.tc : Thread nD τ).loc main_arg3)) (m ((c.tc : Thread nD τ).loc main_arg7))
      ∧ r.2.mem ((c.tc : Thread nD τ).loc main_v16) = RXA (m ((c.tc : Thread nD τ).loc main_arg0)) (m ((c.tc : Thread nD τ).loc main_arg1)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (res27 m c), (h c).2.1.trans (res42 m c), (h c).2.2.1.trans (res45 m c),
    (h c).2.2.2.1.trans (res15 m c), (h c).2.2.2.2.1.trans (res16 m c), (h c).2.2.2.2.2⟩) (run m ρ)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KRun
public import proofs.«01_k».proof.Proof.OrigRun
public import proofs.«01_k».proof.Proof.RVal
public import Idealize.ShloMosaic.Adequacy
public import Idealize.ShloMosaic.Init

@[expose] public section

noncomputable section

namespace Cert.Proof

open Idealize.ShloMosaic Idealize.SL.Sem Cert.Kernel

/-- The precondition's printed side conditions. -/
theorem preFacts : Cert.Pre_finite.Facts where
  natLt_8_32 := by decide
  bcast_S_S2x2048x16384 := by decide
  bcast_S_S2x2048x512 := by decide
  bcast_S_S2x2048x1024 := by decide
  bcast_S_S2x2048x32 := by decide
  bcast_S_S16384x16 := by decide
  bcast_S_S16x1024 := by decide

/-- The idealized kernel terminates with its arguments unchanged and every semaphore counter back at zero. -/
theorem kernelIdeal_quiescent : Cert.quiescent_KernelIdeal (hKernelIdeal := Cert.KernelIdeal.Gen.facts) := fun m ρ _ =>
  Cert.KernelIdeal.Gen.frame_quiescent m ρ

/-- With finite scales, factors and codes, the idealized kernel and the idealized reference end with the same five results:
    the input gradient, the two factor gradients and the two saved products. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre harg
  haveI := preFacts
  refine ⟨_, _, _, _, _, Cert.KernelIdeal.Gen.run_val m hpre g, ?_⟩
  refine (θ_run _ _ _).mono (fun r h c => ?_) (Cert.ReferenceIdeal.Value.run_val m' g')
  have hc := h c
  obtain ⟨e0, e1, e2, e3, e4, e5, e6, e7⟩ := harg c
  rw [e0, e1, e2, e3, e4, e5, e6, e7] at hc
  rw [e0, e1, e2, e3, e4, e5, e6, e7]
  exact hc

/-- Everything claimed: the frames of the three programs, that idealizing changed nothing of the kernel, and the equality of
    all five results. -/
theorem claim : Cert.Claim := ⟨Cert.Kernel.Gen.facts, Cert.KernelIdeal.Gen.facts, Cert.ReferenceIdeal.Gen.facts, preFacts,
  fun m ρ _ => Cert.Kernel.Gen.frame_quiescent m ρ, kernelIdeal_quiescent, fun m ρ _ => kernelIdeal_quiescent m ρ trivial,
  fun m ρ _ => Cert.ReferenceIdeal.Gen.frame m ρ, fun m ρ _ => Cert.ReferenceIdeal.Gen.frame m ρ, trivial, algebraic⟩

end Cert.Proof

end
